-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_gated_paths_above_minus_infinity [hPre_gated_paths_above_minus_infinity : Cert.Pre_gated_paths_above_minus_infinity.Facts] (m : (ℓ : Loc Cert.MergeIdeal.nD Cert.MergeIdeal.τ Cert.MergeIdeal.sig) → Buf (Elt Ideal) ℓ) : Prop :=
  ∀ c : Dev Cert.MergeIdeal.nD,
    (Cert.Pre_gated_paths_above_minus_infinity.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_gated_paths_above_minus_infinity [hPre_gated_paths_above_minus_infinity : Cert.Pre_gated_paths_above_minus_infinity.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_gated_paths_above_minus_infinity.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10))) = (fun _ => 1#1)

def Pre_Natten (m : (ℓ : Loc Cert.Natten.nD Cert.Natten.τ Cert.Natten.sig) → Buf (Elt Bits) ℓ) : Prop :=
  True

def Pre_NattenIdeal (m : (ℓ : Loc Cert.NattenIdeal.nD Cert.NattenIdeal.τ Cert.NattenIdeal.sig) → Buf (Elt Ideal) ℓ) : Prop :=
  True

def Pre_NattenIdeal_finite_scores [hPre_finite_scores : Cert.Pre_finite_scores.Facts] (m : (ℓ : Loc Cert.NattenIdeal.nD Cert.NattenIdeal.τ Cert.NattenIdeal.sig) → Buf (Elt Ideal) ℓ) : Prop :=
  ∀ c : Dev Cert.NattenIdeal.nD,
    (Cert.Pre_finite_scores.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1)) (m ((c.tc : Thread Cert.NattenIdeal.nD Cert.NattenIdeal.τ).loc Cert.NattenIdeal.main_arg2)) (m ((c.tc : Thread Cert.NattenIdeal.nD Cert.NattenIdeal.τ).loc Cert.NattenIdeal.main_arg3)) (m ((c.tc : Thread Cert.NattenIdeal.nD Cert.NattenIdeal.τ).loc Cert.NattenIdeal.main_arg4))) = (fun _ => 1#1)

def Pre_NattenReferenceIdeal (m : (ℓ : Loc Cert.NattenReferenceIdeal.nD Cert.NattenReferenceIdeal.τ Cert.NattenReferenceIdeal.sig) → Buf (Elt Ideal) ℓ) : Prop :=
  True

def Pre_NattenReferenceIdeal_finite_scores [hPre_finite_scores : Cert.Pre_finite_scores.Facts] (m : (ℓ : Loc Cert.NattenReferenceIdeal.nD Cert.NattenReferenceIdeal.τ Cert.NattenReferenceIdeal.sig) → Buf (Elt Ideal) ℓ) : Prop :=
  ∀ c : Dev Cert.NattenReferenceIdeal.nD,
    (Cert.Pre_finite_scores.fn (F := Ideal) (m ((c.tc : Thread Cert.NattenReferenceIdeal.nD Cert.NattenReferenceIdeal.τ).loc Cert.NattenReferenceIdeal.main_arg0)) (m ((c.tc : Thread Cert.NattenReferenceIdeal.nD Cert.NattenReferenceIdeal.τ).loc Cert.NattenReferenceIdeal.main_arg1)) (m ((c.tc : Thread Cert.NattenReferenceIdeal.nD Cert.NattenReferenceIdeal.τ).loc Cert.NattenReferenceIdeal.main_arg2)) (m ((c.tc : Thread Cert.NattenReferenceIdeal.nD Cert.NattenReferenceIdeal.τ).loc Cert.NattenReferenceIdeal.main_arg3)) (m ((c.tc : Thread Cert.NattenReferenceIdeal.nD Cert.NattenReferenceIdeal.τ).loc Cert.NattenReferenceIdeal.main_arg4))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_gated_paths_above_minus_infinity [hMergeIdeal : Cert.MergeIdeal.Facts] [hPre_gated_paths_above_minus_infinity : Cert.Pre_gated_paths_above_minus_infinity.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_gated_paths_above_minus_infinity m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_MergeReferenceIdeal_pre_gated_paths_above_minus_infinity [hMergeReferenceIdeal : Cert.MergeReferenceIdeal.Facts] [hPre_gated_paths_above_minus_infinity : Cert.Pre_gated_paths_above_minus_infinity.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_gated_paths_above_minus_infinity m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Natten [hNatten : Cert.Natten.Facts] : Prop :=
  ∀ (m : (ℓ : Loc Cert.Natten.nD Cert.Natten.τ Cert.Natten.sig) → Buf (Elt Bits) ℓ) (g : Dev Cert.Natten.nD → PrngReg), Pre_Natten m →
    θ_run (Cert.Natten.defs (F := Bits)) (onTc (τ := Cert.Natten.τ) (Cert.Natten.main (F := Bits))) ⟨m, fun _ => 0, g⟩ (fun r => (∀ c : Dev Cert.Natten.nD,
      r.2.mem ((c.tc : Thread Cert.Natten.nD Cert.Natten.τ).loc Cert.Natten.main_arg0) = m ((c.tc : Thread Cert.Natten.nD Cert.Natten.τ).loc Cert.Natten.main_arg0)
      ∧ r.2.mem ((c.tc : Thread Cert.Natten.nD Cert.Natten.τ).loc Cert.Natten.main_arg1) = m ((c.tc : Thread Cert.Natten.nD Cert.Natten.τ).loc Cert.Natten.main_arg1)
      ∧ r.2.mem ((c.tc : Thread Cert.Natten.nD Cert.Natten.τ).loc Cert.Natten.main_arg2) = m ((c.tc : Thread Cert.Natten.nD Cert.Natten.τ).loc Cert.Natten.main_arg2)
      ∧ r.2.mem ((c.tc : Thread Cert.Natten.nD Cert.Natten.τ).loc Cert.Natten.main_arg3) = m ((c.tc : Thread Cert.Natten.nD Cert.Natten.τ).loc Cert.Natten.main_arg3)
      ∧ r.2.mem ((c.tc : Thread Cert.Natten.nD Cert.Natten.τ).loc Cert.Natten.main_arg4) = m ((c.tc : Thread Cert.Natten.nD Cert.Natten.τ).loc Cert.Natten.main_arg4))
      ∧ r.2.sem = fun _ => 0)

def quiescent_NattenIdeal [hNattenIdeal : Cert.NattenIdeal.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2)
      ∧ r.2.mem ((c.tc : Thread Cert.NattenIdeal.nD Cert.NattenIdeal.τ).loc Cert.NattenIdeal.main_arg3) = m ((c.tc : Thread Cert.NattenIdeal.nD Cert.NattenIdeal.τ).loc Cert.NattenIdeal.main_arg3)
      ∧ r.2.mem ((c.tc : Thread Cert.NattenIdeal.nD Cert.NattenIdeal.τ).loc Cert.NattenIdeal.main_arg4) = m ((c.tc : Thread Cert.NattenIdeal.nD Cert.NattenIdeal.τ).loc Cert.NattenIdeal.main_arg4))
      ∧ r.2.sem = fun _ => 0)

def quiescent_NattenIdeal_pre_finite_scores [hNattenIdeal : Cert.NattenIdeal.Facts] [hPre_finite_scores : Cert.Pre_finite_scores.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal_finite_scores m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2)
      ∧ r.2.mem ((c.tc : Thread Cert.NattenIdeal.nD Cert.NattenIdeal.τ).loc Cert.NattenIdeal.main_arg3) = m ((c.tc : Thread Cert.NattenIdeal.nD Cert.NattenIdeal.τ).loc Cert.NattenIdeal.main_arg3)
      ∧ r.2.mem ((c.tc : Thread Cert.NattenIdeal.nD Cert.NattenIdeal.τ).loc Cert.NattenIdeal.main_arg4) = m ((c.tc : Thread Cert.NattenIdeal.nD Cert.NattenIdeal.τ).loc Cert.NattenIdeal.main_arg4))
      ∧ r.2.sem = fun _ => 0)

def quiescent_NattenReferenceIdeal [hNattenReferenceIdeal : Cert.NattenReferenceIdeal.Facts] : Prop :=
  ∀ (m : (ℓ : Loc Cert.NattenReferenceIdeal.nD Cert.NattenReferenceIdeal.τ Cert.NattenReferenceIdeal.sig) → Buf (Elt Ideal) ℓ) (g : Dev Cert.NattenReferenceIdeal.nD → PrngReg), Pre_NattenReferenceIdeal m →
    θ_run (Cert.NattenReferenceIdeal.defs (F := Ideal)) (onTc (τ := Cert.NattenReferenceIdeal.τ) (Cert.NattenReferenceIdeal.main (F := Ideal))) ⟨m, fun _ => 0, g⟩ (fun r => (∀ c : Dev Cert.NattenReferenceIdeal.nD,
      r.2.mem ((c.tc : Thread Cert.NattenReferenceIdeal.nD Cert.NattenReferenceIdeal.τ).loc Cert.NattenReferenceIdeal.main_arg0) = m ((c.tc : Thread Cert.NattenReferenceIdeal.nD Cert.NattenReferenceIdeal.τ).loc Cert.NattenReferenceIdeal.main_arg0)
      ∧ r.2.mem ((c.tc : Thread Cert.NattenReferenceIdeal.nD Cert.NattenReferenceIdeal.τ).loc Cert.NattenReferenceIdeal.main_arg1) = m ((c.tc : Thread Cert.NattenReferenceIdeal.nD Cert.NattenReferenceIdeal.τ).loc Cert.NattenReferenceIdeal.main_arg1)
      ∧ r.2.mem ((c.tc : Thread Cert.NattenReferenceIdeal.nD Cert.NattenReferenceIdeal.τ).loc Cert.NattenReferenceIdeal.main_arg2) = m ((c.tc : Thread Cert.NattenReferenceIdeal.nD Cert.NattenReferenceIdeal.τ).loc Cert.NattenReferenceIdeal.main_arg2)
      ∧ r.2.mem ((c.tc : Thread Cert.NattenReferenceIdeal.nD Cert.NattenReferenceIdeal.τ).loc Cert.NattenReferenceIdeal.main_arg3) = m ((c.tc : Thread Cert.NattenReferenceIdeal.nD Cert.NattenReferenceIdeal.τ).loc Cert.NattenReferenceIdeal.main_arg3)
      ∧ r.2.mem ((c.tc : Thread Cert.NattenReferenceIdeal.nD Cert.NattenReferenceIdeal.τ).loc Cert.NattenReferenceIdeal.main_arg4) = m ((c.tc : Thread Cert.NattenReferenceIdeal.nD Cert.NattenReferenceIdeal.τ).loc Cert.NattenReferenceIdeal.main_arg4))
      ∧ r.2.sem = fun _ => 0)

def quiescent_NattenReferenceIdeal_pre_finite_scores [hNattenReferenceIdeal : Cert.NattenReferenceIdeal.Facts] [hPre_finite_scores : Cert.Pre_finite_scores.Facts] : Prop :=
  ∀ (m : (ℓ : Loc Cert.NattenReferenceIdeal.nD Cert.NattenReferenceIdeal.τ Cert.NattenReferenceIdeal.sig) → Buf (Elt Ideal) ℓ) (g : Dev Cert.NattenReferenceIdeal.nD → PrngReg), Pre_NattenReferenceIdeal_finite_scores m →
    θ_run (Cert.NattenReferenceIdeal.defs (F := Ideal)) (onTc (τ := Cert.NattenReferenceIdeal.τ) (Cert.NattenReferenceIdeal.main (F := Ideal))) ⟨m, fun _ => 0, g⟩ (fun r => (∀ c : Dev Cert.NattenReferenceIdeal.nD,
      r.2.mem ((c.tc : Thread Cert.NattenReferenceIdeal.nD Cert.NattenReferenceIdeal.τ).loc Cert.NattenReferenceIdeal.main_arg0) = m ((c.tc : Thread Cert.NattenReferenceIdeal.nD Cert.NattenReferenceIdeal.τ).loc Cert.NattenReferenceIdeal.main_arg0)
      ∧ r.2.mem ((c.tc : Thread Cert.NattenReferenceIdeal.nD Cert.NattenReferenceIdeal.τ).loc Cert.NattenReferenceIdeal.main_arg1) = m ((c.tc : Thread Cert.NattenReferenceIdeal.nD Cert.NattenReferenceIdeal.τ).loc Cert.NattenReferenceIdeal.main_arg1)
      ∧ r.2.mem ((c.tc : Thread Cert.NattenReferenceIdeal.nD Cert.NattenReferenceIdeal.τ).loc Cert.NattenReferenceIdeal.main_arg2) = m ((c.tc : Thread Cert.NattenReferenceIdeal.nD Cert.NattenReferenceIdeal.τ).loc Cert.NattenReferenceIdeal.main_arg2)
      ∧ r.2.mem ((c.tc : Thread Cert.NattenReferenceIdeal.nD Cert.NattenReferenceIdeal.τ).loc Cert.NattenReferenceIdeal.main_arg3) = m ((c.tc : Thread Cert.NattenReferenceIdeal.nD Cert.NattenReferenceIdeal.τ).loc Cert.NattenReferenceIdeal.main_arg3)
      ∧ r.2.mem ((c.tc : Thread Cert.NattenReferenceIdeal.nD Cert.NattenReferenceIdeal.τ).loc Cert.NattenReferenceIdeal.main_arg4) = m ((c.tc : Thread Cert.NattenReferenceIdeal.nD Cert.NattenReferenceIdeal.τ).loc Cert.NattenReferenceIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v26) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_Merge_MergeIdeal : Prop :=
  True

def algebraic_MergeIdeal_MergeReferenceIdeal_pre_gated_paths_above_minus_infinity [hMergeIdeal : Cert.MergeIdeal.Facts] [hMergeReferenceIdeal : Cert.MergeReferenceIdeal.Facts] [hPre_gated_paths_above_minus_infinity : Cert.Pre_gated_paths_above_minus_infinity.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_gated_paths_above_minus_infinity m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v92) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Natten_NattenIdeal : Prop :=
  IdealRules.named_const.Statement Cert.NattenIdeal.κ "log2e" .f32 0x3FB8AA3B#32 (((Real.log 2)⁻¹ : ℝ) : EReal)

def algebraic_NattenIdeal_NattenReferenceIdeal_pre_finite_scores [hNattenIdeal : Cert.NattenIdeal.Facts] [hNattenReferenceIdeal : Cert.NattenReferenceIdeal.Facts] [hPre_finite_scores : Cert.Pre_finite_scores.Facts] : Prop :=
  ∀ (m : (ℓ : Loc Cert.NattenIdeal.nD Cert.NattenIdeal.τ Cert.NattenIdeal.sig) → Buf (Elt Ideal) ℓ) (g : Dev Cert.NattenIdeal.nD → PrngReg)
    (m' : (ℓ : Loc Cert.NattenReferenceIdeal.nD Cert.NattenReferenceIdeal.τ Cert.NattenReferenceIdeal.sig) → Buf (Elt Ideal) ℓ) (g' : Dev Cert.NattenReferenceIdeal.nD → PrngReg), Pre_NattenIdeal_finite_scores m →
    (∀ c : Dev Cert.NattenIdeal.nD,
      m' ((c.tc : Thread Cert.NattenReferenceIdeal.nD Cert.NattenReferenceIdeal.τ).loc Cert.NattenReferenceIdeal.main_arg0) = m ((c.tc : Thread Cert.NattenIdeal.nD Cert.NattenIdeal.τ).loc Cert.NattenIdeal.main_arg0)
      ∧ m' ((c.tc : Thread Cert.NattenReferenceIdeal.nD Cert.NattenReferenceIdeal.τ).loc Cert.NattenReferenceIdeal.main_arg1) = m ((c.tc : Thread Cert.NattenIdeal.nD Cert.NattenIdeal.τ).loc Cert.NattenIdeal.main_arg1)
      ∧ m' ((c.tc : Thread Cert.NattenReferenceIdeal.nD Cert.NattenReferenceIdeal.τ).loc Cert.NattenReferenceIdeal.main_arg2) = m ((c.tc : Thread Cert.NattenIdeal.nD Cert.NattenIdeal.τ).loc Cert.NattenIdeal.main_arg2)
      ∧ m' ((c.tc : Thread Cert.NattenReferenceIdeal.nD Cert.NattenReferenceIdeal.τ).loc Cert.NattenReferenceIdeal.main_arg3) = m ((c.tc : Thread Cert.NattenIdeal.nD Cert.NattenIdeal.τ).loc Cert.NattenIdeal.main_arg3)
      ∧ m' ((c.tc : Thread Cert.NattenReferenceIdeal.nD Cert.NattenReferenceIdeal.τ).loc Cert.NattenReferenceIdeal.main_arg4) = m ((c.tc : Thread Cert.NattenIdeal.nD Cert.NattenIdeal.τ).loc Cert.NattenIdeal.main_arg4)) →
    ∃ (v0 : (c : Dev Cert.NattenIdeal.nD) → Buf (Elt Ideal) ((c.tc : Thread Cert.NattenIdeal.nD Cert.NattenIdeal.τ).loc Cert.NattenIdeal.main_v45)),
      θ_run (Cert.NattenIdeal.defs (F := Ideal)) (onTc (τ := Cert.NattenIdeal.τ) (Cert.NattenIdeal.main (F := Ideal))) ⟨m, fun _ => 0, g⟩ (fun r => ∀ c : Dev Cert.NattenIdeal.nD,
          r.2.mem ((c.tc : Thread Cert.NattenIdeal.nD Cert.NattenIdeal.τ).loc Cert.NattenIdeal.main_v45) = v0 c
          ∧ r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
          ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
          ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2)
          ∧ r.2.mem ((c.tc : Thread Cert.NattenIdeal.nD Cert.NattenIdeal.τ).loc Cert.NattenIdeal.main_arg3) = m ((c.tc : Thread Cert.NattenIdeal.nD Cert.NattenIdeal.τ).loc Cert.NattenIdeal.main_arg3)
          ∧ r.2.mem ((c.tc : Thread Cert.NattenIdeal.nD Cert.NattenIdeal.τ).loc Cert.NattenIdeal.main_arg4) = m ((c.tc : Thread Cert.NattenIdeal.nD Cert.NattenIdeal.τ).loc Cert.NattenIdeal.main_arg4))
      ∧ θ_run (Cert.NattenReferenceIdeal.defs (F := Ideal)) (onTc (τ := Cert.NattenReferenceIdeal.τ) (Cert.NattenReferenceIdeal.main (F := Ideal))) ⟨m', fun _ => 0, g'⟩ (fun r => ∀ c : Dev Cert.NattenReferenceIdeal.nD,
          r.2.mem ((c.tc : Thread Cert.NattenReferenceIdeal.nD Cert.NattenReferenceIdeal.τ).loc Cert.NattenReferenceIdeal.main_v93) = v0 c
          ∧ r.2.mem ((c.tc : Thread Cert.NattenReferenceIdeal.nD Cert.NattenReferenceIdeal.τ).loc Cert.NattenReferenceIdeal.main_arg0) = m' ((c.tc : Thread Cert.NattenReferenceIdeal.nD Cert.NattenReferenceIdeal.τ).loc Cert.NattenReferenceIdeal.main_arg0)
          ∧ r.2.mem ((c.tc : Thread Cert.NattenReferenceIdeal.nD Cert.NattenReferenceIdeal.τ).loc Cert.NattenReferenceIdeal.main_arg1) = m' ((c.tc : Thread Cert.NattenReferenceIdeal.nD Cert.NattenReferenceIdeal.τ).loc Cert.NattenReferenceIdeal.main_arg1)
          ∧ r.2.mem ((c.tc : Thread Cert.NattenReferenceIdeal.nD Cert.NattenReferenceIdeal.τ).loc Cert.NattenReferenceIdeal.main_arg2) = m' ((c.tc : Thread Cert.NattenReferenceIdeal.nD Cert.NattenReferenceIdeal.τ).loc Cert.NattenReferenceIdeal.main_arg2)
          ∧ r.2.mem ((c.tc : Thread Cert.NattenReferenceIdeal.nD Cert.NattenReferenceIdeal.τ).loc Cert.NattenReferenceIdeal.main_arg3) = m' ((c.tc : Thread Cert.NattenReferenceIdeal.nD Cert.NattenReferenceIdeal.τ).loc Cert.NattenReferenceIdeal.main_arg3)
          ∧ r.2.mem ((c.tc : Thread Cert.NattenReferenceIdeal.nD Cert.NattenReferenceIdeal.τ).loc Cert.NattenReferenceIdeal.main_arg4) = m' ((c.tc : Thread Cert.NattenReferenceIdeal.nD Cert.NattenReferenceIdeal.τ).loc Cert.NattenReferenceIdeal.main_arg4))

def preserves_Rope_RopeIdeal : Prop :=
  IdealRules.named_const.Statement Cert.RopeIdeal.κ "scale_log2e" .f32 0x3E38AA3B#32 (((8 * (Real.log 2))⁻¹ : ℝ) : EReal)

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v28_0)) (v1 : (c : Dev Cert.RopeIdeal.nD) → Buf (Elt Ideal) ((c.tc : Thread Cert.RopeIdeal.nD Cert.RopeIdeal.τ).loc Cert.RopeIdeal.main_v28_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v28_0) = v0 c
          ∧ r.2.mem ((c.tc : Thread Cert.RopeIdeal.nD Cert.RopeIdeal.τ).loc Cert.RopeIdeal.main_v28_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v118) = v0 c
          ∧ r.2.mem ((c.tc : Thread Cert.RopeReferenceIdeal.nD Cert.RopeReferenceIdeal.τ).loc Cert.RopeReferenceIdeal.main_v121) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def Claim : Prop :=
  ∃ (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hNatten : Cert.Natten.Facts) (hNattenIdeal : Cert.NattenIdeal.Facts) (hNattenReferenceIdeal : Cert.NattenReferenceIdeal.Facts) (hRope : Cert.Rope.Facts) (hRopeIdeal : Cert.RopeIdeal.Facts) (hRopeReferenceIdeal : Cert.RopeReferenceIdeal.Facts) (hPre_gated_paths_above_minus_infinity : Cert.Pre_gated_paths_above_minus_infinity.Facts) (hPre_finite_scores : Cert.Pre_finite_scores.Facts),
    quiescent_Inproj (hInproj := hInproj)
    ∧ quiescent_InprojIdeal (hInprojIdeal := hInprojIdeal)
    ∧ quiescent_InprojReferenceIdeal (hInprojReferenceIdeal := hInprojReferenceIdeal)
    ∧ quiescent_Merge (hMerge := hMerge)
    ∧ quiescent_MergeIdeal (hMergeIdeal := hMergeIdeal)
    ∧ quiescent_MergeIdeal_pre_gated_paths_above_minus_infinity (hMergeIdeal := hMergeIdeal) (hPre_gated_paths_above_minus_infinity := hPre_gated_paths_above_minus_infinity)
    ∧ quiescent_MergeReferenceIdeal (hMergeReferenceIdeal := hMergeReferenceIdeal)
    ∧ quiescent_MergeReferenceIdeal_pre_gated_paths_above_minus_infinity (hMergeReferenceIdeal := hMergeReferenceIdeal) (hPre_gated_paths_above_minus_infinity := hPre_gated_paths_above_minus_infinity)
    ∧ quiescent_Natten (hNatten := hNatten)
    ∧ quiescent_NattenIdeal (hNattenIdeal := hNattenIdeal)
    ∧ quiescent_NattenIdeal_pre_finite_scores (hNattenIdeal := hNattenIdeal) (hPre_finite_scores := hPre_finite_scores)
    ∧ quiescent_NattenReferenceIdeal (hNattenReferenceIdeal := hNattenReferenceIdeal)
    ∧ quiescent_NattenReferenceIdeal_pre_finite_scores (hNattenReferenceIdeal := hNattenReferenceIdeal) (hPre_finite_scores := hPre_finite_scores)
    ∧ quiescent_Rope (hRope := hRope)
    ∧ quiescent_RopeIdeal (hRopeIdeal := hRopeIdeal)
    ∧ quiescent_RopeReferenceIdeal (hRopeReferenceIdeal := hRopeReferenceIdeal)
    ∧ preserves_Inproj_InprojIdeal
    ∧ algebraic_InprojIdeal_InprojReferenceIdeal (hInprojIdeal := hInprojIdeal) (hInprojReferenceIdeal := hInprojReferenceIdeal)
    ∧ preserves_Merge_MergeIdeal
    ∧ algebraic_MergeIdeal_MergeReferenceIdeal_pre_gated_paths_above_minus_infinity (hMergeIdeal := hMergeIdeal) (hMergeReferenceIdeal := hMergeReferenceIdeal) (hPre_gated_paths_above_minus_infinity := hPre_gated_paths_above_minus_infinity)
    ∧ preserves_Natten_NattenIdeal
    ∧ algebraic_NattenIdeal_NattenReferenceIdeal_pre_finite_scores (hNattenIdeal := hNattenIdeal) (hNattenReferenceIdeal := hNattenReferenceIdeal) (hPre_finite_scores := hPre_finite_scores)
    ∧ preserves_Rope_RopeIdeal
    ∧ algebraic_RopeIdeal_RopeReferenceIdeal (hRopeIdeal := hRopeIdeal) (hRopeReferenceIdeal := hRopeReferenceIdeal)
-- ==== Pre_finite_scores.lean ====
abbrev S2x16384x512 : Shape := ⟨3, ![2, 16384, 512]⟩
abbrev S2x128x512x128 : Shape := ⟨4, ![2, 128, 512, 128]⟩
abbrev S2x16384x8192 : Shape := ⟨3, ![2, 16384, 8192]⟩
abbrev S2x256x8192 : Shape := ⟨3, ![2, 256, 8192]⟩
abbrev S8x15x31 : Shape := ⟨3, ![8, 15, 31]⟩
abbrev S_ : Shape := ⟨0, ![]⟩
abbrev S2x256x512 : Shape := ⟨3, ![2, 256, 512]⟩

class Facts : Prop where
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x128x512x128 : S_.BroadcastsInDim S2x128x512x128 (![] : Fin 0 → Fin S2x128x512x128.rank)
  reducesTo_S2x128x512x128_S_d0_1_2_3 : S2x128x512x128.ReducesTo [0, 1, 2, 3] S_
  slices_S2x256x8192_S2x256x512_0_0_1536 : S2x256x8192.Slices ![0, 0, 1536] S2x256x512
  bcast_S_S2x256x512 : S_.BroadcastsInDim S2x256x512 (![] : Fin 0 → Fin S2x256x512.rank)
  reducesTo_S2x256x512_S_d0_1_2 : S2x256x512.ReducesTo [0, 1, 2] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_arg4 : FVec F S8x15x31 .f32) (main_v14 : IVec S_ 1) (main_v16 : FVec F S2x256x512 .f32) (main_cst_4 : FVec F S_ .f32) : IVec S_ 1 :=
  let main_v17 : FVec F S2x256x512 .f32 := broadcastInDim S2x256x512 ![] bcast_S_S2x256x512 main_cst_4
  let main_v18 : IVec S2x256x512 1 := cmpf .ogt main_v16 main_v17
  let main_cst_5 : FVec F S_ .f32 := constant S_ .f32 0x7F800000#32
  let main_v19 : FVec F S2x256x512 .f32 := broadcastInDim S2x256x512 ![] bcast_S_S2x256x512 main_cst_5
  let main_v20 : IVec S2x256x512 1 := cmpf .olt main_v16 main_v19
  let main_v21 : IVec S2x256x512 1 := andi main_v18 main_v20
  let main_c_6 : IVec S_ 1 := constantI S_ 1 1#1
  let main_v22 : IVec S_ 1 := (fun x v => Host.reduce IntOp.andi x v reducesTo_S2x256x512_S_d0_1_2 h_S_) main_v21 main_c_6
  let main_v23 : IVec S_ 1 := andi main_v14 main_v22
  let main_cst_7 : FVec F S_ .f32 := constant S_ .f32 0xFF800000#32
  let main_v24 : FVec F S8x15x31 .f32 := broadcastInDim S8x15x31 ![] bcast_S_S8x15x31 main_cst_7
  let main_v25 : IVec S8x15x31 1 := cmpf .ogt main_arg4 main_v24
  let main_cst_8 : FVec F S_ .f32 := constant S_ .f32 0x7F800000#32
  let main_v26 : FVec F S8x15x31 .f32 := broadcastInDim S8x15x31 ![] bcast_S_S8x15x31 main_cst_8
  let main_v27 : IVec S8x15x31 1 := cmpf .olt main_arg4 main_v26
  let main_v28 : IVec S8x15x31 1 := andi main_v25 main_v27
  let main_c_9 : IVec S_ 1 := constantI S_ 1 1#1
  let main_v29 : IVec S_ 1 := (fun x v => Host.reduce IntOp.andi x v reducesTo_S8x15x31_S_d0_1_2 h_S_) main_v28 main_c_9
  let main_v30 : IVec S_ 1 := andi main_v23 main_v29
  main_v30

def fn {F : FTy → Type} [FloatOps F] (main_arg0 : FVec F S2x16384x512 .bf16) (main_arg1 : FVec F S2x128x512x128 .bf16) (main_arg2 : FVec F S2x16384x8192 .bf16) (main_arg3 : FVec F S2x256x8192 .bf16) (main_arg4 : FVec F S8x15x31 .f32) : IVec S_ 1 :=
  let main_v0 : FVec F S2x16384x512 .f32 := (extf .f32 · bitsLt_bf16_f32) main_arg0
  let main_cst : FVec F S_ .f32 := constant S_ .f32 0xFF800000#32
  let main_v1 : FVec F S2x16384x512 .f32 := broadcastInDim S2x16384x512 ![] bcast_S_S2x16384x512 main_cst
  let main_v2 : IVec S2x16384x512 1 := cmpf .ogt main_v0 main_v1
  let main_cst_0 : FVec F S_ .f32 := constant S_ .f32 0x7F800000#32
  let main_v3 : FVec F S2x16384x512 .f32 := broadcastInDim S2x16384x512 ![] bcast_S_S2x16384x512 main_cst_0
  let main_v4 : IVec S2x16384x512 1 := cmpf .olt main_v0 main_v3
  let main_v5 : IVec S2x16384x512 1 := andi main_v2 main_v4
  let main_c : IVec S_ 1 := constantI S_ 1 1#1
  let main_v6 : IVec S_ 1 := (fun x v => Host.reduce IntOp.andi x v reducesTo_S2x16384x512_S_d0_1_2 h_S_) main_v5 main_c
  let main_v7 : FVec F S2x128x512x128 .f32 := (extf .f32 · bitsLt_bf16_f32) main_arg1
  let main_cst_1 : FVec F S_ .f32 := constant S_ .f32 0xFF800000#32
  let main_v8 : FVec F S2x128x512x128 .f32 := broadcastInDim S2x128x512x128 ![] bcast_S_S2x128x512x128 main_cst_1
  let main_v9 : IVec S2x128x512x128 1 := cmpf .ogt main_v7 main_v8
  let main_cst_2 : FVec F S_ .f32 := constant S_ .f32 0x7F800000#32
  let main_v10 : FVec F S2x128x512x128 .f32 := broadcastInDim S2x128x512x128 ![] bcast_S_S2x128x512x128 main_cst_2
  let main_v11 : IVec S2x128x512x128 1 := cmpf .olt main_v7 main_v10
  let main_v12 : IVec S2x128x512x128 1 := andi main_v9 main_v11
  let main_c_3 : IVec S_ 1 := constantI S_ 1 1#1
  let main_v13 : IVec S_ 1 := (fun x v => Host.reduce IntOp.andi x v reducesTo_S2x128x512x128_S_d0_1_2_3 h_S_) main_v12 main_c_3
  let main_v14 : IVec S_ 1 := andi main_v6 main_v13
  let main_v15 : FVec F S2x256x512 .bf16 := (extractStridedSlice S2x256x512 ![0, 0, 1536] · slices_S2x256x8192_S2x256x512_0_0_1536) main_arg3
  let main_v16 : FVec F S2x256x512 .f32 := (extf .f32 · bitsLt_bf16_f32) main_v15
  let main_cst_4 : FVec F S_ .f32 := constant S_ .f32 0xFF800000#32
  fn_part1 (F := F) main_arg4 main_v14 main_v16 main_cst_4
-- ==== Pre_gated_paths_above_minus_infinity.lean ====
abbrev S2x16384x1024 : Shape := ⟨3, ![2, 16384, 1024]⟩
abbrev S2x16384x512 : Shape := ⟨3, ![2, 16384, 512]⟩
abbrev S2x16384x8192 : Shape := ⟨3, ![2, 16384, 8192]⟩
abbrev S8x3072 : Shape := ⟨2, ![8, 3072]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S_ : Shape := ⟨0, ![]⟩

class Facts : Prop where
  slices_S2x16384x8192_S2x16384x512_0_0_512 : S2x16384x8192.Slices ![0, 0, 512] S2x16384x512
  bitsLt_bf16_f32 : FTy.bits .bf16 < FTy.bits .f32
  slices_S2x16384x8192_S2x16384x512_0_0_2560 : S2x16384x8192.Slices ![0, 0, 2560] S2x16384x512
  slices_S2x16384x8192_S2x16384x512_0_0_4608 : S2x16384x8192.Slices ![0, 0, 4608] S2x16384x512
  bcast_S_S2x16384x512 : S_.BroadcastsInDim S2x16384x512 (![] : Fin 0 → Fin S2x16384x512.rank)

variable [Facts]

def fn {F : FTy → Type} [FloatOps F] (main_arg0 : FVec F S2x16384x1024 .f32) (main_arg1 : FVec F S2x16384x512 .bf16) (main_arg2 : FVec F S2x16384x512 .bf16) (main_arg3 : FVec F S2x16384x512 .bf16) (main_arg4 : FVec F S2x16384x8192 .bf16) (main_arg5 : FVec F S8x3072 .f32) (main_arg6 : FVec F S512x1024 .f32) (main_arg7 : FVec F S1024 .f32) (main_arg8 : FVec F S3x512x1024 .f32) (main_arg9 : FVec F S1024x1024 .f32) (main_arg10 : FVec F S1024 .f32) : IVec S2x16384x512 1 :=
  let main_v0 : FVec F S2x16384x512 .bf16 := (extractStridedSlice S2x16384x512 ![0, 0, 512] · slices_S2x16384x8192_S2x16384x512_0_0_512) main_arg4
  let main_v1 : FVec F S2x16384x512 .f32 := (extf .f32 · bitsLt_bf16_f32) main_v0
  let main_v2 : FVec F S2x16384x512 .bf16 := (extractStridedSlice S2x16384x512 ![0, 0, 2560] · slices_S2x16384x8192_S2x16384x512_0_0_2560) main_arg4
  let main_v3 : FVec F S2x16384x512 .f32 := (extf .f32 · bitsLt_bf16_f32) main_v2
  let main_v4 : FVec F S2x16384x512 .bf16 := (extractStridedSlice S2x16384x512 ![0, 0, 4608] · slices_S2x16384x8192_S2x16384x512_0_0_4608) main_arg4
  let main_v5 : FVec F S2x16384x512 .f32 := (extf .f32 · bitsLt_bf16_f32) main_v4
  let main_cst : FVec F S_ .f32 := constant S_ .f32 0xFF800000#32
  let main_v6 : FVec F S2x16384x512 .f32 := broadcastInDim S2x16384x512 ![] bcast_S_S2x16384x512 main_cst
  let main_v7 : IVec S2x16384x512 1 := cmpf .ogt main_v1 main_v6
  let main_cst_0 : FVec F S_ .f32 := constant S_ .f32 0xFF800000#32
  let main_v8 : FVec F S2x16384x512 .f32 := broadcastInDim S2x16384x512 ![] bcast_S_S2x16384x512 main_cst_0
  let main_v9 : IVec S2x16384x512 1 := cmpf .ogt main_v3 main_v8
  let main_v10 : IVec S2x16384x512 1 := andi main_v7 main_v9
  let main_cst_1 : FVec F S_ .f32 := constant S_ .f32 0xFF800000#32
  let main_v11 : FVec F S2x16384x512 .f32 := broadcastInDim S2x16384x512 ![] bcast_S_S2x16384x512 main_cst_1
  let main_v12 : IVec S2x16384x512 1 := cmpf .ogt main_v5 main_v11
  let main_v13 : IVec S2x16384x512 1 := andi main_v10 main_v12
  main_v13
-- ==== Inproj.lean ====
abbrev S2x16384x1024 : Shape := ⟨3, ![2, 16384, 1024]⟩
abbrev S8x3072 : Shape := ⟨2, ![8, 3072]⟩
abbrev S1024 : Shape := ⟨1, ![1024]⟩
abbrev S1024x8192 : Shape := ⟨2, ![1024, 8192]⟩
abbrev S1x1024 : Shape := ⟨2, ![1, 1024]⟩
abbrev S2x16384x8192 : Shape := ⟨3, ![2, 16384, 8192]⟩
abbrev S1x1024x1024 : Shape := ⟨3, ![1, 1024, 1024]⟩
abbrev S1024x2048 : Shape := ⟨2, ![1024, 2048]⟩
abbrev S1x1024x2048 : Shape := ⟨3, ![1, 1024, 2048]⟩
abbrev S1024x1024 : Shape := ⟨2, ![1024, 1024]⟩
abbrev S1024x1 : Shape := ⟨2, ![1024, 1]⟩
abbrev S1x3072 : Shape := ⟨2, ![1, 3072]⟩

abbrev nBuf : Space → Nat
  | .hbm => 6
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S8x3072, .f32⟩
  | .hbm, ⟨2, _⟩ => ⟨S1024, .f32⟩
  | .hbm, ⟨3, _⟩ => ⟨S1024x8192, .bf16⟩
  | .hbm, ⟨4, _⟩ => ⟨S1x1024, .f32⟩
  | .hbm, ⟨5, _⟩ => ⟨S2x16384x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S8x3072, .f32⟩
  | .local _ .vmem, ⟨3, _⟩ => ⟨S1x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 16, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v26 : Index := Scalar.indexCast arg0
  let c0_15 : Index := 0#32
  ![v26.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InprojReferenceIdeal.lean ====
abbrev S2x16384x1024 : Shape := ⟨3, ![2, 16384, 1024]⟩
abbrev S8x3072 : Shape := ⟨2, ![8, 3072]⟩
abbrev S1024 : Shape := ⟨1, ![1024]⟩
abbrev S1024x8192 : Shape := ⟨2, ![1024, 8192]⟩
abbrev S2x3072 : Shape := ⟨2, ![2, 3072]⟩
abbrev S2x1x3072 : Shape := ⟨3, ![2, 1, 3072]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x8192 : Shape := ⟨3, ![2, 16384, 8192]⟩

abbrev nBuf : Space → Nat
  | .hbm => 35
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S8x3072, .f32⟩
  | .hbm, ⟨2, _⟩ => ⟨S1024, .f32⟩
  | .hbm, ⟨3, _⟩ => ⟨S1024x8192, .bf16⟩
  | .hbm, ⟨4, _⟩ => ⟨S2x3072, .f32⟩
  | .hbm, ⟨5, _⟩ => ⟨S2x1x3072, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S1024x8192, .f32⟩
  | .hbm, ⟨33, _⟩ => ⟨S2x16384x8192, .f32⟩
  | .hbm, ⟨34, _⟩ => ⟨S2x16384x8192, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Merge.lean ====
abbrev S2x16384x1024 : Shape := ⟨3, ![2, 16384, 1024]⟩
abbrev S2x16384x512 : Shape := ⟨3, ![2, 16384, 512]⟩
abbrev S2x16384x8192 : Shape := ⟨3, ![2, 16384, 8192]⟩
abbrev S8x3072 : Shape := ⟨2, ![8, 3072]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S_ : Shape := ⟨0, ![]⟩
abbrev S1x1024 : Shape := ⟨2, ![1, 1024]⟩
abbrev S1x512x1024 : Shape := ⟨3, ![1, 512, 1024]⟩
abbrev S1x512x512 : Shape := ⟨3, ![1, 512, 512]⟩
abbrev S512x512 : Shape := ⟨2, ![512, 512]⟩
abbrev S1x3072 : Shape := ⟨2, ![1, 3072]⟩
abbrev S512 : Shape := ⟨1, ![512]⟩
abbrev S512x1 : Shape := ⟨2, ![512, 1]⟩

abbrev nBuf : Space → Nat
  | .hbm => 26
  | .vmem => 28
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S2x16384x8192, .bf16⟩
  | .hbm, ⟨5, _⟩ => ⟨S8x3072, .f32⟩
  | .hbm, ⟨6, _⟩ => ⟨S512x1024, .f32⟩
  | .hbm, ⟨7, _⟩ => ⟨S1024, .f32⟩
  | .hbm, ⟨8, _⟩ => ⟨S3x512x1024, .f32⟩
  | .hbm, ⟨9, _⟩ => ⟨S1024x1024, .f32⟩
  | .hbm, ⟨10, _⟩ => ⟨S1024, .f32⟩
  | .hbm, ⟨11, _⟩ => ⟨S_, .f32⟩
  | .hbm, ⟨12, _⟩ => ⟨S3x512x1024, .f32⟩
  | .hbm, ⟨13, _⟩ => ⟨S3x512x1024, .f32⟩
  | .hbm, ⟨14, _⟩ => ⟨S3x512x1024, .bf16⟩
  | .hbm, ⟨15, _⟩ => ⟨S1024x1024, .bf16⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .bf16⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S8x3072, .f32⟩
  | .local _ .vmem, ⟨21, _⟩ => ⟨S512x1024, .bf16⟩
  | .local _ .vmem, ⟨22, _⟩ => ⟨S1x1024, .f32⟩
  | .local _ .vmem, ⟨23, _⟩ => ⟨S3x512x1024, .bf16⟩
  | .local _ .vmem, ⟨24, _⟩ => ⟨S1024x1024, .bf16⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg0 : BitVec 32 := BitVec.ofNat 32 (i 0).val
  let v89 : Index := Scalar.indexCast arg0
  let c0_51 : Index := 0#32
  ![v89.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MergeReferenceIdeal.lean ====
abbrev S2x16384x1024 : Shape := ⟨3, ![2, 16384, 1024]⟩
abbrev S2x16384x512 : Shape := ⟨3, ![2, 16384, 512]⟩
abbrev S2x16384x8192 : Shape := ⟨3, ![2, 16384, 8192]⟩
abbrev S8x3072 : Shape := ⟨2, ![8, 3072]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S_ : Shape := ⟨0, ![]⟩
abbrev S1x1x1024 : Shape := ⟨3, ![1, 1, 1024]⟩
abbrev S2x16384x3072 : Shape := ⟨3, ![2, 16384, 3072]⟩
abbrev S1x512x1024 : Shape := ⟨3, ![1, 512, 1024]⟩
abbrev S2x3072 : Shape := ⟨2, ![2, 3072]⟩
abbrev S2x1x3072 : Shape := ⟨3, ![2, 1, 3072]⟩
abbrev S2x1x1024 : Shape := ⟨3, ![2, 1, 1024]⟩
abbrev S2x16384 : Shape := ⟨2, ![2, 16384]⟩
abbrev S2x16384x1 : Shape := ⟨3, ![2, 16384, 1]⟩

abbrev nBuf : Space → Nat
  | .hbm => 143
  | .vmem => 0
  | .smem => 0
  | _ => 0

abbrev hbmTy0_0 (i : Nat) : BufTy := match i % 128 with
  | 0 => ⟨S2x16384x1024, .f32⟩
  | 1 => ⟨S2x16384x512, .bf16⟩
  | 2 => ⟨S2x16384x512, .bf16⟩
  | 3 => ⟨S2x16384x512, .bf16⟩
  | 4 => ⟨S2x16384x8192, .bf16⟩
  | 5 => ⟨S8x3072, .f32⟩
  | 6 => ⟨S512x1024, .f32⟩
  | 7 => ⟨S1024, .f32⟩
  | 8 => ⟨S3x512x1024, .f32⟩
  | 9 => ⟨S1024x1024, .f32⟩
  | 10 => ⟨S1024, .f32⟩
  | 11 => ⟨S2x16384x512, .f32⟩
  | 12 => ⟨S2x16384x512, .f32⟩
  | 13 => ⟨S2x16384x512, .f32⟩
  | 14 => ⟨S2x16384x8192, .f32⟩
  | 15 => ⟨S2x16384x512, .f32⟩
  | 16 => ⟨S2x16384x512, .f32⟩
  | 17 => ⟨S_, .f32⟩
  | 18 => ⟨S2x16384x512, .f32⟩
  | 19 => ⟨S2x16384x512, .f32⟩
  | 20 => ⟨S2x16384x512, .f32⟩
  | 21 => ⟨S_, .f32⟩
  | 22 => ⟨S2x16384x512, .f32⟩
  | 23 => ⟨S2x16384x512, .f32⟩
  | 24 => ⟨S2x16384x512, .f32⟩
  | 25 => ⟨S_, .f32⟩
  | 26 => ⟨S2x16384x512, .f32⟩
  | 27 => ⟨S2x16384x512, .f32⟩
  | 28 => ⟨S_, .f32⟩
  | 29 => ⟨S2x16384x512, .f32⟩
  | 30 => ⟨S2x16384x512, .f32⟩
  | 31 => ⟨S2x16384x512, .f32⟩
  | 32 => ⟨S2x16384x1024, .f32⟩
  | 33 => ⟨S1x1x1024, .f32⟩
  | 34 => ⟨S2x16384x1024, .f32⟩
  | 35 => ⟨S2x16384x1024, .f32⟩
  | 36 => ⟨S2x16384x512, .f32⟩
  | 37 => ⟨S2x16384x512, .f32⟩
  | 38 => ⟨S2x16384x512, .f32⟩
  | 39 => ⟨S2x16384x512, .f32⟩
  | 40 => ⟨S_, .f32⟩
  | 41 => ⟨S2x16384x512, .f32⟩
  | 42 => ⟨S2x16384x512, .f32⟩
  | 43 => ⟨S_, .f32⟩
  | 44 => ⟨S2x16384x512, .f32⟩
  | 45 => ⟨S2x16384x512, .f32⟩
  | 46 => ⟨S2x16384x512, .f32⟩
  | 47 => ⟨S2x16384x512, .f32⟩
  | 48 => ⟨S_, .f32⟩
  | 49 => ⟨S2x16384x512, .f32⟩
  | 50 => ⟨S2x16384x512, .f32⟩
  | 51 => ⟨S2x16384x512, .f32⟩
  | 52 => ⟨S_, .f32⟩
  | 53 => ⟨S2x16384x512, .f32⟩
  | 54 => ⟨S2x16384x512, .f32⟩
  | 55 => ⟨S2x16384x512, .f32⟩
  | 56 => ⟨S_, .f32⟩
  | 57 => ⟨S2x16384x512, .f32⟩
  | 58 => ⟨S2x16384x512, .f32⟩
  | 59 => ⟨S2x16384x3072, .f32⟩
  | 60 => ⟨S_, .f32⟩
  | 61 => ⟨S2x16384x3072, .f32⟩
  | 62 => ⟨S2x16384x3072, .f32⟩
  | 63 => ⟨S2x16384x3072, .f32⟩
  | 64 => ⟨S2x16384x3072, .f32⟩
  | 65 => ⟨S_, .f32⟩
  | 66 => ⟨S2x16384x3072, .f32⟩
  | 67 => ⟨S2x16384x3072, .f32⟩
  | 68 => ⟨S_, .f32⟩
  | 69 => ⟨S2x16384x3072, .f32⟩
  | 70 => ⟨S2x16384x3072, .f32⟩
  | 71 => ⟨S2x16384x1024, .f32⟩
  | 72 => ⟨S2x16384x1024, .f32⟩
  | 73 => ⟨S2x16384x1024, .f32⟩
  | 74 => ⟨S2x16384x512, .f32⟩
  | 75 => ⟨S2x16384x512, .f32⟩
  | 76 => ⟨S_, .f32⟩
  | 77 => ⟨S2x16384x512, .f32⟩
  | 78 => ⟨S2x16384x512, .f32⟩
  | 79 => ⟨S_, .f32⟩
  | 80 => ⟨S2x16384x512, .f32⟩
  | 81 => ⟨S2x16384x512, .f32⟩
  | 82 => ⟨S2x16384x512, .f32⟩
  | 83 => ⟨S2x16384x512, .f32⟩
  | 84 => ⟨S1x512x1024, .f32⟩
  | 85 => ⟨S512x1024, .f32⟩
  | 86 => ⟨S2x16384x1024, .f32⟩
  | 87 => ⟨S2x16384x1024, .f32⟩
  | 88 => ⟨S2x16384x512, .f32⟩
  | 89 => ⟨S2x16384x512, .f32⟩
  | 90 => ⟨S_, .f32⟩
  | 91 => ⟨S2x16384x512, .f32⟩
  | 92 => ⟨S2x16384x512, .f32⟩
  | 93 => ⟨S_, .f32⟩
  | 94 => ⟨S2x16384x512, .f32⟩
  | 95 => ⟨S2x16384x512, .f32⟩
  | 96 => ⟨S2x16384x512, .f32⟩
  | 97 => ⟨S2x16384x512, .f32⟩
  | 98 => ⟨S1x512x1024, .f32⟩
  | 99 => ⟨S512x1024, .f32⟩
  | 100 => ⟨S2x16384x1024, .f32⟩
  | 101 => ⟨S2x16384x1024, .f32⟩
  | 102 => ⟨S2x16384x1024, .f32⟩
  | 103 => ⟨S2x16384x512, .f32⟩
  | 104 => ⟨S2x16384x512, .f32⟩
  | 105 => ⟨S_, .f32⟩
  | 106 => ⟨S2x16384x512, .f32⟩
  | 107 => ⟨S2x16384x512, .f32⟩
  | 108 => ⟨S_, .f32⟩
  | 109 => ⟨S2x16384x512, .f32⟩
  | 110 => ⟨S2x16384x512, .f32⟩
  | 111 => ⟨S2x16384x512, .f32⟩
  | 112 => ⟨S2x16384x512, .f32⟩
  | 113 => ⟨S1x512x1024, .f32⟩
  | 114 => ⟨S512x1024, .f32⟩
  | 115 => ⟨S2x16384x1024, .f32⟩
  | 116 => ⟨S2x16384x1024, .f32⟩
  | 117 => ⟨S2x16384x1024, .f32⟩
  | 118 => ⟨S2x16384x1024, .f32⟩
  | 119 => ⟨S2x3072, .f32⟩
  | 120 => ⟨S2x1x3072, .f32⟩
  | 121 => ⟨S2x1x1024, .f32⟩
  | 122 => ⟨S2x1x1024, .f32⟩
  | 123 => ⟨S2x1x1024, .f32⟩
  | 124 => ⟨S2x16384x1024, .f32⟩
  | 125 => ⟨S2x16384x1024, .f32⟩
  | 126 => ⟨S2x16384x1024, .f32⟩
  | 127 => ⟨S2x16384x1024, .f32⟩
  | _ => ⟨S2x16384x1024, .f32⟩

abbrev hbmTy0_1 (i : Nat) : BufTy := match i % 128 with
  | 0 => ⟨S_, .f32⟩
  | 1 => ⟨S2x16384, .f32⟩
  | 2 => ⟨S2x16384x1, .f32⟩
  | 3 => ⟨S_, .f32⟩
  | 4 => ⟨S2x16384x1, .f32⟩
  | 5 => ⟨S2x16384x1, .f32⟩
  | 6 => ⟨S_, .f32⟩
  | 7 => ⟨S2x16384x1, .f32⟩
  | 8 => ⟨S2x16384x1, .f32⟩
  | 9 => ⟨S2x16384x1, .f32⟩
  | 10 => ⟨S2x16384x1024, .f32⟩
  | 11 => ⟨S2x16384x1024, .f32⟩
  | 12 => ⟨S1x1x1024, .f32⟩
  | 13 => ⟨S2x16384x1024, .f32⟩
  | 14 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call2_v0 : Ref sig .tc := ⟨.hbm, 103, rfl⟩
abbrev main_call2_v1 : Ref sig .tc := ⟨.hbm, 104, rfl⟩
abbrev main_call2_cst : Ref sig .tc := ⟨.hbm, 105, rfl⟩
abbrev main_call2_v2 : Ref sig .tc := ⟨.hbm, 106, rfl⟩
abbrev main_call2_v3 : Ref sig .tc := ⟨.hbm, 107, rfl⟩
abbrev main_call2_cst_0 : Ref sig .tc := ⟨.hbm, 108, rfl⟩
abbrev main_call2_v4 : Ref sig .tc := ⟨.hbm, 109, rfl⟩
abbrev main_call2_v5 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_11 : Ref sig .tc := ⟨.hbm, 128, rfl⟩
abbrev main_v81 : Ref sig .tc := ⟨.hbm, 129, rfl⟩
abbrev main_v82 : Ref sig .tc := ⟨.hbm, 130, rfl⟩
abbrev main_cst_12 : Ref sig .tc := ⟨.hbm, 131, rfl⟩
abbrev main_v83 : Ref sig .tc := ⟨.hbm, 132, rfl⟩
abbrev main_v84 : Ref sig .tc := ⟨.hbm, 133, rfl⟩
abbrev main_cst_13 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩

abbrev nD : Nat := 1
abbrev τ : Topo := Topo.v7x

variable {F : FTy → Type} [FloatOps F]
-- ==== Natten.lean ====
abbrev S2x16384x512 : Shape := ⟨3, ![2, 16384, 512]⟩
abbrev S2x128x512x128 : Shape := ⟨4, ![2, 128, 512, 128]⟩
abbrev S2x16384x8192 : Shape := ⟨3, ![2, 16384, 8192]⟩
abbrev S2x256x8192 : Shape := ⟨3, ![2, 256, 8192]⟩
abbrev S8x15x31 : Shape := ⟨3, ![8, 15, 31]⟩
abbrev S5x2x10 : Shape := ⟨3, ![5, 2, 10]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S5x2x1x10x1 : Shape := ⟨5, ![5, 2, 1, 10, 1]⟩
abbrev S1x1x64x1x64 : Shape := ⟨5, ![1, 1, 64, 1, 64]⟩
abbrev S5x2x64x10x64 : Shape := ⟨5, ![5, 2, 64, 10, 64]⟩
abbrev S8x465 : Shape := ⟨2, ![8, 465]⟩
abbrev S5x2x64x10x64x1 : Shape := ⟨6, ![5, 2, 64, 10, 64, 1]⟩
abbrev S8x5x2x64x10x64 : Shape := ⟨6, ![8, 5, 2, 64, 10, 64]⟩
abbrev S5x8x2x64x10x64 : Shape := ⟨6, ![5, 8, 2, 64, 10, 64]⟩
abbrev S5x1x2x1x10x1 : Shape := ⟨6, ![5, 1, 2, 1, 10, 1]⟩
abbrev S1x1x1x64x1x64 : Shape := ⟨6, ![1, 1, 1, 64, 1, 64]⟩
abbrev S5x1x2x64x10x64 : Shape := ⟨6, ![5, 1, 2, 64, 10, 64]⟩
abbrev S5x4x256x640 : Shape := ⟨4, ![5, 4, 256, 640]⟩
abbrev S1x512x512 : Shape := ⟨3, ![1, 512, 512]⟩
abbrev S1x4x512x128 : Shape := ⟨4, ![1, 4, 512, 128]⟩
abbrev S1x256x512 : Shape := ⟨3, ![1, 256, 512]⟩
abbrev S8x512x128 : Shape := ⟨3, ![8, 512, 128]⟩
abbrev S1024x512 : Shape := ⟨2, ![1024, 512]⟩
abbrev S1x2x512x128 : Shape := ⟨4, ![1, 2, 512, 128]⟩
abbrev S2x512x128 : Shape := ⟨3, ![2, 512, 128]⟩
abbrev S4x512x128 : Shape := ⟨3, ![4, 512, 128]⟩
abbrev S256x512 : Shape := ⟨2, ![256, 512]⟩
abbrev S512x512 : Shape := ⟨2, ![512, 512]⟩
abbrev S512x256 : Shape := ⟨2, ![512, 256]⟩
abbrev S128x128 : Shape := ⟨2, ![128, 128]⟩
abbrev S640x128 : Shape := ⟨2, ![640, 128]⟩
abbrev S256x128 : Shape := ⟨2, ![256, 128]⟩
abbrev S1x128x128 : Shape := ⟨3, ![1, 128, 128]⟩
abbrev S5x128x128 : Shape := ⟨3, ![5, 128, 128]⟩
abbrev S256x640 : Shape := ⟨2, ![256, 640]⟩
abbrev S1x1x256x640 : Shape := ⟨4, ![1, 1, 256, 640]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S640x256 : Shape := ⟨2, ![640, 256]⟩
abbrev S1x256x128 : Shape := ⟨3, ![1, 256, 128]⟩
abbrev S128x512 : Shape := ⟨2, ![128, 512]⟩
abbrev S1x128x512 : Shape := ⟨3, ![1, 128, 512]⟩

abbrev nBuf : Space → Nat
  | .hbm => 77
  | .vmem => 23
  | .smem => 0
  | _ => 0

abbrev bufTy : (tb : Table) → Fin (tcTables nBuf tb) → BufTy
  | .hbm, ⟨0, _⟩ => ⟨S2x16384x512, .bf16⟩
  | .hbm, ⟨1, _⟩ => ⟨S2x128x512x128, .bf16⟩
  | .hbm, ⟨2, _⟩ => ⟨S2x16384x8192, .bf16⟩
  | .hbm, ⟨3, _⟩ => ⟨S2x256x8192, .bf16⟩
  | .hbm, ⟨4, _⟩ => ⟨S8x15x31, .f32⟩
  | .hbm, ⟨5, _⟩ => ⟨S5x2x10, .i32⟩
  | .hbm, ⟨6, _⟩ => ⟨S5x2x10, .i1⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S1x64, .i32⟩
  | .hbm, ⟨21, _⟩ => ⟨S64x1, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S1x64, .i32⟩
  | .hbm, ⟨26, _⟩ => ⟨S64x1, .i32⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S64x64, .i1⟩
  | .hbm, ⟨34, _⟩ => ⟨S1x64, .i32⟩
  | .hbm, ⟨35, _⟩ => ⟨S64x1, .i32⟩
  | .hbm, ⟨36, _⟩ => ⟨S64x64, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S5x2x1x10x1, .i32⟩
  | .hbm, ⟨54, _⟩ => ⟨S_, .i32⟩
  | .hbm, ⟨55, _⟩ => ⟨S5x2x1x10x1, .i32⟩
  | .hbm, ⟨56, _⟩ => ⟨S5x2x1x10x1, .i32⟩
  | .hbm, ⟨57, _⟩ => ⟨S1x1x64x1x64, .i32⟩
  | .hbm, ⟨58, _⟩ => ⟨S5x2x64x10x64, .i32⟩
  | .hbm, ⟨59, _⟩ => ⟨S5x2x64x10x64, .i32⟩
  | .hbm, ⟨60, _⟩ => ⟨S5x2x64x10x64, .i32⟩
  | .hbm, ⟨61, _⟩ => ⟨S8x465, .f32⟩
  | .hbm, ⟨62, _⟩ => ⟨S5x2x64x10x64x1, .i32⟩
  | .hbm, ⟨63, _⟩ => ⟨S8x5x2x64x10x64, .f32⟩
  | .hbm, ⟨64, _⟩ => ⟨S5x8x2x64x10x64, .f32⟩
  | .hbm, ⟨65, _⟩ => ⟨S5x1x2x1x10x1, .i1⟩
  | .hbm, ⟨66, _⟩ => ⟨S1x1x1x64x1x64, .i1⟩
  | .hbm, ⟨67, _⟩ => ⟨S5x1x2x64x10x64, .i1⟩
  | .hbm, ⟨68, _⟩ => ⟨S5x1x2x64x10x64, .i1⟩
  | .hbm, ⟨69, _⟩ => ⟨S5x1x2x64x10x64, .i1⟩
  | .hbm, ⟨70, _⟩ => ⟨S_, .f32⟩
  | .hbm, ⟨71, _⟩ => ⟨S_, .f32⟩
  | .hbm, ⟨72, _⟩ => ⟨S5x8x2x64x10x64, .i1⟩
  | .hbm, ⟨73, _⟩ => ⟨S5x8x2x64x10x64, .f32⟩
  | .hbm, ⟨74, _⟩ => ⟨S5x8x2x64x10x64, .f32⟩
  | .hbm, ⟨75, _⟩ => ⟨S5x4x256x640, .f32⟩
  | .hbm, ⟨76, _⟩ => ⟨S2x16384x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4x512x128, .bf16⟩
  | .local _ .vmem, ⟨3, _⟩ => ⟨S1x4x512x128, .bf16⟩
  | .local _ .vmem, ⟨4, _⟩ => ⟨S1x4x512x128, .bf16⟩
  | .local _ .vmem, ⟨5, _⟩ => ⟨S1x4x512x128, .bf16⟩
  | .local _ .vmem, ⟨6, _⟩ => ⟨S1x4x512x128, .bf16⟩
  | .local _ .vmem, ⟨7, _⟩ => ⟨S1x4x512x128, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S5x4x256x640, .f32⟩
  | .local _ .vmem, ⟨19, _⟩ => ⟨S1x512x512, .bf16⟩
  | .local _ .vmem, ⟨20, _⟩ => ⟨S1x512x512, .bf16⟩
  | .local _ .vmem, ⟨21, _⟩ => ⟨S8x512x128, .bf16⟩
  | .local _ .vmem, ⟨22, _⟩ => ⟨S1024x512, .bf16⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_c_8 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v27 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call2_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c4_i32 : BitVec 32 := 4#32
  let v40 : BitVec 32 := Scalar.addi c0_i32 c4_i32
  let c1_i32 : BitVec 32 := 1#32
  ⟨c0_i32, v40, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c2_i32_46 : BitVec 32 := 2#32
  let v58 : BitVec 32 := Scalar.muli arg15 c2_i32_46
  let c64_i32_47 : BitVec 32 := 64#32
  let v59 : BitVec 32 := Scalar.muli v58 c64_i32_47
  v59
def k0_mult2 (i : grid0.Coords) (k0_t1 : Fin k0_t1_loop.trips) : BitVec 32 :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c64_i32_48 : BitVec 32 := 64#32
  let v61 : BitVec 32 := Scalar.muli v49 c64_i32_48
  v61
def k0_off1 (k0_t1 : Fin k0_t1_loop.trips) : Fin 3 → Nat :=
  let c0_56 : Index := 0#32
  let c0_i32 : BitVec 32 := 0#32
  let c1_i32 : BitVec 32 := 1#32
  let arg15 : BitVec 32 := Scf.iv c0_i32 c1_i32 k0_t1
  let c2_i32_46 : BitVec 32 := 2#32
  let v58 : BitVec 32 := Scalar.muli arg15 c2_i32_46
  let c64_i32_47 : BitVec 32 := 64#32
  let v59 : BitVec 32 := Scalar.muli v58 c64_i32_47
  let v60 : BitVec 32 := v59
  let v80 : Index := Scalar.indexCast v60
  let c0_57 : Index := 0#32
  ![0, v80.toNat, 0]
def k0_off2 (i : grid0.Coords) (k0_t1 : Fin k0_t1_loop.trips) : Fin 3 → Nat :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c0_i32_50 : BitVec 32 := 0#32
  let v64 : BitVec 1 := Scalar.cmpi .sgt v49 c0_i32_50
  let v65 : BitVec 32 := Scalar.extui v64
  let c0_i32_51 : BitVec 32 := 0#32
  let v66 : BitVec 1 := Scalar.cmpi .slt v49 c0_i32_51
  let v67 : BitVec 32 := Scalar.extui v66
  let v68 : BitVec 32 := Scalar.subi v65 v67
  let c2_i32_49 : BitVec 32 := 2#32
  let c0_i32_52 : BitVec 32 := 0#32
  let v69 : BitVec 1 := Scalar.cmpi .sgt c2_i32_49 c0_i32_52
  let v70 : BitVec 32 := Scalar.extui v69
  let c0_i32_53 : BitVec 32 := 0#32
  let v71 : BitVec 1 := Scalar.cmpi .slt c2_i32_49 c0_i32_53
  let v72 : BitVec 32 := Scalar.extui v71
  let v73 : BitVec 32 := Scalar.subi v70 v72
  let v74 : BitVec 1 := Scalar.cmpi .ne v68 v73
  let v75 : BitVec 32 := Scalar.remsi v49 c2_i32_49
  let c0_i32_54 : BitVec 32 := 0#32
  let v76 : BitVec 1 := Scalar.cmpi .ne v75 c0_i32_54
  let v77 : BitVec 1 := Scalar.andi v74 v76
  let v63 : BitVec 32 := Scalar.divsi v49 c2_i32_49
  let c1_i32_55 : BitVec 32 := 1#32
  let v78 : BitVec 32 := Scalar.subi v63 c1_i32_55
  let v79 : BitVec 32 := Scalar.select v77 v78 v63
  let v87 : Index := Scalar.indexCast v79
  let c0_59 : Index := 0#32
  let c0_60 : Index := 0#32
  ![v87.toNat, 0, 0]
def k0_off3 (i : grid0.Coords) (k0_t1 : Fin k0_t1_loop.trips) : Fin 4 → Nat :=
  let arg1 : BitVec 32 := BitVec.ofNat 32 (i 1).val
  let c0_i32_36 : BitVec 32 := 0#32
  let v41 : BitVec 1 := Scalar.cmpi .eq arg1 c0_i32_36
  let c0_i32 : BitVec 32 := 0#32
  let c1_i32 : BitVec 32 := 1#32
  let arg15 : BitVec 32 := Scf.iv c0_i32 c1_i32 k0_t1
  let c2_i32_41 : BitVec 32 := 2#32
  let v50 : BitVec 1 := Scalar.cmpi .slt arg15 c2_i32_41
  let v51 : BitVec 1 := Scalar.andi v41 v50
  let c1_i32_42 : BitVec 32 := 1#32
  let v52 : BitVec 32 := Scalar.addi c1_i32_42 arg15
  let c31_i32 : BitVec 32 := 31#32
  let v42 : BitVec 1 := Scalar.cmpi .eq arg1 c31_i32
  let c2_i32_43 : BitVec 32 := 2#32
  let v53 : BitVec 1 := Scalar.cmpi .sge arg15 c2_i32_43
  let v54 : BitVec 1 := Scalar.andi v42 v53
  let c1_i32_44 : BitVec 32 := 1#32
  let v55 : BitVec 32 := Scalar.addi c1_i32_44 arg15
  let c0_i32_45 : BitVec 32 := 0#32
  let v56 : BitVec 32 := Scalar.select v54 v55 c0_i32_45
  let v57 : BitVec 32 := Scalar.select v51 v52 v56
  let v105 : Index := Scalar.indexCast v57
  let c0_66 : Index := 0#32
  let c0_67 : Index := 0#32
  let c0_68 : Index := 0#32
  ![v105.toNat, 0, 0, 0]
def k0_off4 (k0_t1 : Fin k0_t1_loop.trips) : Fin 3 → Nat :=
  let c0_71 : Index := 0#32
  let c0_i32 : BitVec 32 := 0#32
  let c1_i32 : BitVec 32 := 1#32
  let arg15 : BitVec 32 := Scf.iv c0_i32 c1_i32 k0_t1
  let c2_i32_46 : BitVec 32 := 2#32
  let v58 : BitVec 32 := Scalar.muli arg15 c2_i32_46
  let c64_i32_47 : BitVec 32 := 64#32
  let v59 : BitVec 32 := Scalar.muli v58 c64_i32_47
  let v60 : BitVec 32 := v59
  let v113 : Index := Scalar.indexCast v60
  let c128 : Index := 128#32
  ![0, v113.toNat, 128]
def k0_off5 (i : grid0.Coords) (k0_t1 : Fin k0_t1_loop.trips) : Fin 3 → Nat :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c0_i32_50 : BitVec 32 := 0#32
  let v64 : BitVec 1 := Scalar.cmpi .sgt v49 c0_i32_50
  let v65 : BitVec 32 := Scalar.extui v64
  let c0_i32_51 : BitVec 32 := 0#32
  let v66 : BitVec 1 := Scalar.cmpi .slt v49 c0_i32_51
  let v67 : BitVec 32 := Scalar.extui v66
  let v68 : BitVec 32 := Scalar.subi v65 v67
  let c2_i32_49 : BitVec 32 := 2#32
  let c0_i32_52 : BitVec 32 := 0#32
  let v69 : BitVec 1 := Scalar.cmpi .sgt c2_i32_49 c0_i32_52
  let v70 : BitVec 32 := Scalar.extui v69
  let c0_i32_53 : BitVec 32 := 0#32
  let v71 : BitVec 1 := Scalar.cmpi .slt c2_i32_49 c0_i32_53
  let v72 : BitVec 32 := Scalar.extui v71
  let v73 : BitVec 32 := Scalar.subi v70 v72
  let v74 : BitVec 1 := Scalar.cmpi .ne v68 v73
  let v75 : BitVec 32 := Scalar.remsi v49 c2_i32_49
  let c0_i32_54 : BitVec 32 := 0#32
  let v76 : BitVec 1 := Scalar.cmpi .ne v75 c0_i32_54
  let v77 : BitVec 1 := Scalar.andi v74 v76
  let v63 : BitVec 32 := Scalar.divsi v49 c2_i32_49
  let c1_i32_55 : BitVec 32 := 1#32
  let v78 : BitVec 32 := Scalar.subi v63 c1_i32_55
  let v79 : BitVec 32 := Scalar.select v77 v78 v63
  let v120 : Index := Scalar.indexCast v79
  let c128_73 : Index := 128#32
  let c0_74 : Index := 0#32
  ![v120.toNat, 128, 0]
def k0_off6 (i : grid0.Coords) (k0_t1 : Fin k0_t1_loop.trips) : Fin 4 → Nat :=
  let arg1 : BitVec 32 := BitVec.ofNat 32 (i 1).val
  let c0_i32_36 : BitVec 32 := 0#32
  let v41 : BitVec 1 := Scalar.cmpi .eq arg1 c0_i32_36
  let c0_i32 : BitVec 32 := 0#32
  let c1_i32 : BitVec 32 := 1#32
  let arg15 : BitVec 32 := Scf.iv c0_i32 c1_i32 k0_t1
  let c2_i32_41 : BitVec 32 := 2#32
  let v50 : BitVec 1 := Scalar.cmpi .slt arg15 c2_i32_41
  let v51 : BitVec 1 := Scalar.andi v41 v50
  let c1_i32_42 : BitVec 32 := 1#32
  let v52 : BitVec 32 := Scalar.addi c1_i32_42 arg15
  let c31_i32 : BitVec 32 := 31#32
  let v42 : BitVec 1 := Scalar.cmpi .eq arg1 c31_i32
  let c2_i32_43 : BitVec 32 := 2#32
  let v53 : BitVec 1 := Scalar.cmpi .sge arg15 c2_i32_43
  let v54 : BitVec 1 := Scalar.andi v42 v53
  let c1_i32_44 : BitVec 32 := 1#32
  let v55 : BitVec 32 := Scalar.addi c1_i32_44 arg15
  let c0_i32_45 : BitVec 32 := 0#32
  let v56 : BitVec 32 := Scalar.select v54 v55 c0_i32_45
  let v57 : BitVec 32 := Scalar.select v51 v52 v56
  let v138 : Index := Scalar.indexCast v57
  let c1 : Index := 1#32
  let c0_80 : Index := 0#32
  let c0_81 : Index := 0#32
  ![v138.toNat, 1, 0, 0]
def k0_off7 (k0_t1 : Fin k0_t1_loop.trips) : Fin 3 → Nat :=
  let c0_84 : Index := 0#32
  let c0_i32 : BitVec 32 := 0#32
  let c1_i32 : BitVec 32 := 1#32
  let arg15 : BitVec 32 := Scf.iv c0_i32 c1_i32 k0_t1
  let c2_i32_46 : BitVec 32 := 2#32
  let v58 : BitVec 32 := Scalar.muli arg15 c2_i32_46
  let c64_i32_47 : BitVec 32 := 64#32
  let v59 : BitVec 32 := Scalar.muli v58 c64_i32_47
  let v60 : BitVec 32 := v59
  let v146 : Index := Scalar.indexCast v60
  let c256_85 : Index := 256#32
  ![0, v146.toNat, 256]
def k0_off8 (i : grid0.Coords) (k0_t1 : Fin k0_t1_loop.trips) : Fin 3 → Nat :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c0_i32_50 : BitVec 32 := 0#32
  let v64 : BitVec 1 := Scalar.cmpi .sgt v49 c0_i32_50
  let v65 : BitVec 32 := Scalar.extui v64
  let c0_i32_51 : BitVec 32 := 0#32
  let v66 : BitVec 1 := Scalar.cmpi .slt v49 c0_i32_51
  let v67 : BitVec 32 := Scalar.extui v66
  let v68 : BitVec 32 := Scalar.subi v65 v67
  let c2_i32_49 : BitVec 32 := 2#32
  let c0_i32_52 : BitVec 32 := 0#32
  let v69 : BitVec 1 := Scalar.cmpi .sgt c2_i32_49 c0_i32_52
  let v70 : BitVec 32 := Scalar.extui v69
  let c0_i32_53 : BitVec 32 := 0#32
  let v71 : BitVec 1 := Scalar.cmpi .slt c2_i32_49 c0_i32_53
  let v72 : BitVec 32 := Scalar.extui v71
  let v73 : BitVec 32 := Scalar.subi v70 v72
  let v74 : BitVec 1 := Scalar.cmpi .ne v68 v73
  let v75 : BitVec 32 := Scalar.remsi v49 c2_i32_49
  let c0_i32_54 : BitVec 32 := 0#32
  let v76 : BitVec 1 := Scalar.cmpi .ne v75 c0_i32_54
  let v77 : BitVec 1 := Scalar.andi v74 v76
  let v63 : BitVec 32 := Scalar.divsi v49 c2_i32_49
  let c1_i32_55 : BitVec 32 := 1#32
  let v78 : BitVec 32 := Scalar.subi v63 c1_i32_55
  let v79 : BitVec 32 := Scalar.select v77 v78 v63
  let v153 : Index := Scalar.indexCast v79
  let c256_87 : Index := 256#32
  let c0_88 : Index := 0#32
  ![v153.toNat, 256, 0]
def k0_off9 (i : grid0.Coords) (k0_t1 : Fin k0_t1_loop.trips) : Fin 4 → Nat :=
  let arg1 : BitVec 32 := BitVec.ofNat 32 (i 1).val
  let c0_i32_36 : BitVec 32 := 0#32
  let v41 : BitVec 1 := Scalar.cmpi .eq arg1 c0_i32_36
  let c0_i32 : BitVec 32 := 0#32
  let c1_i32 : BitVec 32 := 1#32
  let arg15 : BitVec 32 := Scf.iv c0_i32 c1_i32 k0_t1
  let c2_i32_41 : BitVec 32 := 2#32
  let v50 : BitVec 1 := Scalar.cmpi .slt arg15 c2_i32_41
  let v51 : BitVec 1 := Scalar.andi v41 v50
  let c1_i32_42 : BitVec 32 := 1#32
  let v52 : BitVec 32 := Scalar.addi c1_i32_42 arg15
  let c31_i32 : BitVec 32 := 31#32
  let v42 : BitVec 1 := Scalar.cmpi .eq arg1 c31_i32
  let c2_i32_43 : BitVec 32 := 2#32
  let v53 : BitVec 1 := Scalar.cmpi .sge arg15 c2_i32_43
  let v54 : BitVec 1 := Scalar.andi v42 v53
  let c1_i32_44 : BitVec 32 := 1#32
  let v55 : BitVec 32 := Scalar.addi c1_i32_44 arg15
  let c0_i32_45 : BitVec 32 := 0#32
  let v56 : BitVec 32 := Scalar.select v54 v55 c0_i32_45
  let v57 : BitVec 32 := Scalar.select v51 v52 v56
  let v171 : Index := Scalar.indexCast v57
  let c2_94 : Index := 2#32
  let c0_95 : Index := 0#32
  let c0_96 : Index := 0#32
  ![v171.toNat, 2, 0, 0]
def k0_off10 (k0_t1 : Fin k0_t1_loop.trips) : Fin 3 → Nat :=
  let c0_99 : Index := 0#32
  let c0_i32 : BitVec 32 := 0#32
  let c1_i32 : BitVec 32 := 1#32
  let arg15 : BitVec 32 := Scf.iv c0_i32 c1_i32 k0_t1
  let c2_i32_46 : BitVec 32 := 2#32
  let v58 : BitVec 32 := Scalar.muli arg15 c2_i32_46
  let c64_i32_47 : BitVec 32 := 64#32
  let v59 : BitVec 32 := Scalar.muli v58 c64_i32_47
  let v60 : BitVec 32 := v59
  let v179 : Index := Scalar.indexCast v60
  let c384 : Index := 384#32
  ![0, v179.toNat, 384]
def k0_off11 (i : grid0.Coords) (k0_t1 : Fin k0_t1_loop.trips) : Fin 3 → Nat :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c0_i32_50 : BitVec 32 := 0#32
  let v64 : BitVec 1 := Scalar.cmpi .sgt v49 c0_i32_50
  let v65 : BitVec 32 := Scalar.extui v64
  let c0_i32_51 : BitVec 32 := 0#32
  let v66 : BitVec 1 := Scalar.cmpi .slt v49 c0_i32_51
  let v67 : BitVec 32 := Scalar.extui v66
  let v68 : BitVec 32 := Scalar.subi v65 v67
  let c2_i32_49 : BitVec 32 := 2#32
  let c0_i32_52 : BitVec 32 := 0#32
  let v69 : BitVec 1 := Scalar.cmpi .sgt c2_i32_49 c0_i32_52
  let v70 : BitVec 32 := Scalar.extui v69
  let c0_i32_53 : BitVec 32 := 0#32
  let v71 : BitVec 1 := Scalar.cmpi .slt c2_i32_49 c0_i32_53
  let v72 : BitVec 32 := Scalar.extui v71
  let v73 : BitVec 32 := Scalar.subi v70 v72
  let v74 : BitVec 1 := Scalar.cmpi .ne v68 v73
  let v75 : BitVec 32 := Scalar.remsi v49 c2_i32_49
  let c0_i32_54 : BitVec 32 := 0#32
  let v76 : BitVec 1 := Scalar.cmpi .ne v75 c0_i32_54
  let v77 : BitVec 1 := Scalar.andi v74 v76
  let v63 : BitVec 32 := Scalar.divsi v49 c2_i32_49
  let c1_i32_55 : BitVec 32 := 1#32
  let v78 : BitVec 32 := Scalar.subi v63 c1_i32_55
  let v79 : BitVec 32 := Scalar.select v77 v78 v63
  let v186 : Index := Scalar.indexCast v79
  let c384_101 : Index := 384#32
  let c0_102 : Index := 0#32
  ![v186.toNat, 384, 0]
def k0_off12 (i : grid0.Coords) (k0_t1 : Fin k0_t1_loop.trips) : Fin 4 → Nat :=
  let arg1 : BitVec 32 := BitVec.ofNat 32 (i 1).val
  let c0_i32_36 : BitVec 32 := 0#32
  let v41 : BitVec 1 := Scalar.cmpi .eq arg1 c0_i32_36
  let c0_i32 : BitVec 32 := 0#32
  let c1_i32 : BitVec 32 := 1#32
  let arg15 : BitVec 32 := Scf.iv c0_i32 c1_i32 k0_t1
  let c2_i32_41 : BitVec 32 := 2#32
  let v50 : BitVec 1 := Scalar.cmpi .slt arg15 c2_i32_41
  let v51 : BitVec 1 := Scalar.andi v41 v50
  let c1_i32_42 : BitVec 32 := 1#32
  let v52 : BitVec 32 := Scalar.addi c1_i32_42 arg15
  let c31_i32 : BitVec 32 := 31#32
  let v42 : BitVec 1 := Scalar.cmpi .eq arg1 c31_i32
  let c2_i32_43 : BitVec 32 := 2#32
  let v53 : BitVec 1 := Scalar.cmpi .sge arg15 c2_i32_43
  let v54 : BitVec 1 := Scalar.andi v42 v53
  let c1_i32_44 : BitVec 32 := 1#32
  let v55 : BitVec 32 := Scalar.addi c1_i32_44 arg15
  let c0_i32_45 : BitVec 32 := 0#32
  let v56 : BitVec 32 := Scalar.select v54 v55 c0_i32_45
  let v57 : BitVec 32 := Scalar.select v51 v52 v56
  let v204 : Index := Scalar.indexCast v57
  let c3 : Index := 3#32
  let c0_108 : Index := 0#32
  let c0_109 : Index := 0#32
  ![v204.toNat, 3, 0, 0]
def k0_off13 (i : grid0.Coords) (k0_t1 : Fin k0_t1_loop.trips) : Fin 2 → Nat :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c64_i32_48 : BitVec 32 := 64#32
  let v61 : BitVec 32 := Scalar.muli v49 c64_i32_48
  let v62 : BitVec 32 := v61
  let v264 : Index := Scalar.indexCast v62
  let c0_120 : Index := 0#32
  ![v264.toNat, 0]
def k0_off14 (i : grid0.Coords) (k0_t1 : Fin k0_t1_loop.trips) : Fin 2 → Nat :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c64_i32_48 : BitVec 32 := 64#32
  let v61 : BitVec 32 := Scalar.muli v49 c64_i32_48
  let v62 : BitVec 32 := v61
  let v279 : Index := Scalar.indexCast v62
  let c128_126 : Index := 128#32
  ![v279.toNat, 128]
def k0_off15 (i : grid0.Coords) (k0_t1 : Fin k0_t1_loop.trips) : Fin 2 → Nat :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c64_i32_48 : BitVec 32 := 64#32
  let v61 : BitVec 32 := Scalar.muli v49 c64_i32_48
  let v62 : BitVec 32 := v61
  let v294 : Index := Scalar.indexCast v62
  let c256_132 : Index := 256#32
  ![v294.toNat, 256]
def k0_off16 (i : grid0.Coords) (k0_t1 : Fin k0_t1_loop.trips) : Fin 2 → Nat :=
  let arg1 : BitVec 32 := BitVec.ofNat 32 (i 1).val
  let c0_i32_36 : BitVec 32 := 0#32
  let v41 : BitVec 1 := Scalar.cmpi .eq arg1 c0_i32_36
  let c2_i32 : BitVec 32 := 2#32
  let c0_i32 : BitVec 32 := 0#32
  let c1_i32 : BitVec 32 := 1#32
  let arg15 : BitVec 32 := Scf.iv c0_i32 c1_i32 k0_t1
  let v43 : BitVec 32 := Scalar.muli c2_i32 arg15
  let c4_i32_37 : BitVec 32 := 4#32
  let v44 : BitVec 32 := Scalar.maxsi v43 c4_i32_37
  let c31_i32 : BitVec 32 := 31#32
  let v42 : BitVec 1 := Scalar.cmpi .eq arg1 c31_i32
  let c2_i32_38 : BitVec 32 := 2#32
  let v45 : BitVec 32 := Scalar.muli c2_i32_38 arg15
  let c4_i32_39 : BitVec 32 := 4#32
  let v46 : BitVec 32 := Scalar.minsi v45 c4_i32_39
  let c2_i32_40 : BitVec 32 := 2#32
  let v47 : BitVec 32 := Scalar.muli c2_i32_40 arg15
  let v48 : BitVec 32 := Scalar.select v42 v46 v47
  let v49 : BitVec 32 := Scalar.select v41 v44 v48
  let c64_i32_48 : BitVec 32 := 64#32
  let v61 : BitVec 32 := Scalar.muli v49 c64_i32_48
  let v62 : BitVec 32 := v61
  let v309 : Index := Scalar.indexCast v62
  let c384_138 : Index := 384#32
  ![v309.toNat, 384]
def k0_off17 (k0_t1 : Fin k0_t1_loop.trips) : Fin 3 → Nat :=
  let c0_144 : Index := 0#32
  let c0_i32 : BitVec 32 := 0#32
  let c1_i32 : BitVec 32 := 1#32
  let arg15 : BitVec 32 := Scf.iv c0_i32 c1_i32 k0_t1
  let c2_i32_46 : BitVec 32 := 2#32
  let v58 : BitVec 32 := Scalar.muli arg15 c2_i32_46
  let c64_i32_47 : BitVec 32 := 64#32
  let v59 : BitVec 32 := Scalar.muli v58 c64_i32_47
  let v60 : BitVec 32 := v59
  let v326 : Index := Scalar.indexCast v60
  let c0_145 : Index := 0#32
  ![0, v326.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![arg0.toNat, v2.toNat, c0_i32_1.toNat]

def cc0_transform_1 (i : grid0.Coords) : Fin 4 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  let c0_i32_2 : BitVec 32 := 0#32
  ![arg0.toNat, v2.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let c0_i32_0 : BitVec 32 := 0#32
  ![arg0.toNat, v2.toNat, c4_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let c0_i32_1 : BitVec 32 := 0#32
  ![arg0.toNat, v2.toNat, c4_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let c0_i32_0 : BitVec 32 := 0#32
  ![arg0.toNat, v2.toNat, c4_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S5x4x256x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== NattenIdeal.lean ====
variable {F : FTy → Type} [FloatOps F] [Named F]
def κ : String → Option EReal := fun
  | "log2e" => some (((Real.log 2)⁻¹ : ℝ) : EReal)
  | _ => none
-- ==== NattenReferenceIdeal.lean ====
abbrev S2x16384x512 : Shape := ⟨3, ![2, 16384, 512]⟩
abbrev S2x128x512x128 : Shape := ⟨4, ![2, 128, 512, 128]⟩
abbrev S2x16384x8192 : Shape := ⟨3, ![2, 16384, 8192]⟩
abbrev S2x256x8192 : Shape := ⟨3, ![2, 256, 8192]⟩
abbrev S8x15x31 : Shape := ⟨3, ![8, 15, 31]⟩
abbrev S2x16384x8x64 : Shape := ⟨4, ![2, 16384, 8, 64]⟩
abbrev S2x128x128x512 : Shape := ⟨4, ![2, 128, 128, 512]⟩
abbrev S2x256x512 : Shape := ⟨3, ![2, 256, 512]⟩
abbrev S2x256x8x64 : Shape := ⟨4, ![2, 256, 8, 64]⟩
abbrev S_ : Shape := ⟨0, ![]⟩
abbrev S256 : Shape := ⟨1, ![256]⟩
abbrev S64 : Shape := ⟨1, ![64]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S16384x128 : Shape := ⟨2, ![16384, 128]⟩
abbrev S8x465 : Shape := ⟨2, ![8, 465]⟩
abbrev S16384x128x1 : Shape := ⟨3, ![16384, 128, 1]⟩
abbrev S8x16384x128 : Shape := ⟨3, ![8, 16384, 128]⟩
abbrev S2x16384x128x8x64 : Shape := ⟨5, ![2, 16384, 128, 8, 64]⟩
abbrev S2x8x16384x128 : Shape := ⟨4, ![2, 8, 16384, 128]⟩
abbrev S1x8x16384x128 : Shape := ⟨4, ![1, 8, 16384, 128]⟩
abbrev S2x8x16384x256 : Shape := ⟨4, ![2, 8, 16384, 256]⟩
abbrev S2x8x16384x384 : Shape := ⟨4, ![2, 8, 16384, 384]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩

abbrev nBuf : Space → Nat
  | .hbm => 126
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x128x512x128, .bf16⟩
  | .hbm, ⟨2, _⟩ => ⟨S2x16384x8192, .bf16⟩
  | .hbm, ⟨3, _⟩ => ⟨S2x256x8192, .bf16⟩
  | .hbm, ⟨4, _⟩ => ⟨S8x15x31, .f32⟩
  | .hbm, ⟨5, _⟩ => ⟨S2x16384x512, .f32⟩
  | .hbm, ⟨6, _⟩ => ⟨S2x16384x8x64, .f32⟩
  | .hbm, ⟨7, _⟩ => ⟨S2x128x512x128, .f32⟩
  | .hbm, ⟨8, _⟩ => ⟨S2x128x128x512, .f32⟩
  | .hbm, ⟨9, _⟩ => ⟨S2x16384x8x64, .f32⟩
  | .hbm, ⟨10, _⟩ => ⟨S2x16384x512, .bf16⟩
  | .hbm, ⟨11, _⟩ => ⟨S2x16384x512, .f32⟩
  | .hbm, ⟨12, _⟩ => ⟨S2x16384x8x64, .f32⟩
  | .hbm, ⟨13, _⟩ => ⟨S2x256x512, .bf16⟩
  | .hbm, ⟨14, _⟩ => ⟨S2x256x512, .f32⟩
  | .hbm, ⟨15, _⟩ => ⟨S2x256x8x64, .f32⟩
  | .hbm, ⟨16, _⟩ => ⟨S2x256x512, .bf16⟩
  | .hbm, ⟨17, _⟩ => ⟨S2x256x512, .f32⟩
  | .hbm, ⟨18, _⟩ => ⟨S2x256x8x64, .f32⟩
  | .hbm, ⟨19, _⟩ => ⟨S_, .f32⟩
  | .hbm, ⟨20, _⟩ => ⟨S_, .f32⟩
  | .hbm, ⟨21, _⟩ => ⟨S256, .i32⟩
  | .hbm, ⟨22, _⟩ => ⟨S64, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256x1, .i32⟩
  | .hbm, ⟨35, _⟩ => ⟨S8, .i32⟩
  | .hbm, ⟨36, _⟩ => ⟨S1x8, .i32⟩
  | .hbm, ⟨37, _⟩ => ⟨S256x8, .i32⟩
  | .hbm, ⟨38, _⟩ => ⟨S256x8, .i32⟩
  | .hbm, ⟨39, _⟩ => ⟨S256x8, .i32⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64x1, .i32⟩
  | .hbm, ⟨52, _⟩ => ⟨S16, .i32⟩
  | .hbm, ⟨53, _⟩ => ⟨S1x16, .i32⟩
  | .hbm, ⟨54, _⟩ => ⟨S64x16, .i32⟩
  | .hbm, ⟨55, _⟩ => ⟨S64x16, .i32⟩
  | .hbm, ⟨56, _⟩ => ⟨S64x16, .i32⟩
  | .hbm, ⟨57, _⟩ => ⟨S256x1, .i32⟩
  | .hbm, ⟨58, _⟩ => ⟨S256x8, .i32⟩
  | .hbm, ⟨59, _⟩ => ⟨S256x8, .i32⟩
  | .hbm, ⟨60, _⟩ => ⟨S_, .i32⟩
  | .hbm, ⟨61, _⟩ => ⟨S256x8, .i32⟩
  | .hbm, ⟨62, _⟩ => ⟨S256x8, .i32⟩
  | .hbm, ⟨63, _⟩ => ⟨S64x1, .i32⟩
  | .hbm, ⟨64, _⟩ => ⟨S64x16, .i32⟩
  | .hbm, ⟨65, _⟩ => ⟨S64x16, .i32⟩
  | .hbm, ⟨66, _⟩ => ⟨S_, .i32⟩
  | .hbm, ⟨67, _⟩ => ⟨S64x16, .i32⟩
  | .hbm, ⟨68, _⟩ => ⟨S64x16, .i32⟩
  | .hbm, ⟨69, _⟩ => ⟨S256x1x8x1, .i32⟩
  | .hbm, ⟨70, _⟩ => ⟨S_, .i32⟩
  | .hbm, ⟨71, _⟩ => ⟨S256x1x8x1, .i32⟩
  | .hbm, ⟨72, _⟩ => ⟨S256x1x8x1, .i32⟩
  | .hbm, ⟨73, _⟩ => ⟨S1x64x1x16, .i32⟩
  | .hbm, ⟨74, _⟩ => ⟨S256x64x8x16, .i32⟩
  | .hbm, ⟨75, _⟩ => ⟨S256x64x8x16, .i32⟩
  | .hbm, ⟨76, _⟩ => ⟨S256x64x8x16, .i32⟩
  | .hbm, ⟨77, _⟩ => ⟨S16384x128, .i32⟩
  | .hbm, ⟨78, _⟩ => ⟨S256x1x8x1, .i32⟩
  | .hbm, ⟨79, _⟩ => ⟨S_, .i32⟩
  | .hbm, ⟨80, _⟩ => ⟨S256x1x8x1, .i32⟩
  | .hbm, ⟨81, _⟩ => ⟨S256x1x8x1, .i32⟩
  | .hbm, ⟨82, _⟩ => ⟨S1x64x1x16, .i32⟩
  | .hbm, ⟨83, _⟩ => ⟨S256x64x8x16, .i32⟩
  | .hbm, ⟨84, _⟩ => ⟨S256x64x8x16, .i32⟩
  | .hbm, ⟨85, _⟩ => ⟨S256x64x8x16, .i32⟩
  | .hbm, ⟨86, _⟩ => ⟨S16384x128, .i32⟩
  | .hbm, ⟨87, _⟩ => ⟨S8x465, .f32⟩
  | .hbm, ⟨88, _⟩ => ⟨S16384x128x1, .i32⟩
  | .hbm, ⟨89, _⟩ => ⟨S8x16384x128, .f32⟩
  | .hbm, ⟨90, _⟩ => ⟨S16384x128x1, .i32⟩
  | .hbm, ⟨91, _⟩ => ⟨S2x16384x128x8x64, .f32⟩
  | .hbm, ⟨92, _⟩ => ⟨S16384x128x1, .i32⟩
  | .hbm, ⟨93, _⟩ => ⟨S2x16384x128x8x64, .f32⟩
  | .hbm, ⟨94, _⟩ => ⟨S2x8x16384x128, .f32⟩
  | .hbm, ⟨95, _⟩ => ⟨S2x8x16384x128, .f32⟩
  | .hbm, ⟨96, _⟩ => ⟨S2x8x16384x128, .f32⟩
  | .hbm, ⟨97, _⟩ => ⟨S1x8x16384x128, .f32⟩
  | .hbm, ⟨98, _⟩ => ⟨S2x8x16384x128, .f32⟩
  | .hbm, ⟨99, _⟩ => ⟨S2x8x16384x128, .f32⟩
  | .hbm, ⟨100, _⟩ => ⟨S2x8x16384x256, .f32⟩
  | .hbm, ⟨101, _⟩ => ⟨S2x8x16384x256, .f32⟩
  | .hbm, ⟨102, _⟩ => ⟨S2x8x16384x256, .f32⟩
  | .hbm, ⟨103, _⟩ => ⟨S2x8x16384x384, .f32⟩
  | .hbm, ⟨104, _⟩ => ⟨S_, .f32⟩
  | .hbm, ⟨105, _⟩ => ⟨S2x8x16384, .f32⟩
  | .hbm, ⟨106, _⟩ => ⟨S_, .f32⟩
  | .hbm, ⟨107, _⟩ => ⟨S2x8x16384, .f32⟩
  | .hbm, ⟨108, _⟩ => ⟨S2x8x16384, .f32⟩
  | .hbm, ⟨109, _⟩ => ⟨S2x8x16384x1, .f32⟩
  | .hbm, ⟨110, _⟩ => ⟨S2x8x16384x384, .f32⟩
  | .hbm, ⟨111, _⟩ => ⟨S2x8x16384x384, .f32⟩
  | .hbm, ⟨112, _⟩ => ⟨S2x8x16384x384, .f32⟩
  | .hbm, ⟨113, _⟩ => ⟨S_, .f32⟩
  | .hbm, ⟨114, _⟩ => ⟨S2x8x16384, .f32⟩
  | .hbm, ⟨115, _⟩ => ⟨S2x8x16384x1, .f32⟩
  | .hbm, ⟨116, _⟩ => ⟨S2x8x16384x384, .f32⟩
  | .hbm, ⟨117, _⟩ => ⟨S2x8x16384x384, .f32⟩
  | .hbm, ⟨118, _⟩ => ⟨S2x8x16384x128, .f32⟩
  | .hbm, ⟨119, _⟩ => ⟨S2x16384x8x64, .f32⟩
  | .hbm, ⟨120, _⟩ => ⟨S2x8x16384x256, .f32⟩
  | .hbm, ⟨121, _⟩ => ⟨S2x8x64x16384, .f32⟩
  | .hbm, ⟨122, _⟩ => ⟨S2x16384x8x64, .f32⟩
  | .hbm, ⟨123, _⟩ => ⟨S2x16384x8x64, .f32⟩
  | .hbm, ⟨124, _⟩ => ⟨S2x16384x512, .f32⟩
  | .hbm, ⟨125, _⟩ => ⟨S2x16384x512, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_v0 : Ref sig .tc := ⟨.hbm, 88, rfl⟩
abbrev main_v62 : Ref sig .tc := ⟨.hbm, 89, rfl⟩
abbrev main_call3_v0 : Ref sig .tc := ⟨.hbm, 90, rfl⟩
abbrev main_v63 : Ref sig .tc := ⟨.hbm, 91, rfl⟩
abbrev main_call4_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_9 : Ref sig .tc := ⟨.hbm, 104, rfl⟩
abbrev main_v75 : Ref sig .tc := ⟨.hbm, 105, rfl⟩
abbrev main_cst_10 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_11 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]
-- ==== Rope.lean ====
abbrev S2x16384x8192 : Shape := ⟨3, ![2, 16384, 8192]⟩
abbrev S128 : Shape := ⟨1, ![128]⟩
abbrev S16384 : Shape := ⟨1, ![16384]⟩
abbrev S_ : Shape := ⟨0, ![]⟩
abbrev S16 : Shape := ⟨1, ![16]⟩
abbrev S1x128 : Shape := ⟨2, ![1, 128]⟩
abbrev S16384x1 : Shape := ⟨2, ![16384, 1]⟩
abbrev S16384x128 : Shape := ⟨2, ![16384, 128]⟩
abbrev S128x1 : Shape := ⟨2, ![128, 1]⟩
abbrev S2x16384x512 : Shape := ⟨3, ![2, 16384, 512]⟩
abbrev S2x128x512x128 : Shape := ⟨4, ![2, 128, 512, 128]⟩
abbrev S1x1024x512 : Shape := ⟨3, ![1, 1024, 512]⟩
abbrev S1024x128 : Shape := ⟨2, ![1024, 128]⟩
abbrev S1x8x512x128 : Shape := ⟨4, ![1, 8, 512, 128]⟩
abbrev S1024x512 : Shape := ⟨2, ![1024, 512]⟩
abbrev S128x512 : Shape := ⟨2, ![128, 512]⟩
abbrev S512x128 : Shape := ⟨2, ![512, 128]⟩
abbrev S1x1x512x128 : Shape := ⟨4, ![1, 1, 512, 128]⟩

abbrev nBuf : Space → Nat
  | .hbm => 79
  | .vmem => 12
  | .smem => 0
  | _ => 0

abbrev bufTy : (tb : Table) → Fin (tcTables nBuf tb) → BufTy
  | .hbm, ⟨0, _⟩ => ⟨S2x16384x8192, .bf16⟩
  | .hbm, ⟨1, _⟩ => ⟨S128, .i1⟩
  | .hbm, ⟨2, _⟩ => ⟨S128, .f32⟩
  | .hbm, ⟨3, _⟩ => ⟨S128, .i32⟩
  | .hbm, ⟨4, _⟩ => ⟨S128, .i1⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S_, .i1⟩
  | .hbm, ⟨41, _⟩ => ⟨S16384, .i1⟩
  | .hbm, ⟨42, _⟩ => ⟨S16384, .i1⟩
  | .hbm, ⟨43, _⟩ => ⟨S16384, .i1⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S1x128, .i1⟩
  | .hbm, ⟨57, _⟩ => ⟨S16384x1, .f32⟩
  | .hbm, ⟨58, _⟩ => ⟨S16384x1, .f32⟩
  | .hbm, ⟨59, _⟩ => ⟨S16384x128, .i1⟩
  | .hbm, ⟨60, _⟩ => ⟨S16384x128, .f32⟩
  | .hbm, ⟨61, _⟩ => ⟨S16384x128, .f32⟩
  | .hbm, ⟨62, _⟩ => ⟨S16384x128, .f32⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S128x1, .i32⟩
  | .hbm, ⟨68, _⟩ => ⟨S128, .f32⟩
  | .hbm, ⟨69, _⟩ => ⟨S1x128, .f32⟩
  | .hbm, ⟨70, _⟩ => ⟨S16384x128, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S1x128, .f32⟩
  | .hbm, ⟨75, _⟩ => ⟨S16384x128, .f32⟩
  | .hbm, ⟨76, _⟩ => ⟨S16384x128, .f32⟩
  | .hbm, ⟨77, _⟩ => ⟨S2x16384x512, .bf16⟩
  | .hbm, ⟨78, _⟩ => ⟨S2x128x512x128, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024x512, .bf16⟩
  | .local _ .vmem, ⟨9, _⟩ => ⟨S1x1024x512, .bf16⟩
  | .local _ .vmem, ⟨10, _⟩ => ⟨S1x8x512x128, .bf16⟩
  | .local _ .vmem, ⟨11, _⟩ => ⟨S1x8x512x128, .bf16⟩
  | _, _ => ⟨S2x16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_3 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst_4 : Ref sig .tc := ⟨.hbm, 50, rfl⟩
abbrev main_v7 : Ref sig .tc := ⟨.hbm, 51, rfl⟩
abbrev main_v8 : Ref sig .tc := ⟨.hbm, 52, rfl⟩
abbrev main_cst_5 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v14 : Ref sig .tc := ⟨.hbm, 62, rfl⟩
abbrev main_c_6 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28_0 : Ref sig .tc := ⟨.hbm, 77, rfl⟩
abbrev main_v28_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeIdeal.lean ====
variable {F : FTy → Type} [FloatOps F] [Named F]
def κ : String → Option EReal := fun
  | "scale_log2e" => some (((8 * (Real.log 2))⁻¹ : ℝ) : EReal)
  | _ => none
-- ==== RopeReferenceIdeal.lean ====
abbrev S2x16384x8192 : Shape := ⟨3, ![2, 16384, 8192]⟩
abbrev S16384 : Shape := ⟨1, ![16384]⟩
abbrev S_ : Shape := ⟨0, ![]⟩
abbrev S16 : Shape := ⟨1, ![16]⟩
abbrev S2x16384x512 : Shape := ⟨3, ![2, 16384, 512]⟩
abbrev S2x16384x8x64 : Shape := ⟨4, ![2, 16384, 8, 64]⟩
abbrev S2x16384x8x32 : Shape := ⟨4, ![2, 16384, 8, 32]⟩
abbrev S16384x1 : Shape := ⟨2, ![16384, 1]⟩
abbrev S1x16 : Shape := ⟨2, ![1, 16]⟩
abbrev S16384x16 : Shape := ⟨2, ![16384, 16]⟩
abbrev S1x16384x1x16 : Shape := ⟨4, ![1, 16384, 1, 16]⟩
abbrev S2x16384x8x16 : Shape := ⟨4, ![2, 16384, 8, 16]⟩
abbrev S2x128x128x512 : Shape := ⟨4, ![2, 128, 128, 512]⟩
abbrev S2x128x512x128 : Shape := ⟨4, ![2, 128, 512, 128]⟩

abbrev nBuf : Space → Nat
  | .hbm => 165
  | .vmem => 0
  | .smem => 0
  | _ => 0

abbrev hbmTy0_0 (i : Nat) : BufTy := match i % 128 with
  | 0 => ⟨S2x16384x8192, .bf16⟩
  | 1 => ⟨S16384, .i32⟩
  | 2 => ⟨S_, .i32⟩
  | 3 => ⟨S_, .i32⟩
  | 4 => ⟨S16384, .i32⟩
  | 5 => ⟨S16384, .i32⟩
  | 6 => ⟨S16384, .i32⟩
  | 7 => ⟨S_, .i32⟩
  | 8 => ⟨S16384, .i32⟩
  | 9 => ⟨S16384, .i1⟩
  | 10 => ⟨S16384, .i32⟩
  | 11 => ⟨S16384, .i32⟩
  | 12 => ⟨S_, .i32⟩
  | 13 => ⟨S16384, .i32⟩
  | 14 => ⟨S16384, .i1⟩
  | 15 => ⟨S16384, .i1⟩
  | 16 => ⟨S_, .i32⟩
  | 17 => ⟨S16384, .i32⟩
  | 18 => ⟨S16384, .i32⟩
  | 19 => ⟨S16384, .i32⟩
  | 20 => ⟨S16384, .f32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S16384, .i32⟩
  | 28 => ⟨S16384, .i32⟩
  | 29 => ⟨S_, .i32⟩
  | 30 => ⟨S16384, .i32⟩
  | 31 => ⟨S16384, .i1⟩
  | 32 => ⟨S_, .i32⟩
  | 33 => ⟨S16384, .i32⟩
  | 34 => ⟨S16384, .i1⟩
  | 35 => ⟨S_, .i32⟩
  | 36 => ⟨S_, .i1⟩
  | 37 => ⟨S16384, .i1⟩
  | 38 => ⟨S16384, .i1⟩
  | 39 => ⟨S16384, .i1⟩
  | 40 => ⟨S16384, .i32⟩
  | 41 => ⟨S16384, .i32⟩
  | 42 => ⟨S16384, .i32⟩
  | 43 => ⟨S16384, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S2x16384x512, .bf16⟩
  | 53 => ⟨S2x16384x512, .f32⟩
  | 54 => ⟨S2x16384x8x64, .f32⟩
  | 55 => ⟨S2x16384x8x32, .f32⟩
  | 56 => ⟨S16384x1, .f32⟩
  | 57 => ⟨S1x16, .f32⟩
  | 58 => ⟨S16384x16, .f32⟩
  | 59 => ⟨S16384x16, .f32⟩
  | 60 => ⟨S16384x16, .f32⟩
  | 61 => ⟨S16384x16, .f32⟩
  | 62 => ⟨S1x16384x1x16, .f32⟩
  | 63 => ⟨S16384x16, .f32⟩
  | 64 => ⟨S1x16384x1x16, .f32⟩
  | 65 => ⟨S2x16384x8x16, .f32⟩
  | 66 => ⟨S2x16384x8x16, .f32⟩
  | 67 => ⟨S2x16384x8x16, .f32⟩
  | 68 => ⟨S2x16384x8x16, .f32⟩
  | 69 => ⟨S2x16384x8x16, .f32⟩
  | 70 => ⟨S2x16384x8x16, .f32⟩
  | 71 => ⟨S2x16384x8x16, .f32⟩
  | 72 => ⟨S2x16384x8x16, .f32⟩
  | 73 => ⟨S2x16384x8x16, .f32⟩
  | 74 => ⟨S2x16384x8x16, .f32⟩
  | 75 => ⟨S2x16384x8x16, .f32⟩
  | 76 => ⟨S2x16384x8x16, .f32⟩
  | 77 => ⟨S2x16384x8x32, .f32⟩
  | 78 => ⟨S2x16384x8x32, .f32⟩
  | 79 => ⟨S16384x1, .f32⟩
  | 80 => ⟨S1x16, .f32⟩
  | 81 => ⟨S16384x16, .f32⟩
  | 82 => ⟨S16384x16, .f32⟩
  | 83 => ⟨S16384x16, .f32⟩
  | 84 => ⟨S16384x16, .f32⟩
  | 85 => ⟨S1x16384x1x16, .f32⟩
  | 86 => ⟨S16384x16, .f32⟩
  | 87 => ⟨S1x16384x1x16, .f32⟩
  | 88 => ⟨S2x16384x8x16, .f32⟩
  | 89 => ⟨S2x16384x8x16, .f32⟩
  | 90 => ⟨S2x16384x8x16, .f32⟩
  | 91 => ⟨S2x16384x8x16, .f32⟩
  | 92 => ⟨S2x16384x8x16, .f32⟩
  | 93 => ⟨S2x16384x8x16, .f32⟩
  | 94 => ⟨S2x16384x8x16, .f32⟩
  | 95 => ⟨S2x16384x8x16, .f32⟩
  | 96 => ⟨S2x16384x8x16, .f32⟩
  | 97 => ⟨S2x16384x8x16, .f32⟩
  | 98 => ⟨S2x16384x8x16, .f32⟩
  | 99 => ⟨S2x16384x8x16, .f32⟩
  | 100 => ⟨S2x16384x8x32, .f32⟩
  | 101 => ⟨S2x16384x8x64, .f32⟩
  | 102 => ⟨S2x16384x512, .f32⟩
  | 103 => ⟨S_, .f32⟩
  | 104 => ⟨S2x16384x512, .f32⟩
  | 105 => ⟨S2x16384x512, .f32⟩
  | 106 => ⟨S_, .f32⟩
  | 107 => ⟨S_, .f32⟩
  | 108 => ⟨S2x16384x512, .f32⟩
  | 109 => ⟨S2x16384x512, .f32⟩
  | 110 => ⟨S2x16384x512, .bf16⟩
  | 111 => ⟨S2x16384x512, .f32⟩
  | 112 => ⟨S2x16384x8x64, .f32⟩
  | 113 => ⟨S2x16384x8x32, .f32⟩
  | 114 => ⟨S16384x1, .f32⟩
  | 115 => ⟨S1x16, .f32⟩
  | 116 => ⟨S16384x16, .f32⟩
  | 117 => ⟨S16384x16, .f32⟩
  | 118 => ⟨S16384x16, .f32⟩
  | 119 => ⟨S16384x16, .f32⟩
  | 120 => ⟨S1x16384x1x16, .f32⟩
  | 121 => ⟨S16384x16, .f32⟩
  | 122 => ⟨S1x16384x1x16, .f32⟩
  | 123 => ⟨S2x16384x8x16, .f32⟩
  | 124 => ⟨S2x16384x8x16, .f32⟩
  | 125 => ⟨S2x16384x8x16, .f32⟩
  | 126 => ⟨S2x16384x8x16, .f32⟩
  | 127 => ⟨S2x16384x8x16, .f32⟩
  | _ => ⟨S2x16384x8192, .bf16⟩

abbrev hbmTy0_1 (i : Nat) : BufTy := match i % 128 with
  | 0 => ⟨S2x16384x8x16, .f32⟩
  | 1 => ⟨S2x16384x8x16, .f32⟩
  | 2 => ⟨S2x16384x8x16, .f32⟩
  | 3 => ⟨S2x16384x8x16, .f32⟩
  | 4 => ⟨S2x16384x8x16, .f32⟩
  | 5 => ⟨S2x16384x8x16, .f32⟩
  | 6 => ⟨S2x16384x8x16, .f32⟩
  | 7 => ⟨S2x16384x8x32, .f32⟩
  | 8 => ⟨S2x16384x8x32, .f32⟩
  | 9 => ⟨S16384x1, .f32⟩
  | 10 => ⟨S1x16, .f32⟩
  | 11 => ⟨S16384x16, .f32⟩
  | 12 => ⟨S16384x16, .f32⟩
  | 13 => ⟨S16384x16, .f32⟩
  | 14 => ⟨S16384x16, .f32⟩
  | 15 => ⟨S1x16384x1x16, .f32⟩
  | 16 => ⟨S16384x16, .f32⟩
  | 17 => ⟨S1x16384x1x16, .f32⟩
  | 18 => ⟨S2x16384x8x16, .f32⟩
  | 19 => ⟨S2x16384x8x16, .f32⟩
  | 20 => ⟨S2x16384x8x16, .f32⟩
  | 21 => ⟨S2x16384x8x16, .f32⟩
  | 22 => ⟨S2x16384x8x16, .f32⟩
  | 23 => ⟨S2x16384x8x16, .f32⟩
  | 24 => ⟨S2x16384x8x16, .f32⟩
  | 25 => ⟨S2x16384x8x16, .f32⟩
  | 26 => ⟨S2x16384x8x16, .f32⟩
  | 27 => ⟨S2x16384x8x16, .f32⟩
  | 28 => ⟨S2x16384x8x16, .f32⟩
  | 29 => ⟨S2x16384x8x16, .f32⟩
  | 30 => ⟨S2x16384x8x32, .f32⟩
  | 31 => ⟨S2x16384x8x64, .f32⟩
  | 32 => ⟨S2x16384x512, .f32⟩
  | 33 => ⟨S2x16384x512, .bf16⟩
  | 34 => ⟨S2x128x128x512, .f32⟩
  | 35 => ⟨S2x128x512x128, .f32⟩
  | 36 => ⟨S2x128x512x128, .bf16⟩
  | _ => ⟨S2x16384x8192, .bf16⟩

abbrev hbmTy (i : Nat) : BufTy := match i / 128 with
  | 0 => hbmTy0_0 i
  | 1 => hbmTy0_1 i
  | _ => ⟨S2x16384x8192, .bf16⟩

abbrev bufTy : (tb : Table) → Fin (tcTables nBuf tb) → BufTy
  | .hbm, ⟨i, _⟩ => hbmTy i
  | _, _ => ⟨S2x16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_2 : Ref sig .tc := ⟨.hbm, 103, rfl⟩
abbrev main_v62 : Ref sig .tc := ⟨.hbm, 104, rfl⟩
abbrev main_v63 : Ref sig .tc := ⟨.hbm, 105, rfl⟩
abbrev main_cst_3 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩

abbrev nD : Nat := 1
abbrev τ : Topo := Topo.v7x

variable {F : FTy → Type} [FloatOps F]
-- ==== Proof.InprojValue.lean ====
/- Hand-written: what the input projection leaves in its result, at the extended reals. -/
module

public import proofs.«01_k».proof.Proof.Gen.InprojIdeal.Frame
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Product

open Cert.InprojIdeal Cert.InprojIdeal.Gen

/-- One entry of the normalised, scaled and shifted token: row `r` of batch `b`, channel `d`. -/
def hid (X : FVec Ideal S2x16384x1024 .f32) (M : FVec Ideal S8x3072 .f32) (G : FVec Ideal S1024 .f32)
    (b : Fin 2) (r : Fin 16384) (d : Fin 1024) : Ideal .f32 :=
  X (ix3 b r d)
      * Ideal.rsqrt (Ideal.div (∑ k : Fin 1024, X (ix3 b r k) * X (ix3 b r k)) (Ideal.ofBits .f32 0x44800000#32)
          + Ideal.ofBits .f32 0x358637BD#32)
      * G (ix1 d)
      * (1 + M (ix2 ⟨b.val, by omega⟩ ⟨1024 + d.val, by omega⟩))
    + M (ix2 ⟨b.val, by omega⟩ ⟨d.val, by omega⟩)

/-- Equal rows have equal entries. -/
theorem hid_congr (X : FVec Ideal S2x16384x1024 .f32) (M : FVec Ideal S8x3072 .f32) (G : FVec Ideal S1024 .f32)
    (d : Fin 1024) {b b' : Fin 2} {r r' : Fin 16384} (hb : b.val = b'.val) (hr : r.val = r'.val) :
    hid X M G b r d = hid X M G b' r' d := by
  rw [Fin.ext hb, Fin.ext hr]

/-- The projection of every token: the normalised rows times the matrix. -/
def OUT (X : FVec Ideal S2x16384x1024 .f32) (M : FVec Ideal S8x3072 .f32) (G : FVec Ideal S1024 .f32)
    (W : FVec Ideal S1024x8192 .bf16) : FVec Ideal S2x16384x8192 .bf16 := fun i =>
  ∑ k : Fin 1024, hid X M G (i 0) (i 1) k * W (ix2 k (i 2))

variable (m : (ℓ : Loc nD τ sig) → Buf (Elt Ideal) ℓ)

/-- The block of every window at every grid point, and the row of the modulation the body reads. -/
theorem place : ∀ t : Fin cfg0.N, win0_0.index t = ![t.val / 64, t.val / 4 % 16, 0]
    ∧ win0_1.index t = ![0, 0]
    ∧ win0_2.index t = ![0, 0]
    ∧ win0_3.index t = ![0, t.val % 4]
    ∧ win0_4.index t = ![t.val / 64, t.val / 4 % 16, t.val % 4] :=
  (by decide +kernel : ∀ t : Fin grid0.N, _)

/-- The modulation row the body loads at a point is the point's batch. -/
theorem row : ∀ t : Fin cfg0.N, k0_off1 (grid0.coords t) = ![t.val / 64, 0] :=
  (by decide +kernel : ∀ t : Fin grid0.N, _)

/-- What the scratch holds after a first point of a run: the normalised rows of its block. -/
def rows (c : Dev nD) (t : Fin cfg0.N) : FVec Ideal S1024x1024 .bf16 := fun y =>
  hid (m ((c : Thread nD τ).loc main_arg0)) (m ((c : Thread nD τ).loc main_arg1)) (m ((c : Thread nD τ).loc main_arg2))
    ⟨t.val / 64, by have := t.isLt; have : cfg0.N = 128 := N_0; omega⟩
    ⟨t.val / 4 % 16 * 1024 + (y 0).val, by have : (y 0).val < 1024 := (y 0).isLt; omega⟩ (y 1)

/-- The first point of a run leaves the normalised rows of its block in the scratch. -/
theorem fill (c : Dev nD) (t : Fin cfg0.N) (h0 : t.val % 4 = 0) (y) :
    (outsAt0 m c t.val t.isLt).2 y = rows m c t y := by
  rw [outsAt0_A m c t h0]
  frame_out
  unfold rows
  pointwise [k0_pay1, hid]
  blk_point [iblk, V, place t, row t]

/-- At every point of a run the scratch holds the rows that the run's first point stored. -/
theorem held (c : Dev nD) (t : Fin cfg0.N) :
    (outsAt0 m c t.val t.isLt).2
      = rows m c ⟨4 * (t.val / 4), Nat.lt_of_le_of_lt (Nat.mul_div_le _ _) t.isLt⟩ :=
  funext fun y => Pipeline.eq_of_write_hold_apply (fun n h => (outsAt0 m c n h).2) 4 (rows m c)
    (fun t h i => fill m c t h i) (fun t h i => by rw [outsAt0_B m c t h]; rfl) t y

/-- At every point the body stores the product of the scratch as the point leaves it with the point's block of columns. -/
theorem stored (c : Dev nD) (t : Fin cfg0.N) (y) :
    (outsAt0 m c t.val t.isLt).1 y = k0_pay2 (outsAt0 m c t.val t.isLt).2 (iblk m c 3 t) y := by
  by_cases h0 : t.val % 4 = 0
  · rw [outsAt0_A m c t h0]
    frame_out
  · rw [outsAt0_B m c t h0]
    frame_out
    simp only [read_unread_whole]
    rfl

/-- After the whole grid the result array is the projection of every token. -/
theorem final (c : Dev nD) : (dats m 0 c).arrAt 4 (cfgs 0).N
    = OUT (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  rw [stored, held]
  pointwise [k0_pay2, OUT]
  refine Fin.sum_fin_congr fun k => Ideal.mul_congr ?_ ?_
  · unfold rows
    refine hid_congr _ _ _ _ ?_ ?_
    · blk_simp [place t]
      show 4 * (t.val / 4) / 64 = t.val / 64
      omega
    · blk_simp [place t]
      show 4 * (t.val / 4) / 4 % 16 * 1024 + (y 1).val = t.val / 4 % 16 * 1024 + (y 1).val
      omega
  · blk_ext [iblk, V, place t]

end Cert.InprojIdeal.Product
-- ==== Proof.InprojClaim.lean ====
/- Hand-written: the input projection and its reference have equal results over the extended reals. -/
module

public import proofs.«01_k».proof.Defs
public import proofs.«01_k».proof.Proof.Gen.InprojReferenceIdeal
public import proofs.«01_k».proof.Proof.InprojValue

@[expose] public section

set_option maxRecDepth 16384

noncomputable section

open Idealize.ShloMosaic Idealize.ShloMosaic.TcCoe Idealize.SL.Sem

namespace Cert.InprojProof

set_option maxHeartbeats 1600000 in
/-- The kernel's result and the reference's are equal, entry by entry. -/
theorem value : Cert.algebraic_InprojIdeal_InprojReferenceIdeal := by
  pair_intro
  · run_from Cert.InprojIdeal.Gen.run_main m g
  · hlo_run
    rw [Cert.InprojIdeal.Product.final m c]
    funext i
    pointwise [Cert.InprojIdeal.Product.OUT, Cert.InprojIdeal.Product.hid]

end Cert.InprojProof
-- ==== Proof.MergeValue.lean ====
/- Hand-written: what the merge leaves in its result, at the extended reals. -/
module

public import proofs.«01_k».proof.Proof.Gen.MergeIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Join

open Cert.MergeIdeal Cert.MergeIdeal.Gen

/-- One half, as the programs print it. -/
abbrev half : EReal := Ideal.ofBits .f32 0x3F000000#32

/-- The tanh form of GELU. -/
def gel (x : EReal) : EReal :=
  x * (half * (1 + Ideal.tanh (Ideal.ofBits .f32 0x3F4C422A#32 * (x + Ideal.ofBits .f32 0x3D372713#32 * (x * (x * x))))))

/-- A gated path: the SiLU of twice `z`, times `y`, in the call's form. -/
def path (z y : EReal) : EReal := (z + z * Ideal.tanh z) * y

section

variable (X : FVec Ideal S2x16384x1024 .f32) (YA YB YC : FVec Ideal S2x16384x512 .bf16)
  (P : FVec Ideal S2x16384x8192 .bf16) (M : FVec Ideal S8x3072 .f32) (GW : FVec Ideal S512x1024 .f32)
  (GB : FVec Ideal S1024 .f32) (WB : FVec Ideal S3x512x1024 .f32) (WO : FVec Ideal S1024x1024 .f32)
  (FG : FVec Ideal S1024 .f32)

/-- Half of the linear readout of branch A, at one of its 1024 columns. -/
def glu (b : Fin 2) (r : Fin 16384) (n : Fin 1024) : EReal :=
  (∑ k : Fin 512, gel (YA (ix3 b r k)) * (half * GW (ix2 k n))) + half * GB (ix1 n)

/-- The gated readout of branch A. -/
def outA (b : Fin 2) (r : Fin 16384) (k : Fin 512) : EReal :=
  glu YA GW GB b r ⟨k.val, by omega⟩ * (1 + Ideal.tanh (glu YA GW GB b r ⟨512 + k.val, by omega⟩))

/-- The three branches' projections, each times its gate, added up. -/
def mrg (b : Fin 2) (r : Fin 16384) (n : Fin 1024) : EReal :=
  (1 + Ideal.tanh (P (ix3 b r ⟨5120 + n.val, by omega⟩)))
      * (∑ k : Fin 512, path (P (ix3 b r ⟨512 + k.val, by omega⟩)) (outA YA GW GB b r k) * (half * WB (ix3 0 k n)))
    + (1 + Ideal.tanh (P (ix3 b r ⟨6144 + n.val, by omega⟩)))
      * (∑ k : Fin 512, path (P (ix3 b r ⟨2560 + k.val, by omega⟩)) (YB (ix3 b r k)) * (half * WB (ix3 1 k n)))
    + (1 + Ideal.tanh (P (ix3 b r ⟨7168 + n.val, by omega⟩)))
      * (∑ k : Fin 512, path (P (ix3 b r ⟨4608 + k.val, by omega⟩)) (YC (ix3 b r k)) * (half * WB (ix3 2 k n)))

/-- The token after the gated residual. -/
def tok (b : Fin 2) (r : Fin 16384) (n : Fin 1024) : EReal :=
  X (ix3 b r n) + M (ix2 ⟨b.val, by omega⟩ ⟨2048 + n.val, by omega⟩)
    * ∑ j : Fin 1024, mrg YA YB YC P GW GB WB b r j * WO (ix2 j n)

/-- The layer's last result: the tokens after the residual, normalised. -/
def OUT : FVec Ideal S2x16384x1024 .f32 := fun i =>
  tok X YA YB YC P M GW GB WB WO (i 0) (i 1) (i 2)
    * Ideal.rsqrt (Ideal.div (∑ k : Fin 1024, tok X YA YB YC P M GW GB WB WO (i 0) (i 1) k * tok X YA YB YC P M GW GB WB WO (i 0) (i 1) k)
        (Ideal.ofBits .f32 0x44800000#32) + Ideal.ofBits .f32 0x358637BD#32)
    * FG (ix1 (i 2))

end

variable (m : (ℓ : Loc nD τ sig) → Buf (Elt Ideal) ℓ)

set_option maxHeartbeats 4000000 in
/-- The block of every window at every grid point. -/
theorem place : ∀ t : Fin cfg0.N, win0_0.index t = ![t.val / 32, t.val % 32, 0]
    ∧ win0_1.index t = ![t.val / 32, t.val % 32, 0]
    ∧ win0_2.index t = ![t.val / 32, t.val % 32, 0]
    ∧ win0_3.index t = ![t.val / 32, t.val % 32, 0]
    ∧ win0_4.index t = ![t.val / 32, t.val % 32, 1]
    ∧ win0_5.index t = ![t.val / 32, t.val % 32, 5]
    ∧ win0_6.index t = ![t.val / 32, t.val % 32, 9]
    ∧ win0_7.index t = ![t.val / 32, t.val % 32, 5]
    ∧ win0_8.index t = ![t.val / 32, t.val % 32, 6]
    ∧ win0_9.index t = ![t.val / 32, t.val % 32, 7]
    ∧ win0_10.index t = ![0, 0]
    ∧ win0_11.index t = ![0, 0]
    ∧ win0_12.index t = ![0, 0]
    ∧ win0_13.index t = ![0, 0, 0]
    ∧ win0_14.index t = ![0, 0]
    ∧ win0_15.index t = ![0, 0]
    ∧ win0_16.index t = ![t.val / 32, t.val % 32, 0] :=
  (by decide +kernel : ∀ t : Fin grid0.N, _)

/-- The modulation row the body loads at a point is the point's batch. -/
theorem row : ∀ t : Fin cfg0.N, k0_off1 (grid0.coords t) = ![t.val / 32, 0] :=
  (by decide +kernel : ∀ t : Fin grid0.N, _)

/-- The batch of a grid point. -/
abbrev bat (t : Fin cfg0.N) : Fin 2 := ⟨t.val / 32, by have := t.isLt; have : cfg0.N = 64 := N_0; omega⟩

/-- The token of a row of the point's block. -/
abbrev tkn (t : Fin cfg0.N) (i : Fin 512) : Fin 16384 := ⟨t.val % 32 * 512 + i.val, by omega⟩

/-- The argument 0: the tokens. -/
abbrev aX (c : Dev nD) : FVec Ideal S2x16384x1024 .f32 := m ((c : Thread nD τ).loc main_arg0)

/-- The argument 1: branch A before its readout. -/
abbrev aYA (c : Dev nD) : FVec Ideal S2x16384x512 .bf16 := m ((c : Thread nD τ).loc main_arg1)

/-- The argument 2: branch B. -/
abbrev aYB (c : Dev nD) : FVec Ideal S2x16384x512 .bf16 := m ((c : Thread nD τ).loc main_arg2)

/-- The argument 3: branch C. -/
abbrev aYC (c : Dev nD) : FVec Ideal S2x16384x512 .bf16 := m ((c : Thread nD τ).loc main_arg3)

/-- The argument 4: the projection. -/
abbrev aP (c : Dev nD) : FVec Ideal S2x16384x8192 .bf16 := m ((c : Thread nD τ).loc main_arg4)

/-- The argument 5: the modulation. -/
abbrev aM (c : Dev nD) : FVec Ideal S8x3072 .f32 := m ((c : Thread nD τ).loc main_arg5)

/-- The argument 6: the readout's matrix. -/
abbrev aGW (c : Dev nD) : FVec Ideal S512x1024 .f32 := m ((c : Thread nD τ).loc main_arg6)

/-- The argument 7: the readout's bias. -/
abbrev aGB (c : Dev nD) : FVec Ideal S1024 .f32 := m ((c : Thread nD τ).loc main_arg7)

/-- The argument 8: the branches' projections. -/
abbrev aWB (c : Dev nD) : FVec Ideal S3x512x1024 .f32 := m ((c : Thread nD τ).loc main_arg8)

/-- The argument 9: the output projection. -/
abbrev aWO (c : Dev nD) : FVec Ideal S1024x1024 .f32 := m ((c : Thread nD τ).loc main_arg9)

/-- The argument 10: the last norm's gain. -/
abbrev aFG (c : Dev nD) : FVec Ideal S1024 .f32 := m ((c : Thread nD τ).loc main_arg10)

/-- The block of tokens. -/
theorem win0 (c : Dev nD) (t : Fin cfg0.N) (i : Fin 512) (n : Fin 1024) :
    iblk m c 0 t (ix3 0 i n) = aX m c (ix3 (bat t) (tkn t i) n) := by
  blk_point [iblk, V, place t]

/-- The block of a branch. -/
theorem win1 (c : Dev nD) (t : Fin cfg0.N) (i : Fin 512) (n : Fin 512) :
    iblk m c 1 t (ix3 0 i n) = aYA m c (ix3 (bat t) (tkn t i) n) := by
  blk_point [iblk, V, place t]

/-- The block of a branch. -/
theorem win2 (c : Dev nD) (t : Fin cfg0.N) (i : Fin 512) (n : Fin 512) :
    iblk m c 2 t (ix3 0 i n) = aYB m c (ix3 (bat t) (tkn t i) n) := by
  blk_point [iblk, V, place t]

/-- The block of a branch. -/
theorem win3 (c : Dev nD) (t : Fin cfg0.N) (i : Fin 512) (n : Fin 512) :
    iblk m c 3 t (ix3 0 i n) = aYC m c (ix3 (bat t) (tkn t i) n) := by
  blk_point [iblk, V, place t]

/-- The block of a gate path. -/
theorem win4 (c : Dev nD) (t : Fin cfg0.N) (i : Fin 512) (n : Fin 512) :
    iblk m c 4 t (ix3 0 i n) = aP m c (ix3 (bat t) (tkn t i) ⟨512 + n.val, by omega⟩) := by
  blk_point [iblk, V, place t]

/-- The block of a gate path. -/
theorem win5 (c : Dev nD) (t : Fin cfg0.N) (i : Fin 512) (n : Fin 512) :
    iblk m c 5 t (ix3 0 i n) = aP m c (ix3 (bat t) (tkn t i) ⟨2560 + n.val, by omega⟩) := by
  blk_point [iblk, V, place t]

/-- The block of a gate path. -/
theorem win6 (c : Dev nD) (t : Fin cfg0.N) (i : Fin 512) (n : Fin 512) :
    iblk m c 6 t (ix3 0 i n) = aP m c (ix3 (bat t) (tkn t i) ⟨4608 + n.val, by omega⟩) := by
  blk_point [iblk, V, place t]

/-- The block of a merge gate. -/
theorem win7 (c : Dev nD) (t : Fin cfg0.N) (i : Fin 512) (n : Fin 1024) :
    iblk m c 7 t (ix3 0 i n) = aP m c (ix3 (bat t) (tkn t i) ⟨5120 + n.val, by omega⟩) := by
  blk_point [iblk, V, place t]

/-- The block of a merge gate. -/
theorem win8 (c : Dev nD) (t : Fin cfg0.N) (i : Fin 512) (n : Fin 1024) :
    iblk m c 8 t (ix3 0 i n) = aP m c (ix3 (bat t) (tkn t i) ⟨6144 + n.val, by omega⟩) := by
  blk_point [iblk, V, place t]

/-- The block of a merge gate. -/
theorem win9 (c : Dev nD) (t : Fin cfg0.N) (i : Fin 512) (n : Fin 1024) :
    iblk m c 9 t (ix3 0 i n) = aP m c (ix3 (bat t) (tkn t i) ⟨7168 + n.val, by omega⟩) := by
  blk_point [iblk, V, place t]

/-- The modulation. -/
theorem win10 (c : Dev nD) (t : Fin cfg0.N) (i : Fin 8) (n : Fin 3072) :
    iblk m c 10 t (ix2 i n) = aM m c (ix2 i n) := by
  blk_point [iblk, V, place t]

/-- The readout matrix, halved. -/
theorem win11 (c : Dev nD) (t : Fin cfg0.N) (i : Fin 512) (n : Fin 1024) :
    iblk m c 11 t (ix2 i n) = half * aGW m c (ix2 i n) := by
  blk_point [iblk, V, place t]

/-- The readout bias, halved. -/
theorem win12 (c : Dev nD) (t : Fin cfg0.N) (n : Fin 1024) :
    iblk m c 12 t (ix2 0 n) = half * aGB m c (ix1 n) := by
  blk_simp [iblk, V, place t]
  after_results
  pointwise
  refine congrArg (fun z : Fin 1024 => half * aGB m c (ix1 z)) (Fin.ext ?_)
  blk_simp [place t]

/-- The branch projections, halved. -/
theorem win13 (c : Dev nD) (t : Fin cfg0.N) (j : Fin 3) (i : Fin 512) (n : Fin 1024) :
    iblk m c 13 t (ix3 j i n) = half * aWB m c (ix3 j i n) := by
  blk_point [iblk, V, place t]

/-- The output projection. -/
theorem win14 (c : Dev nD) (t : Fin cfg0.N) (i n : Fin 1024) :
    iblk m c 14 t (ix2 i n) = aWO m c (ix2 i n) := by
  blk_point [iblk, V, place t]

/-- The gain of the last norm. -/
theorem win15 (c : Dev nD) (t : Fin cfg0.N) (n : Fin 1024) :
    iblk m c 15 t (ix2 0 n) = aFG m c (ix1 n) := by
  blk_point [iblk, V, place t]

/-- Branch A's gated path, at an entry of the block. -/
theorem pay2 (c : Dev nD) (t : Fin cfg0.N) (i n : Fin 512) :
    k0_pay2 (iblk m c 1 t) (iblk m c 11 t) (iblk m c 12 t) (iblk m c 4 t) (ix2 i n)
      = path (aP m c (ix3 (bat t) (tkn t i) ⟨512 + n.val, by omega⟩))
          (outA (aYA m c) (aGW m c) (aGB m c) (bat t) (tkn t i) n) := by
  pointwise [k0_pay2, path, outA, glu, gel]
  simp only [win1, win4, win11, win12]

/-- Branch C's gated path, at an entry of the block. -/
theorem pay5 (c : Dev nD) (t : Fin cfg0.N) (i n : Fin 512) :
    k0_pay5 (iblk m c 3 t) (iblk m c 6 t) (ix2 i n)
      = path (aP m c (ix3 (bat t) (tkn t i) ⟨4608 + n.val, by omega⟩)) (aYC m c (ix3 (bat t) (tkn t i) n)) := by
  pointwise [k0_pay5, path]
  simp only [win3, win6]

/-- The gated projections of branches A and B, added up, at an entry of the block. -/
theorem pay4 (c : Dev nD) (t : Fin cfg0.N) (i : Fin 512) (n : Fin 1024) :
    k0_pay4 (k0_pay2 (iblk m c 1 t) (iblk m c 11 t) (iblk m c 12 t) (iblk m c 4 t)) (k0_pay3 (iblk m c 7 t))
          (View.ld (iblk m c 13 t) (Rect.unit ![0, 0, 0] ![1, 512, 1024] inb_S3x512x1024_S1x512x1024_0_0_0))
          (iblk m c 2 t) (iblk m c 5 t) (iblk m c 8 t)
          (View.ld (iblk m c 13 t) (Rect.unit ![1, 0, 0] ![1, 512, 1024] inb_S3x512x1024_S1x512x1024_1_0_0)) (ix2 i n)
      = (1 + Ideal.tanh (aP m c (ix3 (bat t) (tkn t i) ⟨5120 + n.val, by omega⟩)))
      * (∑ k : Fin 512, path (aP m c (ix3 (bat t) (tkn t i) ⟨512 + k.val, by omega⟩))
          (outA (aYA m c) (aGW m c) (aGB m c) (bat t) (tkn t i) k) * (half * aWB m c (ix3 0 k n)))
    + (1 + Ideal.tanh (aP m c (ix3 (bat t) (tkn t i) ⟨6144 + n.val, by omega⟩)))
      * (∑ k : Fin 512, path (aP m c (ix3 (bat t) (tkn t i) ⟨2560 + k.val, by omega⟩))
          (aYB m c (ix3 (bat t) (tkn t i) k)) * (half * aWB m c (ix3 1 k n))) := by
  pointwise [k0_pay4, k0_pay3]
  simp only [pay2]
  simp only [win2, win5, win7, win8, win13]
  rfl

/-- The last payload, at an entry of the block, from what its two loaded parts hold. -/
theorem pay6 (c : Dev nD) (t : Fin cfg0.N) (i : Fin 512) (n : Fin 1024) (v65 : FVec Ideal S512x1024 .f32)
    (h65 : ∀ n : Fin 1024, v65 (ix2 i n)
      = (1 + Ideal.tanh (aP m c (ix3 (bat t) (tkn t i) ⟨5120 + n.val, by omega⟩)))
      * (∑ k : Fin 512, path (aP m c (ix3 (bat t) (tkn t i) ⟨512 + k.val, by omega⟩))
          (outA (aYA m c) (aGW m c) (aGB m c) (bat t) (tkn t i) k) * (half * aWB m c (ix3 0 k n)))
    + (1 + Ideal.tanh (aP m c (ix3 (bat t) (tkn t i) ⟨6144 + n.val, by omega⟩)))
      * (∑ k : Fin 512, path (aP m c (ix3 (bat t) (tkn t i) ⟨2560 + k.val, by omega⟩))
          (aYB m c (ix3 (bat t) (tkn t i) k)) * (half * aWB m c (ix3 1 k n))))
    (v90 : FVec Ideal S1x3072 .f32)
    (h90 : ∀ n : Fin 3072, v90 (ix2 0 n) = aM m c (ix2 ⟨(bat t).val, by omega⟩ n)) :
    k0_pay1 (k0_pay6 v65 (k0_pay5 (iblk m c 3 t) (iblk m c 6 t)) (iblk m c 9 t)
        (View.ld (iblk m c 13 t) (Rect.unit ![2, 0, 0] ![1, 512, 1024] inb_S3x512x1024_S1x512x1024_2_0_0))
        (iblk m c 14 t) v90 (iblk m c 0 t) (iblk m c 15 t)) (ix3 0 i n)
      = OUT (aX m c) (aYA m c) (aYB m c) (aYC m c) (aP m c) (aM m c) (aGW m c) (aGB m c) (aWB m c) (aWO m c) (aFG m c)
          (ix3 (bat t) (tkn t i) n) := by
  pointwise [k0_pay1, k0_pay6]
  simp only [pay5]
  simp only [win0, win9, win13, win14, win15, h65, h90]
  pointwise [OUT, tok, mrg]

/-- The row of the modulation that the body loads. -/
theorem modulation (c : Dev nD) (t : Fin cfg0.N) (n : Fin 3072) :
    View.ld (iblk m c 10 t) (Rect.unit (k0_off1 (grid0.coords t)) ![1, 3072] (k0_off1_inb (grid0.coords t))) (ix2 0 n)
      = aM m c (ix2 ⟨(bat t).val, by omega⟩ n) := by
  blk_point [iblk, V, place t, row t]

/-- What a grid point stores, at an entry of its block. -/
theorem stored (c : Dev nD) (t : Fin cfg0.N) (i : Fin 512) (n : Fin 1024) :
    outsAt0 m c t (ix3 0 i n) = OUT (aX m c) (aYA m c) (aYB m c) (aYC m c) (aP m c) (aM m c) (aGW m c) (aGB m c)
      (aWB m c) (aWO m c) (aFG m c) (ix3 (bat t) (tkn t i) n) := by
  unfold outsAt0
  frame_out
  exact pay6 m c t i n _ (fun n => pay4 m c t i n) _ (fun n => modulation m c t n)

/-- After the whole grid the result array is the normalised token of every row. -/
theorem final (c : Dev nD) : (dats m 0 c).arrAt 16 (cfgs 0).N
    = OUT (aX m c) (aYA m c) (aYB m c) (aYC m c) (aP m c) (aM m c) (aGW m c) (aGB m c)
      (aWB m c) (aWO m c) (aFG m c) := by
  refine (dats m 0 c).arrAt_eq_of_covers 16 _ (by decide +kernel) fun t _ y => ?_
  blk_simp
  rw [after0_16]
  obtain ⟨i, n, rfl⟩ : ∃ (i : Fin 512) (n : Fin 1024), y = ix3 0 i n :=
    ⟨y 1, y 2, by
      have h : (y 0).val < 1 := (y 0).isLt
      funext a
      fin_cases a
      · exact Fin.ext (by show (y 0).val = 0; omega)
      · rfl
      · rfl⟩
  rw [stored]
  congr 1
  blk_ext [place t]

end Cert.MergeIdeal.Join
-- ==== Proof.RealLemmas.lean ====
/- Hand-written: the extended-real identities behind the call's rewritten gates. -/
module

public import Idealize.ShloMosaic.Lib.Pipeline.ValueKit
public import Idealize.ShloMosaic.Lib.Claim

@[expose] public section

noncomputable section

open Idealize.ShloMosaic

namespace Cert.RealLemmas

/-- The printed half is one half. -/
theorem half_eq : Ideal.ofBits .f32 0x3F000000#32 = (((1 / 2 : ℝ)) : EReal) := by
  simp [Ideal.ofBits, Ideal.ieee, -EReal.coe_mul]; norm_num

/-- The printed two is two. -/
theorem two_eq : Ideal.ofBits .f32 0x40000000#32 = ((2 : ℝ) : EReal) := by
  simp [Ideal.ofBits, Ideal.ieee, -EReal.coe_mul]; norm_num

/-- The logistic function, as the reference spells it. -/
def sg (x : EReal) : EReal := Ideal.div 1 (1 + Ideal.exp (-x))

/-- The logistic function of a real is a real. -/
theorem sg_coe (r : ℝ) : sg (r : EReal) = ((1 + Real.exp (-r))⁻¹ : ℝ) := by
  have hp : (0 : ℝ) < 1 + Real.exp (-r) := by positivity
  have e : (1 : EReal) + Ideal.exp (-(r : EReal)) = ((1 + Real.exp (-r) : ℝ) : EReal) := by
    rw [← EReal.coe_neg]; rfl
  rw [sg, e, Ideal.div, if_neg (by exact_mod_cast hp.ne'), one_mul, EReal.coe_inv]

/-- The hyperbolic tangent as a logistic function, over the reals. -/
theorem real_tanh (r : ℝ) : 1 + Real.tanh r = 2 * (1 + Real.exp (-(2 * r)))⁻¹ := by
  rw [Real.tanh_eq_sinh_div_cosh, Real.sinh_eq, Real.cosh_eq]
  have h : Real.exp (-(2 * r)) = Real.exp (-r) * Real.exp (-r) := by rw [← Real.exp_add]; ring_nf
  have h1 : Real.exp r * Real.exp (-r) = 1 := by rw [← Real.exp_add]; simp
  have p1 := Real.exp_pos r
  have p2 := Real.exp_pos (-r)
  rw [h]
  field_simp
  nlinarith

/-- One and one is two. -/
theorem one_add_one : (1 : EReal) + 1 = ((2 : ℝ) : EReal) := by
  have e : (1 : EReal) + 1 = ((1 + 1 : ℝ) : EReal) := rfl
  rw [e]
  norm_num

/-- One plus the hyperbolic tangent is twice the logistic function of the double, at every extended real. -/
theorem gate (x : EReal) :
    1 + Ideal.tanh x = ((2 : ℝ) : EReal) * sg (((2 : ℝ) : EReal) * x) := by
  induction x with
  | bot =>
    rw [Ideal.tanh_bot, EReal.coe_mul_bot_of_pos (by norm_num)]
    have : sg ⊥ = 0 := by
      have e : (1 : EReal) + ⊤ = ⊤ := rfl
      simp [sg, Ideal.div, e]
    rw [this, mul_zero]
    have e : (1 : EReal) + -1 = ((1 + -1 : ℝ) : EReal) := rfl
    rw [e]
    norm_num
  | top =>
    rw [Ideal.tanh_top, EReal.coe_mul_top_of_pos (by norm_num)]
    have : sg ⊤ = 1 := by simp [sg, Ideal.div]
    rw [this, mul_one]
    exact one_add_one
  | coe r =>
    rw [Ideal.tanh_coe, ← EReal.coe_mul, sg_coe, ← EReal.coe_mul, ← real_tanh]
    rfl

/-- A gated path is the SiLU of the double, where the entry is not minus infinity. -/
theorem path (z : EReal) (h : z ≠ ⊥) :
    z + z * Ideal.tanh z = ((2 : ℝ) : EReal) * z * sg (((2 : ℝ) : EReal) * z) := by
  induction z with
  | bot => exact absurd rfl h
  | top =>
    rw [mul_right_comm, ← gate, Ideal.tanh_top, mul_one]
    rw [one_add_one,
      EReal.coe_mul_top_of_pos (by norm_num), EReal.top_add_top]
  | coe r =>
    rw [mul_right_comm, ← gate, Ideal.tanh_coe]
    rw [← EReal.coe_one, ← EReal.coe_add, ← EReal.coe_mul, ← EReal.coe_mul, ← EReal.coe_add]
    congr 1
    ring

/-- A nonnegative real factor moves out of a sum of extended reals. -/
theorem sum_scale {n : ℕ} (a : ℝ) (ha : 0 ≤ a) (f : Fin n → EReal) :
    ∑ k, (a : EReal) * f k = (a : EReal) * ∑ k, f k := by
  classical
  refine Finset.induction_on (Finset.univ : Finset (Fin n)) (by simp) fun k s hk ih => ?_
  rw [Finset.sum_insert hk, Finset.sum_insert hk, ih,
    EReal.left_distrib_of_nonneg_of_ne_top (by exact_mod_cast ha) (EReal.coe_ne_top a)]

/-- A gate in the call's form times a sum whose weights are halved is the logistic gate times the sum. -/
theorem gated_sum {n : ℕ} (g : EReal) (u w : Fin n → EReal) :
    (1 + Ideal.tanh g) * ∑ k, u k * (Ideal.ofBits .f32 0x3F000000#32 * w k)
      = sg (Ideal.ofBits .f32 0x40000000#32 * g) * ∑ k, u k * w k := by
  rw [gate, half_eq, two_eq]
  have e : ∀ k, u k * (((1 / 2 : ℝ) : EReal) * w k) = ((1 / 2 : ℝ) : EReal) * (u k * w k) :=
    fun k => mul_left_comm _ _ _
  simp only [e]
  rw [sum_scale _ (by norm_num), mul_mul_mul_comm, mul_comm (((2 : ℝ)) : EReal), mul_assoc, mul_left_comm,
    ← mul_assoc]
  rw [← EReal.coe_mul]
  norm_num

/-- A halved sum with a halved bias is half of the sum with the bias. -/
theorem half_affine {n : ℕ} (u w : Fin n → EReal) (b : EReal) :
    (∑ k, u k * (Ideal.ofBits .f32 0x3F000000#32 * w k)) + Ideal.ofBits .f32 0x3F000000#32 * b
      = ((1 / 2 : ℝ) : EReal) * ((∑ k, u k * w k) + b) := by
  rw [half_eq]
  have e : ∀ k, u k * (((1 / 2 : ℝ) : EReal) * w k) = ((1 / 2 : ℝ) : EReal) * (u k * w k) :=
    fun k => mul_left_comm _ _ _
  simp only [e]
  rw [sum_scale _ (by norm_num),
    ← EReal.left_distrib_of_nonneg_of_ne_top (by exact_mod_cast (by norm_num : (0 : ℝ) ≤ 1 / 2)) (EReal.coe_ne_top _)]

/-- The gated linear unit from the two halves. -/
theorem unit (v g : EReal) :
    ((1 / 2 : ℝ) : EReal) * v * (1 + Ideal.tanh (((1 / 2 : ℝ) : EReal) * g)) = v * sg g := by
  rw [gate, ← mul_assoc ((2 : ℝ) : EReal) _ g, ← EReal.coe_mul, show (2 : ℝ) * (1 / 2) = 1 by norm_num, EReal.coe_one, one_mul]
  rw [mul_mul_mul_comm, ← EReal.coe_mul, show (1 / 2 : ℝ) * 2 = 1 by norm_num, EReal.coe_one, one_mul]

end Cert.RealLemmas
-- ==== Proof.MergeClaim.lean ====
/- Hand-written: the merge and its reference have equal results over the extended reals. -/
module

public import proofs.«01_k».proof.Defs
public import proofs.«01_k».proof.Proof.Gen.MergeReferenceIdeal.Run
public import proofs.«01_k».proof.Proof.Gen.Pre_gated_paths_above_minus_infinity
public import proofs.«01_k».proof.Proof.MergeValue
public import proofs.«01_k».proof.Proof.RealLemmas

@[expose] public section

set_option maxRecDepth 16384

noncomputable section

open Idealize.ShloMosaic Idealize.ShloMosaic.TcCoe Idealize.SL.Sem
open Cert.RealLemmas Cert.MergeIdeal.Join
open Cert.MergeIdeal (S2x16384x1024 S2x16384x512 S2x16384x8192 S8x3072 S512x1024 S1024 S3x512x1024 S1024x1024)

namespace Cert.MergeProof

/-- Two, as the reference prints it. -/
abbrev two : EReal := Ideal.ofBits .f32 0x40000000#32

/-- The tanh form of GELU, with the reference's cube. -/
def gelR (x : EReal) : EReal :=
  x * (half * (1 + Ideal.tanh (Ideal.ofBits .f32 0x3F4C422A#32 * (x + Ideal.ofBits .f32 0x3D372713#32 * (x * x * x)))))

/-- A gated path: the SiLU of twice `z`, times `y`. -/
def pathR (z y : EReal) : EReal := two * z * sg (two * z) * y

section

variable (X : FVec Ideal S2x16384x1024 .f32) (YA YB YC : FVec Ideal S2x16384x512 .bf16)
  (P : FVec Ideal S2x16384x8192 .bf16) (M : FVec Ideal S8x3072 .f32) (GW : FVec Ideal S512x1024 .f32)
  (GB : FVec Ideal S1024 .f32) (WB : FVec Ideal S3x512x1024 .f32) (WO : FVec Ideal S1024x1024 .f32)
  (FG : FVec Ideal S1024 .f32)

/-- The linear readout of branch A, at one of its 1024 columns. -/
def gluR (b : Fin 2) (r : Fin 16384) (n : Fin 1024) : EReal :=
  (∑ k : Fin 512, gelR (YA (ix3 b r k)) * GW (ix2 k n)) + GB (ix1 n)

/-- The gated readout of branch A. -/
def outR (b : Fin 2) (r : Fin 16384) (k : Fin 512) : EReal :=
  gluR YA GW GB b r ⟨k.val, by omega⟩ * sg (gluR YA GW GB b r ⟨512 + k.val, by omega⟩)

/-- The three branches' projections, each times its gate, added up. -/
def mrgR (b : Fin 2) (r : Fin 16384) (n : Fin 1024) : EReal :=
  sg (two * P (ix3 b r ⟨5120 + n.val, by omega⟩))
      * (∑ k : Fin 512, pathR (P (ix3 b r ⟨512 + k.val, by omega⟩)) (outR YA GW GB b r k) * WB (ix3 0 k n))
    + sg (two * P (ix3 b r ⟨5120 + (1024 + n.val), by omega⟩))
      * (∑ k : Fin 512, pathR (P (ix3 b r ⟨2560 + k.val, by omega⟩)) (YB (ix3 b r k)) * WB (ix3 1 k n))
    + sg (two * P (ix3 b r ⟨5120 + (2048 + n.val), by omega⟩))
      * (∑ k : Fin 512, pathR (P (ix3 b r ⟨4608 + k.val, by omega⟩)) (YC (ix3 b r k)) * WB (ix3 2 k n))

/-- The token after the gated residual. -/
def tokR (b : Fin 2) (r : Fin 16384) (n : Fin 1024) : EReal :=
  X (ix3 b r n) + M (ix2 ⟨b.val, by omega⟩ ⟨2048 + n.val, by omega⟩)
    * ∑ j : Fin 1024, mrgR YA YB YC P GW GB WB b r j * WO (ix2 j n)

/-- The reference's result. -/
def REF : FVec Ideal S2x16384x1024 .f32 := fun i =>
  tokR X YA YB YC P M GW GB WB WO (i 0) (i 1) (i 2)
    * Ideal.rsqrt (Ideal.div (∑ k : Fin 1024, tokR X YA YB YC P M GW GB WB WO (i 0) (i 1) k * tokR X YA YB YC P M GW GB WB WO (i 0) (i 1) k)
        (Ideal.ofBits .f32 0x44800000#32) + Ideal.ofBits .f32 0x358637BD#32)
    * FG (ix1 (i 2))

/-- The two spellings of GELU agree. -/
theorem gel_eq (x : EReal) : gel x = gelR x := by
  rw [gel, gelR, mul_comm x (x * x)]

/-- The call's readout is half the reference's. -/
theorem glu_eq (b : Fin 2) (r : Fin 16384) (n : Fin 1024) :
    glu YA GW GB b r n = (((1 / 2 : ℝ)) : EReal) * gluR YA GW GB b r n := by
  simp only [glu, gluR, gel_eq]
  exact half_affine _ _ _

/-- The gated readouts agree. -/
theorem out_eq (b : Fin 2) (r : Fin 16384) (k : Fin 512) :
    outA YA GW GB b r k = outR YA GW GB b r k := by
  rw [outA, outR, glu_eq, glu_eq]
  exact unit _ _

/-- The gated paths agree where the entry is not minus infinity. -/
theorem path_eq (z y : EReal) (h : z ≠ ⊥) : Cert.MergeIdeal.Join.path z y = pathR z y := by
  rw [Cert.MergeIdeal.Join.path, pathR, Cert.RealLemmas.path z h, show two = ((2 : ℝ) : EReal) from two_eq]

/-- The merged branches agree, the three gated paths being above minus infinity. -/
theorem mrg_eq (hz : ∀ (b : Fin 2) (r : Fin 16384) (k : Fin 512), P (ix3 b r ⟨512 + k.val, by omega⟩) ≠ ⊥
      ∧ P (ix3 b r ⟨2560 + k.val, by omega⟩) ≠ ⊥ ∧ P (ix3 b r ⟨4608 + k.val, by omega⟩) ≠ ⊥)
    (b : Fin 2) (r : Fin 16384) (n : Fin 1024) :
    mrg YA YB YC P GW GB WB b r n = mrgR YA YB YC P GW GB WB b r n := by
  rw [mrg, mrgR]
  simp only [out_eq, path_eq _ _ (hz b r _).1, path_eq _ _ (hz b r _).2.1, path_eq _ _ (hz b r _).2.2]
  rw [gated_sum, gated_sum, gated_sum]
  simp only [show 6144 + n.val = 5120 + (1024 + n.val) by omega, show 7168 + n.val = 5120 + (2048 + n.val) by omega]

/-- The results agree, the three gated paths being above minus infinity. -/
theorem out_ref (hz : ∀ (b : Fin 2) (r : Fin 16384) (k : Fin 512), P (ix3 b r ⟨512 + k.val, by omega⟩) ≠ ⊥
      ∧ P (ix3 b r ⟨2560 + k.val, by omega⟩) ≠ ⊥ ∧ P (ix3 b r ⟨4608 + k.val, by omega⟩) ≠ ⊥) :
    OUT X YA YB YC P M GW GB WB WO FG = REF X YA YB YC P M GW GB WB WO FG := by
  have e : tok X YA YB YC P M GW GB WB WO = tokR X YA YB YC P M GW GB WB WO := by
    funext b r n
    simp only [tok, tokR, mrg_eq YA YB YC P GW GB WB hz]
  unfold OUT REF
  rw [e]

end

/-- Three conjoined comparisons that hold. -/
theorem and3 (p q r : Prop) [Decidable p] [Decidable q] [Decidable r]
    (h : IntOp.andi (IntOp.andi (BitVec.ofBool (decide p)) (BitVec.ofBool (decide q))) (BitVec.ofBool (decide r)) = 1#1) :
    p ∧ q ∧ r := by
  revert h
  by_cases hp : p <;> by_cases hq : q <;> by_cases hr : r <;> simp [hp, hq, hr, IntOp.andi]

/-- The precondition, entry by entry. -/
theorem entries (m : (ℓ : Loc Cert.MergeIdeal.nD Cert.MergeIdeal.τ Cert.MergeIdeal.sig) → Buf (Elt Ideal) ℓ)
    (h : Cert.Pre_MergeIdeal_gated_paths_above_minus_infinity m) (c : Dev Cert.MergeIdeal.nD)
    (b : Fin 2) (r : Fin 16384) (k : Fin 512) : aP m c (ix3 b r ⟨512 + k.val, by omega⟩) ≠ ⊥
      ∧ aP m c (ix3 b r ⟨2560 + k.val, by omega⟩) ≠ ⊥ ∧ aP m c (ix3 b r ⟨4608 + k.val, by omega⟩) ≠ ⊥ := by
  have e := congrFun (h c) (ix3 b r k)
  simp only [Cert.Pre_gated_paths_above_minus_infinity.fn] at e
  revert e
  pointwise
  intro e
  obtain ⟨h1, h2, h3⟩ := and3 _ _ _ e
  exact ⟨ne_bot_of_gt h1, ne_bot_of_gt h2, ne_bot_of_gt h3⟩

set_option maxHeartbeats 4000000 in
/-- The reference's result is its reference form. -/
theorem reference (m : (ℓ : Loc Cert.MergeReferenceIdeal.nD Cert.MergeReferenceIdeal.τ Cert.MergeReferenceIdeal.sig) → Buf (Elt Ideal) ℓ)
    (c : Dev Cert.MergeReferenceIdeal.nD) :
    Cert.MergeReferenceIdeal.Value.res_main_v92 m c
      = REF (m ((c.tc : Thread Cert.MergeReferenceIdeal.nD Cert.MergeReferenceIdeal.τ).loc Cert.MergeReferenceIdeal.main_arg0))
        (m ((c.tc : Thread Cert.MergeReferenceIdeal.nD Cert.MergeReferenceIdeal.τ).loc Cert.MergeReferenceIdeal.main_arg1))
        (m ((c.tc : Thread Cert.MergeReferenceIdeal.nD Cert.MergeReferenceIdeal.τ).loc Cert.MergeReferenceIdeal.main_arg2))
        (m ((c.tc : Thread Cert.MergeReferenceIdeal.nD Cert.MergeReferenceIdeal.τ).loc Cert.MergeReferenceIdeal.main_arg3))
        (m ((c.tc : Thread Cert.MergeReferenceIdeal.nD Cert.MergeReferenceIdeal.τ).loc Cert.MergeReferenceIdeal.main_arg4))
        (m ((c.tc : Thread Cert.MergeReferenceIdeal.nD Cert.MergeReferenceIdeal.τ).loc Cert.MergeReferenceIdeal.main_arg5))
        (m ((c.tc : Thread Cert.MergeReferenceIdeal.nD Cert.MergeReferenceIdeal.τ).loc Cert.MergeReferenceIdeal.main_arg6))
        (m ((c.tc : Thread Cert.MergeReferenceIdeal.nD Cert.MergeReferenceIdeal.τ).loc Cert.MergeReferenceIdeal.main_arg7))
        (m ((c.tc : Thread Cert.MergeReferenceIdeal.nD Cert.MergeReferenceIdeal.τ).loc Cert.MergeReferenceIdeal.main_arg8))
        (m ((c.tc : Thread Cert.MergeReferenceIdeal.nD Cert.MergeReferenceIdeal.τ).loc Cert.MergeReferenceIdeal.main_arg9))
        (m ((c.tc : Thread Cert.MergeReferenceIdeal.nD Cert.MergeReferenceIdeal.τ).loc Cert.MergeReferenceIdeal.main_arg10)) := by
  funext i
  pointwise [Cert.MergeReferenceIdeal.Value.res_main_v92, REF, tokR, mrgR, outR, gluR, gelR, pathR, sg]

set_option maxHeartbeats 1600000 in
/-- The kernel's result and the reference's are equal, entry by entry, where the gated paths are above minus infinity. -/
theorem value : Cert.algebraic_MergeIdeal_MergeReferenceIdeal_pre_gated_paths_above_minus_infinity := by
  intro m g m' g' hpre hagree
  refine ⟨fun c => OUT (aX m c) (aYA m c) (aYB m c) (aYC m c) (aP m c) (aM m c) (aGW m c) (aGB m c) (aWB m c)
    (aWO m c) (aFG m c), ?_, ?_⟩
  · run_from Cert.MergeIdeal.Gen.run_main m g
    exact (hc.1 16).trans (Cert.MergeIdeal.Join.final m c)
  · run_from Cert.MergeReferenceIdeal.Value.run (F := Ideal) m' g'
    rw [out_ref _ _ _ _ _ _ _ _ _ _ _ (entries m hpre c), reference m' c]
    simp only [hagree c]

end Cert.MergeProof
-- ==== Proof.NattenRef.lean ====
/- Hand-written: the attention's reference, entry by entry. -/
module

public import proofs.«01_k».proof.Proof.Gen.NattenReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.NattenReferenceIdeal.Read

open Cert.NattenReferenceIdeal Cert.NattenReferenceIdeal.Gen Cert.NattenReferenceIdeal.Facts

/-- The rows of every row's window. -/
def rowI : IVec S256x8 32 := addi (broadcastInDim S256x8 ![0, 1] bcast_S256x1_S256x8_0_1 (broadcastInDim S256x1 ![0] bcast_S256_S256x1_0 (minsi (broadcastInDim S256 ![] bcast_S_S256 (id (constantI S_ 32 248#32))) (maxsi (broadcastInDim S256 ![] bcast_S_S256 (id (constantI S_ 32 0#32))) (subi (iotaInDim S256 32 0) (broadcastInDim S256 ![] bcast_S_S256 (constantI S_ 32 4#32))))))) (broadcastInDim S256x8 ![0, 1] bcast_S1x8_S256x8_0_1 (broadcastInDim S1x8 ![1] bcast_S8_S1x8_1 (iotaInDim S8 32 0)))

/-- The columns of every column's window. -/
def colI : IVec S64x16 32 := addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))

/-- The tokens of every token's window. -/
def tabW : IVec S16384x128x1 32 := broadcastInDim S16384x128x1 ![0, 1] bcast_S16384x128_S16384x128x1_0_1 (shapeCast _ (addi (broadcastInDim S256x64x8x16 ![0, 1, 2, 3] bcast_S256x1x8x1_S256x64x8x16_0_1_2_3 (muli (broadcastInDim S256x1x8x1 ![0, 2] bcast_S256x8_S256x1x8x1_0_2 rowI) (broadcastInDim S256x1x8x1 ![] bcast_S_S256x1x8x1 (constantI S_ 32 64#32)))) (broadcastInDim S256x64x8x16 ![0, 1, 2, 3] bcast_S1x64x1x16_S256x64x8x16_0_1_2_3 (broadcastInDim S1x64x1x16 ![1, 3] bcast_S64x16_S1x64x1x16_1_3 colI))) shapeCasts_S256x64x8x16_S16384x128)

/-- The entries of the relative bias that every token's window reads. -/
def tabB : IVec S16384x128x1 32 := broadcastInDim S16384x128x1 ![0, 1] bcast_S16384x128_S16384x128x1_0_1 (shapeCast _ (addi (broadcastInDim S256x64x8x16 ![0, 1, 2, 3] bcast_S256x1x8x1_S256x64x8x16_0_1_2_3 (muli (broadcastInDim S256x1x8x1 ![0, 2] bcast_S256x8_S256x1x8x1_0_2 (addi (subi rowI (broadcastInDim S256x8 ![0, 1] bcast_S256x1_S256x8_0_1 (broadcastInDim S256x1 ![0] bcast_S256_S256x1_0 (iotaInDim S256 32 0)))) (broadcastInDim S256x8 ![] bcast_S_S256x8 (constantI S_ 32 7#32)))) (broadcastInDim S256x1x8x1 ![] bcast_S_S256x1x8x1 (constantI S_ 32 31#32)))) (broadcastInDim S256x64x8x16 ![0, 1, 2, 3] bcast_S1x64x1x16_S256x64x8x16_0_1_2_3 (broadcastInDim S1x64x1x16 ![1, 3] bcast_S64x16_S1x64x1x16_1_3 (addi (subi colI (broadcastInDim S64x16 ![0, 1] bcast_S64x1_S64x16_0_1 (broadcastInDim S64x1 ![0] bcast_S64_S64x1_0 (iotaInDim S64 32 0)))) (broadcastInDim S64x16 ![] bcast_S_S64x16 (constantI S_ 32 15#32)))))) shapeCasts_S256x64x8x16_S16384x128)

section

variable (A0 : FVec Ideal S2x16384x512 .bf16) (A1 : FVec Ideal S2x128x512x128 .bf16) (A2 : FVec Ideal S2x16384x8192 .bf16)
  (A3 : FVec Ideal S2x256x8192 .bf16) (A4 : FVec Ideal S8x15x31 .f32)

/-- The queries by head. -/
def Q : FVec Ideal S2x16384x8x64 .f32 := shapeCast _ (extf .f32 A0 bitsLt_bf16_f32) shapeCasts_S2x16384x512_S2x16384x8x64

/-- The keys of every window. -/
def GK : FVec Ideal S2x16384x128x8x64 .f32 := Host.gather gather_S2x16384x8x64_S16384x128x1_S2x16384x128x8x64_034_1_n_n_1_2_21864 (shapeCast _ (transpose S2x128x128x512 [0, 1, 3, 2] (extf .f32 A1 bitsLt_bf16_f32) transposes_S2x128x512x128_S2x128x128x512_0_1_3_2) shapeCasts_S2x128x128x512_S2x16384x8x64) tabW

/-- The values of every window. -/
def GV : FVec Ideal S2x16384x128x8x64 .f32 := Host.gather gather_S2x16384x8x64_S16384x128x1_S2x16384x128x8x64_034_1_n_n_1_2_21864 (shapeCast _ (extf .f32 (extractStridedSlice S2x16384x512 ![0, 0, 2048] A2 slices_S2x16384x8192_S2x16384x512_0_0_2048) bitsLt_bf16_f32) shapeCasts_S2x16384x512_S2x16384x8x64) tabW

/-- The biases of every window. -/
def GB : FVec Ideal S8x16384x128 .f32 := Host.gather gather_S8x465_S16384x128x1_S8x16384x128_0_1_n_n_1_2_81 (shapeCast _ A4 shapeCasts_S8x15x31_S8x465) tabB

/-- The keys of the context by head. -/
def KC : FVec Ideal S2x256x8x64 .f32 := shapeCast _ (extf .f32 (extractStridedSlice S2x256x512 ![0, 0, 1536] A3 slices_S2x256x8192_S2x256x512_0_0_1536) bitsLt_bf16_f32) shapeCasts_S2x256x512_S2x256x8x64

/-- The values of the context by head. -/
def VC : FVec Ideal S2x256x8x64 .f32 := shapeCast _ (extf .f32 (extractStridedSlice S2x256x512 ![0, 0, 2048] A3 slices_S2x256x8192_S2x256x512_0_0_2048) bitsLt_bf16_f32) shapeCasts_S2x256x512_S2x256x8x64

end

/-- The scores of the windows and of the context side by side. -/
def CAT (q : FVec Ideal S2x16384x8x64 .f32) (gk : FVec Ideal S2x16384x128x8x64 .f32) (gb : FVec Ideal S8x16384x128 .f32)
    (kc : FVec Ideal S2x256x8x64 .f32) : FVec Ideal S2x8x16384x384 .f32 := concatenate S2x8x16384x384 3 [⟨S2x8x16384x128, (addf (mulf (Host.dotGeneral dot_S2x16384x8x64_S2x16384x128x8x64_S2x8x16384x128_3_4_n_2_021_031 none q gk) (broadcastInDim S2x8x16384x128 ![] bcast_S_S2x8x16384x128 (Host.log (constant S_ .f32 0x40000000#32)))) (broadcastInDim S2x8x16384x128 ![0, 1, 2, 3] bcast_S1x8x16384x128_S2x8x16384x128_0_1_2_3 (broadcastInDim S1x8x16384x128 ![1, 2, 3] bcast_S8x16384x128_S1x8x16384x128_1_2_3 gb)))⟩, ⟨S2x8x16384x256, (mulf (Host.dotGeneral dot_S2x16384x8x64_S2x256x8x64_S2x8x16384x256_3_3_1_1_02_02 none q kc) (broadcastInDim S2x8x16384x256 ![] bcast_S_S2x8x16384x256 (Host.log (constant S_ .f32 0x40000000#32))))⟩] concatenates_S2x8x16384x128_S2x8x16384x256_S2x8x16384x384_d3

/-- The weights before their total divides them. -/
def EX (s : FVec Ideal S2x8x16384x384 .f32) : FVec Ideal S2x8x16384x384 .f32 := Host.exp (subf s (broadcastInDim S2x8x16384x384 ![0, 1, 2, 3] bcast_S2x8x16384x1_S2x8x16384x384_0_1_2_3 (broadcastInDim S2x8x16384x1 ![0, 1, 2] bcast_S2x8x16384_S2x8x16384x1_0_1_2 (maximumf (broadcastInDim S2x8x16384 ![] bcast_S_S2x8x16384 (constant S_ .f32 0xFF800000#32)) (Host.reduce FloatOps.maximumf s (constant S_ .f32 0xFF800000#32) reducesTo_S2x8x16384x384_S2x8x16384_d3 h_S_)))))

/-- The weights. -/
def PR (e : FVec Ideal S2x8x16384x384 .f32) : FVec Ideal S2x8x16384x384 .f32 := Host.divf e (broadcastInDim S2x8x16384x384 ![0, 1, 2, 3] bcast_S2x8x16384x1_S2x8x16384x384_0_1_2_3 (broadcastInDim S2x8x16384x1 ![0, 1, 2] bcast_S2x8x16384_S2x8x16384x1_0_1_2 (Host.reduceAdd e (constant S_ .f32 0x00000000#32) reducesTo_S2x8x16384x384_S2x8x16384_d3 h_S_)))

/-- The weighted values. -/
def RES (p : FVec Ideal S2x8x16384x384 .f32) (gv : FVec Ideal S2x16384x128x8x64 .f32) (vc : FVec Ideal S2x256x8x64 .f32) :
    FVec Ideal S2x16384x512 .bf16 := truncf .bf16 (shapeCast _ (addf (Host.dotGeneral dot_S2x8x16384x128_S2x16384x128x8x64_S2x16384x8x64_3_2_n_4_021_013 none (extractStridedSlice S2x8x16384x128 ![0, 0, 0, 0] p slices_S2x8x16384x384_S2x8x16384x128_0_0_0_0) gv) (transpose S2x16384x8x64 [0, 3, 1, 2] (Host.dotGeneral dot_S2x256x8x64_S2x8x16384x256_S2x8x64x16384_1_3_3_2_02_01 none vc (extractStridedSlice S2x8x16384x256 ![0, 0, 0, 128] p slices_S2x8x16384x384_S2x8x16384x256_0_0_0_128)) transposes_S2x8x64x16384_S2x16384x8x64_0_3_1_2)) shapeCasts_S2x16384x8x64_S2x16384x512) bitsLt_bf16_f32

set_option maxHeartbeats 4000000 in
/-- The reference's result from these. -/
theorem res_eq (m : (ℓ : Loc nD τ sig) → Buf (Elt Ideal) ℓ) (c : Dev nD) :
    Cert.NattenReferenceIdeal.Value.res_main_v93 m c
      = RES (PR (EX (CAT (Q (m ((c.tc : Thread nD τ).loc main_arg0))) (GK (m ((c.tc : Thread nD τ).loc main_arg1)))
          (GB (m ((c.tc : Thread nD τ).loc main_arg4))) (KC (m ((c.tc : Thread nD τ).loc main_arg3))))))
          (GV (m ((c.tc : Thread nD τ).loc main_arg2))) (VC (m ((c.tc : Thread nD τ).loc main_arg3))) := rfl

/-- A window's entry is the token that the table names. -/
theorem gather_tokens (x : FVec Ideal S2x16384x8x64 .f32) (idx : IVec S16384x128x1 32) (b : Fin 2) (t : Fin 16384)
    (n : Fin 128) (h : Fin 8) (d : Fin 64) :
    Host.gather gather_S2x16384x8x64_S16384x128x1_S2x16384x128x8x64_034_1_n_n_1_2_21864 x idx (ix5 b t n h d)
      = x (ix4 b ⟨min (idx (ix3 t n 0)).toInt.toNat 16383, by omega⟩ h d) := by
  refine congrArg x ?_
  have hs : gather_S2x16384x8x64_S16384x128x1_S2x16384x128x8x64_034_1_n_n_1_2_21864.siIdx (ix5 b t n h d) ⟨0, by decide⟩
      = ix3 t n 0 := by
    funext a; fin_cases a <;> rfl
  funext a
  fin_cases a
  · exact Fin.ext (show 0 + 0 + b.val = b.val by omega)
  · refine Fin.ext ?_
    show min (idx (gather_S2x16384x8x64_S16384x128x1_S2x16384x128x8x64_034_1_n_n_1_2_21864.siIdx (ix5 b t n h d) ⟨0, by decide⟩)).toInt.toNat 16383 + 0 + 0 = _
    rw [hs]; rfl
  · exact Fin.ext (show 0 + 0 + h.val = h.val by omega)
  · exact Fin.ext (show 0 + 0 + d.val = d.val by omega)

/-- A bias is the entry that the table names. -/
theorem gather_bias (x : FVec Ideal S8x465 .f32) (idx : IVec S16384x128x1 32) (t : Fin 16384)
    (n : Fin 128) (h : Fin 8) :
    Host.gather gather_S8x465_S16384x128x1_S8x16384x128_0_1_n_n_1_2_81 x idx (ix3 h t n)
      = x (ix2 h ⟨min (idx (ix3 t n 0)).toInt.toNat 464, by omega⟩) := by
  refine congrArg x ?_
  have hs : gather_S8x465_S16384x128x1_S8x16384x128_0_1_n_n_1_2_81.siIdx (ix3 h t n) ⟨0, by decide⟩
      = ix3 t n 0 := by
    funext a; fin_cases a <;> rfl
  funext a
  fin_cases a
  · exact Fin.ext (show 0 + 0 + h.val = h.val by omega)
  · refine Fin.ext ?_
    show min (idx (gather_S8x465_S16384x128x1_S8x16384x128_0_1_n_n_1_2_81.siIdx (ix3 h t n) ⟨0, by decide⟩)).toInt.toNat 464 + 0 + 0 = _
    rw [hs]; rfl

/-- The printed start of a maximum. -/
abbrev low : EReal := Ideal.ofBits .f32 0xFF800000#32

/-- The logarithm of two, as the reference takes it. -/
abbrev ln2 : EReal := Ideal.log (Ideal.ofBits .f32 0x40000000#32)

/-- The first row of a row's window. -/
abbrev r0 (r : ℕ) : ℕ := min (r - 4) 248

/-- The first column of a column's window. -/
abbrev c0 (c : ℕ) : ℕ := min (c - 8) 48

/-- A token of a token's window. -/
def wtok (t : Fin 16384) (n : Fin 128) : Fin 16384 :=
  ⟨(r0 (t.val / 64) + n.val / 16) * 64 + (c0 (t.val % 64) + n.val % 16), by unfold r0 c0; omega⟩

/-- Where the relative bias of a row is. -/
def relr (t : Fin 16384) (n : Fin 128) : Fin 15 :=
  ⟨r0 (t.val / 64) + n.val / 16 + 7 - t.val / 64, by unfold r0; omega⟩

/-- Where the relative bias of a column is. -/
def relc (t : Fin 16384) (n : Fin 128) : Fin 31 :=
  ⟨c0 (t.val % 64) + n.val % 16 + 15 - t.val % 64, by unfold c0; omega⟩

/-- The rows of the windows, as numbers. -/
theorem rowI_point : ∀ (r : Fin 256) (i : Fin 8), rowI (ix2 r i) = BitVec.ofNat 32 (r0 r.val + i.val) := by
  decide +kernel

/-- The columns of the windows, as numbers. -/
theorem colI_point : ∀ (r : Fin 64) (i : Fin 16), colI (ix2 r i) = BitVec.ofNat 32 (c0 r.val + i.val) := by
  decide +kernel

/-- A small number read back from its word. -/
theorem toNat_word (k : ℕ) (h : k < 2147483648) : (BitVec.ofNat 32 k).toInt.toNat = k := by
  rw [BitVec.toInt_eq_toNat_of_lt (by rw [BitVec.toNat_ofNat]; omega), BitVec.toNat_ofNat]
  omega

/-- The table of tokens. -/
theorem tabW_point (t : Fin 16384) (n : Fin 128) : tabW (ix3 t n 0) = BitVec.ofNat 32 (wtok t n).val := by
  pointwise [tabW]
  rw [rowI_point, colI_point]
  apply BitVec.eq_of_toNat_eq
  simp only [IntOp.addi, IntOp.muli, BitVec.toNat_add, BitVec.toNat_mul, BitVec.toNat_ofNat, wtok, r0, c0]
  omega

/-- The table of biases. -/
theorem tabB_point (t : Fin 16384) (n : Fin 128) :
    tabB (ix3 t n 0) = BitVec.ofNat 32 ((relr t n).val * 31 + (relc t n).val) := by
  pointwise [tabB]
  rw [rowI_point, colI_point]
  apply BitVec.eq_of_toNat_eq
  simp only [IntOp.addi, IntOp.subi, IntOp.muli, BitVec.toNat_add, BitVec.toNat_sub, BitVec.toNat_mul, BitVec.toNat_ofNat, relr, relc, r0, c0]
  omega

/-- A window's entry, at a known token. -/
theorem gather_at (x : FVec Ideal S2x16384x8x64 .f32) (idx : IVec S16384x128x1 32) (b : Fin 2) (t : Fin 16384) (n : Fin 128)
    (h : Fin 8) (d : Fin 64) (w : Fin 16384) (hw : idx (ix3 t n 0) = BitVec.ofNat 32 w.val) :
    Host.gather gather_S2x16384x8x64_S16384x128x1_S2x16384x128x8x64_034_1_n_n_1_2_21864 x idx (ix5 b t n h d) = x (ix4 b w h d) := by
  rw [gather_tokens]
  have e : (⟨min (idx (ix3 t n 0)).toInt.toNat 16383, by omega⟩ : Fin 16384) = w :=
    Fin.ext (by show min (idx (ix3 t n 0)).toInt.toNat 16383 = w.val; rw [hw, toNat_word _ (by omega)]; omega)
  rw [e]

/-- A bias, at a known place. -/
theorem bias_at (x : FVec Ideal S8x465 .f32) (idx : IVec S16384x128x1 32) (t : Fin 16384) (n : Fin 128)
    (h : Fin 8) (w : Fin 465) (hw : idx (ix3 t n 0) = BitVec.ofNat 32 w.val) :
    Host.gather gather_S8x465_S16384x128x1_S8x16384x128_0_1_n_n_1_2_81 x idx (ix3 h t n) = x (ix2 h w) := by
  rw [gather_bias]
  have e : (⟨min (idx (ix3 t n 0)).toInt.toNat 464, by omega⟩ : Fin 465) = w :=
    Fin.ext (by show min (idx (ix3 t n 0)).toInt.toNat 464 = w.val; rw [hw, toNat_word _ (by omega)]; omega)
  rw [e]

section

variable (A0 : FVec Ideal S2x16384x512 .bf16) (A1 : FVec Ideal S2x128x512x128 .bf16) (A2 : FVec Ideal S2x16384x8192 .bf16)
  (A3 : FVec Ideal S2x256x8192 .bf16) (A4 : FVec Ideal S8x15x31 .f32)

/-- A query. -/
theorem Q_point (b : Fin 2) (t : Fin 16384) (h : Fin 8) (d : Fin 64) :
    Q A0 (ix4 b t h d) = A0 (ix3 b t ⟨h.val * 64 + d.val, by omega⟩) := by
  pointwise [Q]

/-- A key of the context. -/
theorem KC_point (b : Fin 2) (n : Fin 256) (h : Fin 8) (d : Fin 64) :
    KC A3 (ix4 b n h d) = A3 (ix3 b n ⟨1536 + (h.val * 64 + d.val), by omega⟩) := by
  pointwise [KC]

/-- A value of the context. -/
theorem VC_point (b : Fin 2) (n : Fin 256) (h : Fin 8) (d : Fin 64) :
    VC A3 (ix4 b n h d) = A3 (ix3 b n ⟨2048 + (h.val * 64 + d.val), by omega⟩) := by
  pointwise [VC]

/-- A key of the latents. -/
theorem keys (b : Fin 2) (w : Fin 16384) (h : Fin 8) (d : Fin 64) :
    (shapeCast S2x16384x8x64
        (transpose S2x128x128x512 [0, 1, 3, 2] (extf .f32 A1 bitsLt_bf16_f32)
          transposes_S2x128x512x128_S2x128x128x512_0_1_3_2)
        shapeCasts_S2x128x128x512_S2x16384x8x64) (ix4 b w h d)
      = A1 (ix4 b ⟨w.val / 128, by omega⟩ ⟨h.val * 64 + d.val, by omega⟩ ⟨w.val % 128, by omega⟩) := by
  pointwise

/-- A key of a window. -/
theorem GK_point (b : Fin 2) (t : Fin 16384) (n : Fin 128) (h : Fin 8) (d : Fin 64) :
    GK A1 (ix5 b t n h d) = A1 (ix4 b ⟨(wtok t n).val / 128, by omega⟩ ⟨h.val * 64 + d.val, by omega⟩ ⟨(wtok t n).val % 128, by omega⟩) := by
  unfold GK
  rw [gather_at _ _ b t n h d (wtok t n) (tabW_point t n)]
  exact keys A1 b (wtok t n) h d

/-- A value of a window. -/
theorem GV_point (b : Fin 2) (t : Fin 16384) (n : Fin 128) (h : Fin 8) (d : Fin 64) :
    GV A2 (ix5 b t n h d) = A2 (ix3 b (wtok t n) ⟨2048 + (h.val * 64 + d.val), by omega⟩) := by
  unfold GV
  rw [gather_at _ _ b t n h d (wtok t n) (tabW_point t n)]
  pointwise

/-- The relative biases in one row. -/
theorem flat (h : Fin 8) (k : Fin 465) : (shapeCast S8x465 A4 shapeCasts_S8x15x31_S8x465) (ix2 h k)
    = A4 (ix3 h ⟨k.val / 31, by omega⟩ ⟨k.val % 31, by omega⟩) := by
  pointwise

/-- A bias of a window. -/
theorem GB_point (h : Fin 8) (t : Fin 16384) (n : Fin 128) : GB A4 (ix3 h t n) = A4 (ix3 h (relr t n) (relc t n)) := by
  unfold GB
  rw [bias_at _ _ t n h ⟨(relr t n).val * 31 + (relc t n).val, by omega⟩ (tabB_point t n), flat]
  refine congrArg A4 (congrArg₂ (fun a b => ix3 h a b) (Fin.ext ?_) (Fin.ext ?_))
  · show ((relr t n).val * 31 + (relc t n).val) / 31 = (relr t n).val
    omega
  · show ((relr t n).val * 31 + (relc t n).val) % 31 = (relc t n).val
    omega

end

/-- The scores side by side, entry by entry. -/
theorem CAT_point (q : FVec Ideal S2x16384x8x64 .f32) (gk : FVec Ideal S2x16384x128x8x64 .f32) (gb : FVec Ideal S8x16384x128 .f32)
    (kc : FVec Ideal S2x256x8x64 .f32) (b : Fin 2) (h : Fin 8) (t : Fin 16384) (x : Fin 384) :
    CAT q gk gb kc (ix4 b h t x) = if hx : x.val < 128 then
        (∑ d, q (ix4 b t h d) * gk (ix5 b t ⟨x.val, hx⟩ h d)) * ln2 + gb (ix3 h t ⟨x.val, hx⟩)
      else (∑ d, q (ix4 b t h d) * kc (ix4 b ⟨x.val - 128, by omega⟩ h d)) * ln2 := by
  pointwise [CAT]

/-- The largest score of a row. -/
theorem red (s : FVec Ideal S2x8x16384x384 .f32) (b : Fin 2) (h : Fin 8) (t : Fin 16384) :
    Host.reduce FloatOps.maximumf s (constant S_ .f32 0xFF800000#32 : FVec Ideal S_ .f32) reducesTo_S2x8x16384x384_S2x8x16384_d3 h_S_ (ix3 b h t)
      = Finset.univ.fold max low fun k : Fin 384 => s (ix4 b h t k) := by
  simp only [pointwise]

/-- The weights before the total divides them, from the largest scores. -/
def EXM (s : FVec Ideal S2x8x16384x384 .f32) (R : FVec Ideal S2x8x16384 .f32) : FVec Ideal S2x8x16384x384 .f32 :=
  Host.exp (subf s (broadcastInDim S2x8x16384x384 ![0, 1, 2, 3] bcast_S2x8x16384x1_S2x8x16384x384_0_1_2_3 (broadcastInDim S2x8x16384x1 ![0, 1, 2] bcast_S2x8x16384_S2x8x16384x1_0_1_2 (maximumf (broadcastInDim S2x8x16384 ![] bcast_S_S2x8x16384 (constant S_ .f32 0xFF800000#32)) R))))

/-- A weight, from the largest score. -/
theorem EXM_point (s : FVec Ideal S2x8x16384x384 .f32) (R : FVec Ideal S2x8x16384 .f32) (b : Fin 2) (h : Fin 8) (t : Fin 16384) (x : Fin 384) :
    EXM s R (ix4 b h t x) = Ideal.exp (s (ix4 b h t x) - max low (R (ix3 b h t))) := by
  pointwise [EXM]

/-- A weight before the total divides it. -/
theorem EX_point (s : FVec Ideal S2x8x16384x384 .f32) (b : Fin 2) (h : Fin 8) (t : Fin 16384) (x : Fin 384) :
    EX s (ix4 b h t x) = Ideal.exp (s (ix4 b h t x) - max low (Finset.univ.fold max low fun k : Fin 384 => s (ix4 b h t k))) := by
  rw [← red]
  exact EXM_point s _ b h t x

/-- A weight. -/
theorem PR_point (e : FVec Ideal S2x8x16384x384 .f32) (b : Fin 2) (h : Fin 8) (t : Fin 16384) (x : Fin 384) :
    PR e (ix4 b h t x) = Ideal.div (e (ix4 b h t x)) (∑ k, e (ix4 b h t k)) := by
  pointwise [PR]

/-- The weighted values of a token. -/
theorem RES_point (p : FVec Ideal S2x8x16384x384 .f32) (gv : FVec Ideal S2x16384x128x8x64 .f32) (vc : FVec Ideal S2x256x8x64 .f32)
    (b : Fin 2) (t : Fin 16384) (x : Fin 512) :
    RES p gv vc (ix3 b t x) = ∑ n : Fin 128, p (ix4 b ⟨x.val / 64, by omega⟩ t ⟨n.val, by omega⟩) * gv (ix5 b t n ⟨x.val / 64, by omega⟩ ⟨x.val % 64, by omega⟩)
      + ∑ n : Fin 256, vc (ix4 b n ⟨x.val / 64, by omega⟩ ⟨x.val % 64, by omega⟩) * p (ix4 b ⟨x.val / 64, by omega⟩ t ⟨128 + n.val, by omega⟩) := by
  pointwise [RES]

section

variable (A0 : FVec Ideal S2x16384x512 .bf16) (A1 : FVec Ideal S2x128x512x128 .bf16) (A2 : FVec Ideal S2x16384x8192 .bf16)
  (A3 : FVec Ideal S2x256x8192 .bf16) (A4 : FVec Ideal S8x15x31 .f32)

/-- The score of a token of a window. -/
def wsc (b : Fin 2) (h : Fin 8) (t : Fin 16384) (n : Fin 128) : EReal :=
  (∑ d : Fin 64, A0 (ix3 b t ⟨h.val * 64 + d.val, by omega⟩)
    * A1 (ix4 b ⟨(wtok t n).val / 128, by omega⟩ ⟨h.val * 64 + d.val, by omega⟩ ⟨(wtok t n).val % 128, by omega⟩)) * ln2
    + A4 (ix3 h (relr t n) (relc t n))

/-- The score of a token of the context. -/
def csc (b : Fin 2) (h : Fin 8) (t : Fin 16384) (n : Fin 256) : EReal :=
  (∑ d : Fin 64, A0 (ix3 b t ⟨h.val * 64 + d.val, by omega⟩) * A3 (ix3 b n ⟨1536 + (h.val * 64 + d.val), by omega⟩)) * ln2

end

/-- The scores of a window and of the context in one row. -/
def row (s : Fin 128 → EReal) (g : Fin 256 → EReal) (x : Fin 384) : EReal :=
  if hx : x.val < 128 then s ⟨x.val, hx⟩ else g ⟨x.val - 128, by omega⟩

/-- The weight of an entry of a row before the total divides it. -/
def wgt (s : Fin 384 → EReal) (x : Fin 384) : EReal := Ideal.exp (s x - max low (Finset.univ.fold max low s))

/-- The softmax of a row times the values. -/
def soft (s : Fin 128 → EReal) (g : Fin 256 → EReal) (v : Fin 128 → EReal) (w : Fin 256 → EReal) : EReal :=
  ∑ n : Fin 128, Ideal.div (wgt (row s g) ⟨n.val, by omega⟩) (∑ k, wgt (row s g) k) * v n
    + ∑ n : Fin 256, w n * Ideal.div (wgt (row s g) ⟨128 + n.val, by omega⟩) (∑ k, wgt (row s g) k)

/-- The reference's result, entry by entry. -/
theorem res_point (m : (ℓ : Loc nD τ sig) → Buf (Elt Ideal) ℓ) (c : Dev nD) (A0 : FVec Ideal S2x16384x512 .bf16)
    (A1 : FVec Ideal S2x128x512x128 .bf16) (A2 : FVec Ideal S2x16384x8192 .bf16)
    (A3 : FVec Ideal S2x256x8192 .bf16) (A4 : FVec Ideal S8x15x31 .f32)
    (h0 : m ((c.tc : Thread nD τ).loc main_arg0) = A0) (h1 : m ((c.tc : Thread nD τ).loc main_arg1) = A1)
    (h2 : m ((c.tc : Thread nD τ).loc main_arg2) = A2) (h3 : m ((c.tc : Thread nD τ).loc main_arg3) = A3)
    (h4 : m ((c.tc : Thread nD τ).loc main_arg4) = A4) (b : Fin 2) (t : Fin 16384) (x : Fin 512) :
    (Cert.NattenReferenceIdeal.Value.res_main_v93 (F := Ideal) m c (ix3 b t x) : EReal)
      = soft (wsc A0 A1 A4 b ⟨x.val / 64, by omega⟩ t) (csc A0 A3 b ⟨x.val / 64, by omega⟩ t)
          (fun n => A2 (ix3 b (wtok t n) ⟨2048 + x.val, by omega⟩)) (fun n => A3 (ix3 b n ⟨2048 + x.val, by omega⟩)) := by
  rw [res_eq, h0, h1, h2, h3, h4, RES_point]
  have e : (⟨2048 + (x.val / 64 * 64 + x.val % 64), by omega⟩ : Fin 8192) = ⟨2048 + x.val, by omega⟩ :=
    Fin.ext (by show 2048 + (x.val / 64 * 64 + x.val % 64) = 2048 + x.val; omega)
  have er : ∀ k : Fin 384, CAT (Q A0) (GK A1) (GB A4) (KC A3) (ix4 b ⟨x.val / 64, by omega⟩ t k)
      = row (wsc A0 A1 A4 b ⟨x.val / 64, by omega⟩ t) (csc A0 A3 b ⟨x.val / 64, by omega⟩ t) k := by
    intro k
    rw [CAT_point]
    simp only [Q_point, GK_point, GB_point, KC_point]
    rfl
  simp only [PR_point, EX_point, er, GV_point, VC_point, e]
  rfl

end Cert.NattenReferenceIdeal.Read
-- ==== Proof.NattenTrip.lean ====
/- Hand-written: what one trip of the attention's loop computes, at the extended reals. -/
module

public import proofs.«01_k».proof.Proof.Gen.NattenIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.NattenIdeal.Trip

open Cert.NattenIdeal Cert.NattenIdeal.Gen

/-- The base-two logarithm of e. -/
abbrev L : EReal := (((Real.log 2)⁻¹ : ℝ) : EReal)

/-- The queries of two heads stacked: the first 128 rows keep the first head's lanes, the others the second's. -/
def q2 (q : FVec Ideal S1x128x128 .bf16) (R : Fin 256) (d : Fin 128) : EReal :=
  if h : R.val < 128 then (if d.val < 64 then q (ix3 0 ⟨R.val, h⟩ d) else 0)
  else (if d.val < 64 then 0 else q (ix3 0 ⟨R.val - 128, by omega⟩ d))

/-- The scores of the window, in base two. -/
def loc (q : FVec Ideal S1x128x128 .bf16) (kw : FVec Ideal S5x128x128 .bf16) (b : FVec Ideal S1x1x256x640 .f32)
    (R : Fin 256) (n : Fin 640) : EReal :=
  (∑ d : Fin 128, q2 q R d * kw (ix3 ⟨n.val / 128, by omega⟩ d ⟨n.val % 128, by omega⟩)) + b (ix4 0 0 R n) * L

/-- The scores of the context's 256 tokens against a pair of heads' queries. -/
def ctx (hp : Fin 4) (q : FVec Ideal S1x128x128 .bf16) (k : FVec Ideal S1x256x512 .bf16) (R : Fin 256) (n : Fin 256) : EReal :=
  ∑ d : Fin 128, q2 q R d * k (ix3 0 n ⟨128 * hp.val + d.val, by omega⟩)

/-- The row's largest score. -/
def mx (s : Fin 640 → EReal) (c : Fin 256 → EReal) : EReal :=
  max (Finset.fold max (Ideal.ofBits .f32 0xFF800000#32) s Finset.univ)
    (Finset.fold max (Ideal.ofBits .f32 0xFF800000#32) c Finset.univ)

/-- The row's weighted values over the row's total weight. -/
def att (s : Fin 640 → EReal) (c : Fin 256 → EReal) (v : Fin 640 → EReal) (x : Fin 256 → EReal) : EReal :=
  Ideal.div (∑ n, Ideal.exp2 (s n - mx s c) * v n + ∑ n, Ideal.exp2 (c n - mx s c) * x n)
    (∑ n, Ideal.exp2 (s n - mx s c) + ∑ n, Ideal.exp2 (c n - mx s c))

/-- The row of the stacked queries that lane `d` of token `r` keeps. -/
def row (r : Fin 128) (d : Fin 128) : Fin 256 := if d.val < 64 then ⟨r.val, by omega⟩ else ⟨128 + r.val, by omega⟩

/-- Below lane 64 the mask is set. -/
theorem mask_word : ∀ d : Fin 128, IntOp.cmpi CmpIPredicate.slt (BitVec.ofNat 32 d.val) 64#32 = BitVec.ofBool (decide (d.val < 64)) := by
  decide +kernel

/-- A choice by the mask is a choice by the lane. -/
theorem mask_select (d : Fin 128) (x y : EReal) :
    Scalar.select (IntOp.cmpi CmpIPredicate.slt (BitVec.ofNat 32 d.val) 64#32) x y = if d.val < 64 then x else y := by
  rw [mask_word]
  by_cases h : d.val < 64 <;> simp [h, Scalar.select]

/-- Five chunks of 128 columns are one chunk read at the quotient and the remainder. -/
theorem five (f : Fin 5 → Fin 128 → EReal) (n : Fin 640) :
    (if h : n.val < 128 then f 0 ⟨n.val, h⟩
      else if h : n.val - 128 < 128 then f 1 ⟨n.val - 128, h⟩
      else if h : n.val - 128 - 128 < 128 then f 2 ⟨n.val - 128 - 128, h⟩
      else if h : n.val - 128 - 128 - 128 < 128 then f 3 ⟨n.val - 128 - 128 - 128, h⟩
      else f 4 ⟨n.val - 128 - 128 - 128 - 128, by omega⟩)
      = f ⟨n.val / 128, by omega⟩ ⟨n.val % 128, by omega⟩ := by
  have e : ∀ (k : Fin 5) (l : Fin 128), n.val = 128 * k.val + l.val →
      f k l = f ⟨n.val / 128, by omega⟩ ⟨n.val % 128, by omega⟩ := by
    intro k l h
    exact congrArg₂ f (Fin.ext (by show k.val = n.val / 128; omega))
      (Fin.ext (by show l.val = n.val % 128; omega))
  split_ifs
  · exact e 0 _ (by simp)
  · exact e 1 _ (by simp; omega)
  · exact e 2 _ (by simp; omega)
  · exact e 3 _ (by simp; omega)
  · exact e 4 _ (by simp; omega)

/-- The named constant is the base-two logarithm of e. -/
theorem named_L : (Named.named (F := Ideal) (φ := .f32) κ "log2e" 1069066811#32 : EReal) = L := rfl

section

variable (q : FVec Ideal S1x128x128 .bf16) (kw : FVec Ideal S5x128x128 .bf16) (b : FVec Ideal S1x1x256x640 .f32)
  (kx : FVec Ideal S1x256x512 .bf16) (R : Fin 256)

/-- The masked queries, as `k0_pay8` stacks them. -/
theorem pay8_point (d : Fin 128) : k0_pay8 (F := Ideal) k0_pay4 q (ix2 R d) = q2 q R d := by
  unfold q2
  pointwise [k0_pay8, k0_pay4]
  simp only [mask_select]

/-- The masked queries, as `k0_pay11` stacks them. -/
theorem pay11_point (d : Fin 128) : k0_pay11 (F := Ideal) k0_pay4 q (ix2 R d) = q2 q R d := by
  unfold q2
  pointwise [k0_pay11, k0_pay4]
  simp only [mask_select]

/-- The masked queries, as `k0_pay14` stacks them. -/
theorem pay14_point (d : Fin 128) : k0_pay14 (F := Ideal) k0_pay4 q (ix2 R d) = q2 q R d := by
  unfold q2
  pointwise [k0_pay14, k0_pay4]
  simp only [mask_select]

/-- The masked queries, as `k0_pay19` stacks them. -/
theorem pay19_point (d : Fin 128) : k0_pay19 (F := Ideal) k0_pay4 q (ix2 R d) = q2 q R d := by
  unfold q2
  pointwise [k0_pay19, k0_pay4]
  simp only [mask_select]

/-- The window's scores of one pair of heads. -/
theorem pay9_point (n : Fin 640) :
    k0_pay9 (F := Ideal) k0_pay4 q kw b (ix2 R n) = loc q kw b R n := by
  unfold loc
  simp only [← pay8_point]
  simp only [k0_pay9]
  generalize hq : k0_pay8 (F := Ideal) k0_pay4 q = Q
  pointwise []
  exact congrArg₂ (· + ·) (five (fun k l => ∑ x, Q (ix2 R x) * kw (ix3 k x l)) n) (congrArg _ named_L)

/-- The window's scores of one pair of heads. -/
theorem pay12_point (n : Fin 640) :
    k0_pay12 (F := Ideal) (k0_pay11 k0_pay4 q) kw b (ix2 R n) = loc q kw b R n := by
  unfold loc
  simp only [← pay11_point]
  simp only [k0_pay12]
  generalize hq : k0_pay11 (F := Ideal) k0_pay4 q = Q
  pointwise []
  exact congrArg₂ (· + ·) (five (fun k l => ∑ x, Q (ix2 R x) * kw (ix3 k x l)) n) (congrArg _ named_L)

/-- The window's scores of one pair of heads. -/
theorem pay17_point (n : Fin 640) :
    k0_pay17 (F := Ideal) (k0_pay14 k0_pay4 q) kw (k0_pay15 k0_pay4 q kw) (k0_pay16 k0_pay4 q kw) b (ix2 R n) = loc q kw b R n := by
  unfold loc
  simp only [← pay14_point]
  simp only [k0_pay17, k0_pay15, k0_pay16]
  generalize hq : k0_pay14 (F := Ideal) k0_pay4 q = Q
  pointwise []
  exact congrArg₂ (· + ·) (five (fun k l => ∑ x, Q (ix2 R x) * kw (ix3 k x l)) n) (congrArg _ named_L)

/-- The window's scores of one pair of heads. -/
theorem pay25_point (n : Fin 640) :
    k0_pay25 (F := Ideal) (k0_pay20 k0_pay4 q kw) (k0_pay21 k0_pay4 q kw) (k0_pay22 k0_pay4 q kw) (k0_pay23 k0_pay4 q kw) (k0_pay24 k0_pay4 q kw) b (ix2 R n) = loc q kw b R n := by
  unfold loc
  simp only [← pay19_point]
  simp only [k0_pay25, k0_pay20, k0_pay21, k0_pay22, k0_pay23, k0_pay24]
  generalize hq : k0_pay19 (F := Ideal) k0_pay4 q = Q
  pointwise []
  exact congrArg₂ (· + ·) (five (fun k l => ∑ x, Q (ix2 R x) * kw (ix3 k x l)) n) (congrArg _ named_L)

/-- The context's scores of one pair of heads. -/
theorem pay10_point (n : Fin 256) :
    k0_pay10 (F := Ideal) (k0_pay3 kx) k0_pay4 q (ix2 R n) = ctx 0 q kx R n := by
  unfold ctx
  simp only [← pay8_point]
  simp only [k0_pay10, k0_pay3]
  generalize hq : k0_pay8 (F := Ideal) k0_pay4 q = Q
  pointwise []

/-- The context's scores of one pair of heads. -/
theorem pay13_point (n : Fin 256) :
    k0_pay13 (F := Ideal) (k0_pay3 kx) (k0_pay11 k0_pay4 q) (ix2 R n) = ctx 1 q kx R n := by
  unfold ctx
  simp only [← pay11_point]
  simp only [k0_pay13, k0_pay3]
  generalize hq : k0_pay11 (F := Ideal) k0_pay4 q = Q
  pointwise []

/-- The context's scores of one pair of heads. -/
theorem pay18_point (n : Fin 256) :
    k0_pay18 (F := Ideal) (k0_pay3 kx) (k0_pay14 k0_pay4 q) (ix2 R n) = ctx 2 q kx R n := by
  unfold ctx
  simp only [← pay14_point]
  simp only [k0_pay18, k0_pay3]
  generalize hq : k0_pay14 (F := Ideal) k0_pay4 q = Q
  pointwise []

/-- The context's scores of one pair of heads. -/
theorem pay26_point (n : Fin 256) :
    k0_pay26 (F := Ideal) (k0_pay3 kx) (k0_pay19 k0_pay4 q) (ix2 R n) = ctx 3 q kx R n := by
  unfold ctx
  simp only [← pay19_point]
  simp only [k0_pay26, k0_pay3]
  generalize hq : k0_pay19 (F := Ideal) k0_pay4 q = Q
  pointwise []

end

section

variable (s : FVec Ideal S256x640 .f32) (c : FVec Ideal S256x256 .f32) (v : FVec Ideal S640x128 .bf16)
  (x : FVec Ideal S1x256x128 .bf16) (r d : Fin 128)

/-- The first pair's outputs. -/
theorem pay39_point :
    k0_pay39 (F := Ideal) k0_pay4 k0_pay5 k0_pay6 (k0_pay28 s c) (k0_pay29 s c) v x (ix2 r d)
      = att (fun n => s (ix2 (row r d) n)) (fun n => c (ix2 (row r d) n)) (fun n => v (ix2 n d)) (fun n => x (ix3 0 n d)) := by
  pointwise [k0_pay39, k0_pay4, k0_pay5, k0_pay6, k0_pay28, k0_pay29, k0_pay27]
  rw [mask_select]
  unfold att mx row
  split <;> rfl

/-- The second pair's outputs. -/
theorem pay40_point :
    k0_pay40 (F := Ideal) k0_pay4 k0_pay5 k0_pay6 (k0_pay31 s c) (k0_pay32 s c) v x (ix2 r d)
      = att (fun n => s (ix2 (row r d) n)) (fun n => c (ix2 (row r d) n)) (fun n => v (ix2 n d)) (fun n => x (ix3 0 n d)) := by
  pointwise [k0_pay40, k0_pay4, k0_pay5, k0_pay6, k0_pay31, k0_pay32, k0_pay30]
  rw [mask_select]
  unfold att mx row
  split <;> rfl

/-- Four vectors of 128 lanes side by side, as the trip stores them. -/
def cat4 (o0 o1 o2 o3 : FVec Ideal S128x128 .f32) : FVec Ideal S1x128x512 .bf16 :=
  shapeCast S1x128x512 (truncf .bf16 (concatenate S128x512 1 [⟨S128x128, o0⟩, ⟨S128x128, o1⟩, ⟨S128x128, o2⟩, ⟨S128x128, o3⟩]
    concatenates_S128x128_S128x128_S128x128_S128x128_S128x512_d1) bitsLt_bf16_f32) shapeCasts_S128x512_S1x128x512

variable (s' : FVec Ideal S256x640 .f32) (c' : FVec Ideal S256x256 .f32) (v' : FVec Ideal S640x128 .bf16)
  (x' : FVec Ideal S1x256x128 .bf16) (o0 o1 o2 o3 : FVec Ideal S128x128 .f32)

/-- The stored vector is the four pairs' outputs side by side. -/
theorem pay7_eq :
    k0_pay7 (F := Ideal) (k0_pay34 s c) (k0_pay35 s c) (k0_pay37 s' c') (k0_pay38 s' c') o0 o1 (k0_pay41 k0_pay5 v) x v' x'
      = cat4 o0 o1 (k0_pay39 (F := Ideal) k0_pay4 k0_pay5 k0_pay6 (k0_pay28 s c) (k0_pay29 s c) v x)
          (k0_pay39 (F := Ideal) k0_pay4 k0_pay5 k0_pay6 (k0_pay28 s' c') (k0_pay29 s' c') v' x') := rfl

/-- Which of the four holds a column. -/
theorem cat4_point (col : Fin 512) :
    cat4 o0 o1 o2 o3 (ix3 0 r col)
      = if h0 : col.val < 128 then o0 (ix2 r ⟨col.val, h0⟩)
        else if h1 : col.val - 128 < 128 then o1 (ix2 r ⟨col.val - 128, h1⟩)
        else if h2 : col.val - 128 - 128 < 128 then o2 (ix2 r ⟨col.val - 128 - 128, h2⟩)
        else o3 (ix2 r ⟨col.val - 128 - 128 - 128, by omega⟩) := by
  pointwise [cat4]

end

end Cert.NattenIdeal.Trip
-- ==== Proof.NattenStep.lean ====
/- Hand-written: what one grid point of the attention leaves in its output block. -/
module

public import proofs.«01_k».proof.Proof.NattenTrip

@[expose] public section

set_option maxRecDepth 16384

noncomputable section

open Idealize.ShloMosaic Idealize.ShloMosaic.TcCoe Idealize.SL.Sem

namespace Cert.NattenIdeal.Trip

open Cert.NattenIdeal Cert.NattenIdeal.Gen

section

variable (q : Fin 4 → FVec Ideal S1x128x128 .bf16) (kw : Fin 4 → FVec Ideal S5x128x128 .bf16)
  (b : Fin 4 → FVec Ideal S1x1x256x640 .f32) (v : Fin 4 → FVec Ideal S640x128 .bf16) (x : Fin 4 → FVec Ideal S1x256x128 .bf16)
  (kx : FVec Ideal S1x256x512 .bf16)

/-- The vector that one trip stores. -/
def stored : FVec Ideal S1x128x512 .bf16 :=
  k0_pay7 (F := Ideal)
    (k0_pay34 (k0_pay17 (k0_pay14 k0_pay4 (q 2)) (kw 2) (k0_pay15 k0_pay4 (q 2) (kw 2)) (k0_pay16 k0_pay4 (q 2) (kw 2)) (b 2)) (k0_pay18 (k0_pay3 kx) (k0_pay14 k0_pay4 (q 2))))
    (k0_pay35 (k0_pay17 (k0_pay14 k0_pay4 (q 2)) (kw 2) (k0_pay15 k0_pay4 (q 2) (kw 2)) (k0_pay16 k0_pay4 (q 2) (kw 2)) (b 2)) (k0_pay18 (k0_pay3 kx) (k0_pay14 k0_pay4 (q 2))))
    (k0_pay37 (k0_pay25 (k0_pay20 k0_pay4 (q 3) (kw 3)) (k0_pay21 k0_pay4 (q 3) (kw 3)) (k0_pay22 k0_pay4 (q 3) (kw 3)) (k0_pay23 k0_pay4 (q 3) (kw 3)) (k0_pay24 k0_pay4 (q 3) (kw 3)) (b 3)) (k0_pay26 (k0_pay3 kx) (k0_pay19 k0_pay4 (q 3))))
    (k0_pay38 (k0_pay25 (k0_pay20 k0_pay4 (q 3) (kw 3)) (k0_pay21 k0_pay4 (q 3) (kw 3)) (k0_pay22 k0_pay4 (q 3) (kw 3)) (k0_pay23 k0_pay4 (q 3) (kw 3)) (k0_pay24 k0_pay4 (q 3) (kw 3)) (b 3)) (k0_pay26 (k0_pay3 kx) (k0_pay19 k0_pay4 (q 3))))
    (k0_pay39 k0_pay4 k0_pay5 k0_pay6
      (k0_pay28 (k0_pay9 k0_pay4 (q 0) (kw 0) (b 0)) (k0_pay10 (k0_pay3 kx) k0_pay4 (q 0)))
      (k0_pay29 (k0_pay9 k0_pay4 (q 0) (kw 0) (b 0)) (k0_pay10 (k0_pay3 kx) k0_pay4 (q 0))) (v 0) (x 0))
    (k0_pay40 k0_pay4 k0_pay5 k0_pay6
      (k0_pay31 (k0_pay12 (k0_pay11 k0_pay4 (q 1)) (kw 1) (b 1)) (k0_pay13 (k0_pay3 kx) (k0_pay11 k0_pay4 (q 1))))
      (k0_pay32 (k0_pay12 (k0_pay11 k0_pay4 (q 1)) (kw 1) (b 1)) (k0_pay13 (k0_pay3 kx) (k0_pay11 k0_pay4 (q 1)))) (v 1) (x 1))
    (k0_pay41 k0_pay5 (v 2)) (x 2) (v 3) (x 3)

/-- The stored vector, entry by entry. -/
theorem stored_point (r : Fin 128) (h : Fin 4) (d : Fin 128) :
    stored q kw b v x kx (ix3 0 r ⟨128 * h.val + d.val, by omega⟩)
      = att (loc (q h) (kw h) (b h) (row r d)) (ctx h (q h) kx (row r d)) (fun n => v h (ix2 n d)) (fun n => x h (ix3 0 n d)) := by
  unfold stored
  rw [pay7_eq, cat4_point]
  fin_cases h
  · rw [dif_pos (by show 128 * 0 + d.val < 128; omega)]
    have e : (⟨128 * 0 + d.val, by omega⟩ : Fin 128) = d := Fin.ext (by show 128 * 0 + d.val = d.val; omega)
    show k0_pay39 (F := Ideal) _ _ _ _ _ _ _ (ix2 r ⟨128 * 0 + d.val, _⟩) = _
    rw [e, pay39_point]
    simp only [pay9_point, pay10_point]
    rfl
  · rw [dif_neg (by show ¬ 128 * 1 + d.val < 128; omega), dif_pos (by show 128 * 1 + d.val - 128 < 128; omega)]
    have e : (⟨128 * 1 + d.val - 128, by omega⟩ : Fin 128) = d := Fin.ext (by show 128 * 1 + d.val - 128 = d.val; omega)
    show k0_pay40 (F := Ideal) _ _ _ _ _ _ _ (ix2 r ⟨128 * 1 + d.val - 128, _⟩) = _
    rw [e, pay40_point]
    simp only [pay12_point, pay13_point]
    rfl
  · rw [dif_neg (by show ¬ 128 * 2 + d.val < 128; omega), dif_neg (by show ¬ 128 * 2 + d.val - 128 < 128; omega),
      dif_pos (by show 128 * 2 + d.val - 128 - 128 < 128; omega)]
    have e : (⟨128 * 2 + d.val - 128 - 128, by omega⟩ : Fin 128) = d := Fin.ext (by show 128 * 2 + d.val - 128 - 128 = d.val; omega)
    show k0_pay39 (F := Ideal) _ _ _ _ _ _ _ (ix2 r ⟨128 * 2 + d.val - 128 - 128, _⟩) = _
    rw [e, pay39_point]
    simp only [pay17_point, pay18_point]
    rfl
  · rw [dif_neg (by show ¬ 128 * 3 + d.val < 128; omega), dif_neg (by show ¬ 128 * 3 + d.val - 128 < 128; omega),
      dif_neg (by show ¬ 128 * 3 + d.val - 128 - 128 < 128; omega)]
    have e : (⟨128 * 3 + d.val - 128 - 128 - 128, by omega⟩ : Fin 128) = d := Fin.ext (by show 128 * 3 + d.val - 128 - 128 - 128 = d.val; omega)
    show k0_pay39 (F := Ideal) _ _ _ _ _ _ _ (ix2 r ⟨128 * 3 + d.val - 128 - 128 - 128, _⟩) = _
    rw [e, pay39_point]
    simp only [pay25_point, pay26_point]
    rfl

end

/-- The first row of keys that a trip reads, among the sixteen it holds. -/
def s0 (i a : ℕ) : ℕ := if i = 0 then max (2 * a) 4 else if i = 31 then min (2 * a) 4 else 2 * a

/-- The layout of biases that a trip reads. -/
def var (i a : ℕ) : ℕ := if i = 0 ∧ a < 2 then 1 + a else if i = 31 ∧ 2 ≤ a then 1 + a else 0

/-- The loop makes four trips. -/
theorem trips : k0_t1_loop.trips = 4 := by decide +kernel

/-- Where a trip reads its queries and stores its outputs. -/
theorem offs_q : ∀ k : Fin k0_t1_loop.trips, k0_off1 k = ![0, 128 * k.val, 0] ∧ k0_off4 k = ![0, 128 * k.val, 128]
    ∧ k0_off7 k = ![0, 128 * k.val, 256] ∧ k0_off10 k = ![0, 128 * k.val, 384] ∧ k0_off17 k = ![0, 128 * k.val, 0] := by
  decide +kernel

/-- Where a trip reads its keys. -/
theorem offs_k : ∀ (t : Fin grid0.N) (k : Fin k0_t1_loop.trips),
    k0_off2 (grid0.coords t) k = ![s0 (t.val % 32) k.val / 2, 0, 0] ∧ k0_off5 (grid0.coords t) k = ![s0 (t.val % 32) k.val / 2, 128, 0]
    ∧ k0_off8 (grid0.coords t) k = ![s0 (t.val % 32) k.val / 2, 256, 0] ∧ k0_off11 (grid0.coords t) k = ![s0 (t.val % 32) k.val / 2, 384, 0] := by
  decide +kernel

/-- Where a trip reads its biases. -/
theorem offs_b : ∀ (t : Fin grid0.N) (k : Fin k0_t1_loop.trips),
    k0_off3 (grid0.coords t) k = ![var (t.val % 32) k.val, 0, 0, 0] ∧ k0_off6 (grid0.coords t) k = ![var (t.val % 32) k.val, 1, 0, 0]
    ∧ k0_off9 (grid0.coords t) k = ![var (t.val % 32) k.val, 2, 0, 0] ∧ k0_off12 (grid0.coords t) k = ![var (t.val % 32) k.val, 3, 0, 0] := by
  decide +kernel

/-- Where a trip reads its values. -/
theorem offs_v : ∀ (t : Fin grid0.N) (k : Fin k0_t1_loop.trips),
    k0_off13 (grid0.coords t) k = ![64 * s0 (t.val % 32) k.val, 0] ∧ k0_off14 (grid0.coords t) k = ![64 * s0 (t.val % 32) k.val, 128]
    ∧ k0_off15 (grid0.coords t) k = ![64 * s0 (t.val % 32) k.val, 256] ∧ k0_off16 (grid0.coords t) k = ![64 * s0 (t.val % 32) k.val, 384] := by
  decide +kernel

/-- At most six rows are before a trip's first. -/
theorem s0_le (i a : ℕ) (h : a < 4) : s0 i a ≤ 6 := by
  unfold s0
  split
  · omega
  · split <;> omega

/-- There are five layouts of biases. -/
theorem var_le (i a : ℕ) (h : a < 4) : var i a ≤ 4 := by
  unfold var
  split
  · omega
  · split <;> omega

/-- A load of 128 tokens' lanes. -/
theorem rd_q {κ : Kind} {sp : Space} (v : View sig κ sp S1x512x512 .bf16) (f : v.ty.Contents (Elt Ideal)) (off : Fin 3 → ℕ)
    (inb : ∀ a, off a + S1x128x128.size a ≤ S1x512x512.size a) (p o : ℕ) (e : off = ![0, p, o]) (hp : p + 128 ≤ 512) (ho : o + 128 ≤ 512) :
    View.readAt (Elt Ideal) v (Rect.unit (s := S1x512x512) off S1x128x128.size inb).toLoadRect f = fun y => View.read (Elt Ideal) v f (ix3 0 ⟨p + (y 1).val, by have : (y 1).val < 128 := (y 1).isLt; omega⟩ ⟨o + (y 2).val, by have : (y 2).val < 128 := (y 2).isLt; omega⟩) := by
  subst e
  funext y
  rw [View.readAt_apply]
  refine congrArg (View.read (Elt Ideal) v f) (funext fun a => ?_)
  have z : (y 0).val = 0 := by have := (y 0).isLt; change (y 0).val < 1 at this; omega
  fin_cases a <;> refine Fin.ext ?_ <;> simp [LoadRect.idx, Rect.toLoadRect, Rect.unit] <;> first | done | omega

/-- A load of five chunks of keys. -/
theorem rd_k {κ : Kind} {sp : Space} (v : View sig κ sp S8x512x128 .bf16) (f : v.ty.Contents (Elt Ideal)) (off : Fin 3 → ℕ)
    (inb : ∀ a, off a + S5x128x128.size a ≤ S8x512x128.size a) (p o : ℕ) (e : off = ![p, o, 0]) (hp : p + 5 ≤ 8) (ho : o + 128 ≤ 512) :
    View.readAt (Elt Ideal) v (Rect.unit (s := S8x512x128) off S5x128x128.size inb).toLoadRect f = fun y => View.read (Elt Ideal) v f (ix3 ⟨p + (y 0).val, by have : (y 0).val < 5 := (y 0).isLt; omega⟩ ⟨o + (y 1).val, by have : (y 1).val < 128 := (y 1).isLt; omega⟩ (y 2)) := by
  subst e
  funext y
  rw [View.readAt_apply]
  refine congrArg (View.read (Elt Ideal) v f) (funext fun a => ?_)

  fin_cases a <;> refine Fin.ext ?_ <;> simp [LoadRect.idx, Rect.toLoadRect, Rect.unit] <;> first | done | omega

/-- A load of one layout's biases. -/
theorem rd_b {κ : Kind} {sp : Space} (v : View sig κ sp S5x4x256x640 .f32) (f : v.ty.Contents (Elt Ideal)) (off : Fin 4 → ℕ)
    (inb : ∀ a, off a + S1x1x256x640.size a ≤ S5x4x256x640.size a) (p o : ℕ) (e : off = ![p, o, 0, 0]) (hp : p + 1 ≤ 5) (ho : o + 1 ≤ 4) :
    View.readAt (Elt Ideal) v (Rect.unit (s := S5x4x256x640) off S1x1x256x640.size inb).toLoadRect f = fun y => View.read (Elt Ideal) v f (ix4 ⟨p, by omega⟩ ⟨o, by omega⟩ (y 2) (y 3)) := by
  subst e
  funext y
  rw [View.readAt_apply]
  refine congrArg (View.read (Elt Ideal) v f) (funext fun a => ?_)
  have z : (y 0).val = 0 := by have := (y 0).isLt; change (y 0).val < 1 at this; omega
  have z1 : (y 1).val = 0 := by have := (y 1).isLt; change (y 1).val < 1 at this; omega
  fin_cases a <;> refine Fin.ext ?_ <;> simp [LoadRect.idx, Rect.toLoadRect, Rect.unit] <;> first | done | omega

/-- A load of 640 values. -/
theorem rd_v {κ : Kind} {sp : Space} (v : View sig κ sp S1024x512 .bf16) (f : v.ty.Contents (Elt Ideal)) (off : Fin 2 → ℕ)
    (inb : ∀ a, off a + S640x128.size a ≤ S1024x512.size a) (p o : ℕ) (e : off = ![p, o]) (hp : p + 640 ≤ 1024) (ho : o + 128 ≤ 512) :
    View.readAt (Elt Ideal) v (Rect.unit (s := S1024x512) off S640x128.size inb).toLoadRect f = fun y => View.read (Elt Ideal) v f (ix2 ⟨p + (y 0).val, by have : (y 0).val < 640 := (y 0).isLt; omega⟩ ⟨o + (y 1).val, by have : (y 1).val < 128 := (y 1).isLt; omega⟩) := by
  subst e
  funext y
  rw [View.readAt_apply]
  refine congrArg (View.read (Elt Ideal) v f) (funext fun a => ?_)

  fin_cases a <;> refine Fin.ext ?_ <;> simp [LoadRect.idx, Rect.toLoadRect, Rect.unit] <;> first | done | omega

/-- A load of the context's values. -/
theorem rd_x {κ : Kind} {sp : Space} (v : View sig κ sp S1x256x512 .bf16) (f : v.ty.Contents (Elt Ideal)) (off : Fin 3 → ℕ)
    (inb : ∀ a, off a + S1x256x128.size a ≤ S1x256x512.size a) (o : ℕ) (e : off = ![0, 0, o]) (ho : o + 128 ≤ 512) :
    View.readAt (Elt Ideal) v (Rect.unit (s := S1x256x512) off S1x256x128.size inb).toLoadRect f = fun y => View.read (Elt Ideal) v f (ix3 0 (y 1) ⟨o + (y 2).val, by have : (y 2).val < 128 := (y 2).isLt; omega⟩) := by
  subst e
  funext y
  rw [View.readAt_apply]
  refine congrArg (View.read (Elt Ideal) v f) (funext fun a => ?_)
  have z : (y 0).val = 0 := by have := (y 0).isLt; change (y 0).val < 1 at this; omega
  fin_cases a <;> refine Fin.ext ?_ <;> simp [LoadRect.idx, Rect.toLoadRect, Rect.unit] <;> first | done | omega

section

variable (i : ℕ) (X0 : FVec Ideal S1x512x512 .bf16) (X7 X8 : FVec Ideal S1x256x512 .bf16) (X9 : FVec Ideal S5x4x256x640 .f32)
  (KT : FVec Ideal S8x512x128 .bf16) (VC : FVec Ideal S1024x512 .bf16)

/-- A trip's queries of a pair of heads. -/
def qv (a h : Fin 4) : FVec Ideal S1x128x128 .bf16 := fun y =>
  X0 (ix3 0 ⟨128 * a.val + (y 1).val, by have : (y 1).val < 128 := (y 1).isLt; omega⟩ ⟨128 * h.val + (y 2).val, by have : (y 2).val < 128 := (y 2).isLt; omega⟩)

/-- A trip's keys of a pair of heads. -/
def kv (a h : Fin 4) : FVec Ideal S5x128x128 .bf16 := fun y =>
  KT (ix3 ⟨s0 i a.val / 2 + (y 0).val, by have : (y 0).val < 5 := (y 0).isLt; have := s0_le i a.val a.isLt; omega⟩
    ⟨128 * h.val + (y 1).val, by have : (y 1).val < 128 := (y 1).isLt; omega⟩ (y 2))

/-- A trip's biases of a pair of heads. -/
def bv (a h : Fin 4) : FVec Ideal S1x1x256x640 .f32 := fun y =>
  X9 (ix4 ⟨var i a.val, by have := var_le i a.val a.isLt; omega⟩ h (y 2) (y 3))

/-- A trip's values of a pair of heads. -/
def vv (a h : Fin 4) : FVec Ideal S640x128 .bf16 := fun y =>
  VC (ix2 ⟨64 * s0 i a.val + (y 0).val, by have : (y 0).val < 640 := (y 0).isLt; have := s0_le i a.val a.isLt; omega⟩
    ⟨128 * h.val + (y 1).val, by have : (y 1).val < 128 := (y 1).isLt; omega⟩)

/-- The context's values of a pair of heads. -/
def xv (h : Fin 4) : FVec Ideal S1x256x128 .bf16 := fun y =>
  X8 (ix3 0 (y 1) ⟨128 * h.val + (y 2).val, by have : (y 2).val < 128 := (y 2).isLt; omega⟩)

/-- What a trip stores for one token at one lane of one pair of heads. -/
def cell (a : Fin 4) (r : Fin 128) (h : Fin 4) (d : Fin 128) : EReal :=
  att (loc (qv X0 a h) (kv i KT a h) (bv i X9 a h) (row r d)) (ctx h (qv X0 a h) X7 (row r d))
    (fun n => vv i VC a h (ix2 n d)) (fun n => xv X8 h (ix3 0 n d))

/-- What a grid point leaves in its output block. -/
def blockOut : FVec Ideal S1x512x512 .bf16 := fun y =>
  cell i X0 X7 X8 X9 KT VC ⟨(y 1).val / 128, by have : (y 1).val < 512 := (y 1).isLt; omega⟩ ⟨(y 1).val % 128, by omega⟩
    ⟨(y 2).val / 128, by have : (y 2).val < 512 := (y 2).isLt; omega⟩ ⟨(y 2).val % 128, by omega⟩

/-- The block where one trip stores. -/
theorem blockOut_at (a : Fin 4) (r : Fin 128) (h : Fin 4) (d : Fin 128) :
    blockOut i X0 X7 X8 X9 KT VC (ix3 0 ⟨128 * a.val + r.val, by omega⟩ ⟨128 * h.val + d.val, by omega⟩)
      = cell i X0 X7 X8 X9 KT VC a r h d := by
  have e1 : (⟨(128 * a.val + r.val) / 128, by omega⟩ : Fin 4) = a := Fin.ext (by show (128 * a.val + r.val) / 128 = a.val; omega)
  have e2 : (⟨(128 * a.val + r.val) % 128, by omega⟩ : Fin 128) = r := Fin.ext (by show (128 * a.val + r.val) % 128 = r.val; omega)
  have e3 : (⟨(128 * h.val + d.val) / 128, by omega⟩ : Fin 4) = h := Fin.ext (by show (128 * h.val + d.val) / 128 = h.val; omega)
  have e4 : (⟨(128 * h.val + d.val) % 128, by omega⟩ : Fin 128) = d := Fin.ext (by show (128 * h.val + d.val) % 128 = d.val; omega)
  show cell i X0 X7 X8 X9 KT VC ⟨(128 * a.val + r.val) / 128, _⟩ ⟨(128 * a.val + r.val) % 128, _⟩
    ⟨(128 * h.val + d.val) / 128, _⟩ ⟨(128 * h.val + d.val) % 128, _⟩ = _
  rw [e1, e2, e3, e4]

end

/-- An index of a trip's vector, by its coordinates. -/
theorem idx_split (x : S1x128x512.Idx) : x = ix3 0 ⟨(x 1).val, (x 1).isLt⟩
    ⟨128 * ((x 2).val / 128) + (x 2).val % 128, by have : (x 2).val < 512 := (x 2).isLt; omega⟩ := by
  have x0 : (x 0).val = 0 := by have := (x 0).isLt; change (x 0).val < 1 at this; omega
  funext a
  fin_cases a
  · exact Fin.ext x0
  · rfl
  · exact Fin.ext (by show (x 2).val = 128 * ((x 2).val / 128) + (x 2).val % 128; omega)

/-- Where a trip's vector is stored. -/
theorem emb_at (off : Fin 3 → ℕ) (inb : ∀ a, off a + S1x128x512.size a ≤ S1x512x512.size a) (k : ℕ) (hk : k < 4)
    (o : off = ![0, 128 * k, 0]) (x : S1x128x512.Idx) :
    (Rect.unit (s := S1x512x512) off S1x128x512.size inb).emb x
      = ix3 0 ⟨128 * k + (x 1).val, by have : (x 1).val < 128 := (x 1).isLt; omega⟩
        ⟨128 * ((x 2).val / 128) + (x 2).val % 128, by have : (x 2).val < 512 := (x 2).isLt; omega⟩ := by
  subst o
  have x0 : (x 0).val = 0 := by have := (x 0).isLt; change (x 0).val < 1 at this; omega
  funext a
  fin_cases a
  · exact Fin.ext (by show 0 + 1 * (x 0).val = 0; omega)
  · exact Fin.ext (by show 128 * k + 1 * (x 1).val = 128 * k + (x 1).val; omega)
  · exact Fin.ext (by show 0 + 1 * (x 2).val = 128 * ((x 2).val / 128) + (x 2).val % 128; omega)

set_option maxHeartbeats 4000000 in
/-- What one trip stores is its part of the block. -/
theorem piece (t : Fin grid0.N) (𝒱 : Variants) (c : Dev nD) (bd : Option 𝒱.V) (arg2 : Memref sig .tc .vmem S1x512x512 .bf16) (harg2 : arg2.IsWhole) (arg3 : Memref sig .tc .vmem S1x4x512x128 .bf16) (harg3 : arg3.IsWhole) (arg4 : Memref sig .tc .vmem S1x4x512x128 .bf16) (harg4 : arg4.IsWhole) (arg5 : Memref sig .tc .vmem S1x4x512x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S5x4x256x640 .f32) (harg11 : arg11.IsWhole) (arg12 : Memref sig .tc .vmem S1x512x512 .bf16) (harg12 : arg12.IsWhole) (arg13 : Memref sig .tc .vmem S8x512x128 .bf16) (harg13 : arg13.IsWhole) (arg14 : Memref sig .tc .vmem S1024x512 .bf16) (harg14 : arg14.IsWhole) (arg1 : BitVec 32) (v30 : Vec Ideal S1x256x512 .bf16) (X_arg2 : BufTy.Contents (Elt Ideal) arg2.view.ty) (X_arg10 : BufTy.Contents (Elt Ideal) arg10.view.ty) (X_arg11 : BufTy.Contents (Elt Ideal) arg11.view.ty) (X_arg13 : BufTy.Contents (Elt Ideal) arg13.view.ty) (X_arg14 : BufTy.Contents (Elt Ideal) arg14.view.ty)
    (k : Fin k0_t1_loop.trips) (p : View.Piece (Elt Ideal) S1x512x512 .bf16)
    (hp : p ∈ tripL_k0_t1 (F := Ideal) 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v30 X_arg2 X_arg10 X_arg11 X_arg13 X_arg14 k) (x : p.1.shape.Idx) :
    p.2 x = blockOut (t.val % 32) (View.read (Elt Ideal) arg2.view X_arg2) v30 (View.read (Elt Ideal) arg10.view X_arg10)
      (View.read (Elt Ideal) arg11.view X_arg11) (View.read (Elt Ideal) arg13.view X_arg13) (View.read (Elt Ideal) arg14.view X_arg14) (p.1.emb x) := by
  have hk : k.val < 4 := Nat.lt_of_lt_of_eq k.isLt trips
  have hs := s0_le (t.val % 32) k.val hk
  have hv := var_le (t.val % 32) k.val hk
  unfold tripL_k0_t1 trip_k0_t1 at hp
  dsimp only at hp
  rw [List.mem_singleton] at hp
  subst hp
  obtain ⟨q0, q1, q2, q3, o⟩ := offs_q k
  obtain ⟨k0, k1, k2, k3⟩ := offs_k t k
  obtain ⟨b0, b1, b2, b3⟩ := offs_b t k
  obtain ⟨w0, w1, w2, w3⟩ := offs_v t k
  let Q : Fin 4 → FVec Ideal S1x128x128 .bf16 := ![View.readAt (Elt Ideal) arg2.view (Rect.unit (s := S1x512x512) (k0_off1 k) S1x128x128.size (k0_off1_inb k)).toLoadRect X_arg2,
      View.readAt (Elt Ideal) arg2.view (Rect.unit (s := S1x512x512) (k0_off4 k) S1x128x128.size (k0_off4_inb k)).toLoadRect X_arg2,
      View.readAt (Elt Ideal) arg2.view (Rect.unit (s := S1x512x512) (k0_off7 k) S1x128x128.size (k0_off7_inb k)).toLoadRect X_arg2,
      View.readAt (Elt Ideal) arg2.view (Rect.unit (s := S1x512x512) (k0_off10 k) S1x128x128.size (k0_off10_inb k)).toLoadRect X_arg2]
  let K : Fin 4 → FVec Ideal S5x128x128 .bf16 := ![View.readAt (Elt Ideal) arg13.view (Rect.unit (s := S8x512x128) (k0_off2 (grid0.coords t) k) S5x128x128.size (k0_off2_inb (grid0.coords t) k)).toLoadRect X_arg13,
      View.readAt (Elt Ideal) arg13.view (Rect.unit (s := S8x512x128) (k0_off5 (grid0.coords t) k) S5x128x128.size (k0_off5_inb (grid0.coords t) k)).toLoadRect X_arg13,
      View.readAt (Elt Ideal) arg13.view (Rect.unit (s := S8x512x128) (k0_off8 (grid0.coords t) k) S5x128x128.size (k0_off8_inb (grid0.coords t) k)).toLoadRect X_arg13,
      View.readAt (Elt Ideal) arg13.view (Rect.unit (s := S8x512x128) (k0_off11 (grid0.coords t) k) S5x128x128.size (k0_off11_inb (grid0.coords t) k)).toLoadRect X_arg13]
  let B : Fin 4 → FVec Ideal S1x1x256x640 .f32 := ![View.readAt (Elt Ideal) arg11.view (Rect.unit (s := S5x4x256x640) (k0_off3 (grid0.coords t) k) S1x1x256x640.size (k0_off3_inb (grid0.coords t) k)).toLoadRect X_arg11,
      View.readAt (Elt Ideal) arg11.view (Rect.unit (s := S5x4x256x640) (k0_off6 (grid0.coords t) k) S1x1x256x640.size (k0_off6_inb (grid0.coords t) k)).toLoadRect X_arg11,
      View.readAt (Elt Ideal) arg11.view (Rect.unit (s := S5x4x256x640) (k0_off9 (grid0.coords t) k) S1x1x256x640.size (k0_off9_inb (grid0.coords t) k)).toLoadRect X_arg11,
      View.readAt (Elt Ideal) arg11.view (Rect.unit (s := S5x4x256x640) (k0_off12 (grid0.coords t) k) S1x1x256x640.size (k0_off12_inb (grid0.coords t) k)).toLoadRect X_arg11]
  let V : Fin 4 → FVec Ideal S640x128 .bf16 := ![View.readAt (Elt Ideal) arg14.view (Rect.unit (s := S1024x512) (k0_off13 (grid0.coords t) k) S640x128.size (k0_off13_inb (grid0.coords t) k)).toLoadRect X_arg14,
      View.readAt (Elt Ideal) arg14.view (Rect.unit (s := S1024x512) (k0_off14 (grid0.coords t) k) S640x128.size (k0_off14_inb (grid0.coords t) k)).toLoadRect X_arg14,
      View.readAt (Elt Ideal) arg14.view (Rect.unit (s := S1024x512) (k0_off15 (grid0.coords t) k) S640x128.size (k0_off15_inb (grid0.coords t) k)).toLoadRect X_arg14,
      View.readAt (Elt Ideal) arg14.view (Rect.unit (s := S1024x512) (k0_off16 (grid0.coords t) k) S640x128.size (k0_off16_inb (grid0.coords t) k)).toLoadRect X_arg14]
  let X : Fin 4 → FVec Ideal S1x256x128 .bf16 := ![View.readAt (Elt Ideal) arg10.view (Rect.unit (s := S1x256x512) ![0, 0, 0] S1x256x128.size inb_S1x256x512_S1x256x128_0_0_0).toLoadRect X_arg10,
      View.readAt (Elt Ideal) arg10.view (Rect.unit (s := S1x256x512) ![0, 0, 128] S1x256x128.size inb_S1x256x512_S1x256x128_0_0_128).toLoadRect X_arg10,
      View.readAt (Elt Ideal) arg10.view (Rect.unit (s := S1x256x512) ![0, 0, 256] S1x256x128.size inb_S1x256x512_S1x256x128_0_0_256).toLoadRect X_arg10,
      View.readAt (Elt Ideal) arg10.view (Rect.unit (s := S1x256x512) ![0, 0, 384] S1x256x128.size inb_S1x256x512_S1x256x128_0_0_384).toLoadRect X_arg10]
  have eQ : Q = qv (View.read (Elt Ideal) arg2.view X_arg2) ⟨k.val, hk⟩ := by
    funext h
    fin_cases h
    · exact rd_q _ _ _ _ _ _ q0 (by omega) (by omega)
    · exact rd_q _ _ _ _ _ _ q1 (by omega) (by omega)
    · exact rd_q _ _ _ _ _ _ q2 (by omega) (by omega)
    · exact rd_q _ _ _ _ _ _ q3 (by omega) (by omega)
  have eK : K = kv (t.val % 32) (View.read (Elt Ideal) arg13.view X_arg13) ⟨k.val, hk⟩ := by
    funext h
    fin_cases h
    · exact rd_k _ _ _ _ _ _ k0 (by omega) (by omega)
    · exact rd_k _ _ _ _ _ _ k1 (by omega) (by omega)
    · exact rd_k _ _ _ _ _ _ k2 (by omega) (by omega)
    · exact rd_k _ _ _ _ _ _ k3 (by omega) (by omega)
  have eB : B = bv (t.val % 32) (View.read (Elt Ideal) arg11.view X_arg11) ⟨k.val, hk⟩ := by
    funext h
    fin_cases h
    · exact rd_b _ _ _ _ _ _ b0 (by omega) (by omega)
    · exact rd_b _ _ _ _ _ _ b1 (by omega) (by omega)
    · exact rd_b _ _ _ _ _ _ b2 (by omega) (by omega)
    · exact rd_b _ _ _ _ _ _ b3 (by omega) (by omega)
  have eV : V = vv (t.val % 32) (View.read (Elt Ideal) arg14.view X_arg14) ⟨k.val, hk⟩ := by
    funext h
    fin_cases h
    · exact rd_v _ _ _ _ _ _ w0 (by omega) (by omega)
    · exact rd_v _ _ _ _ _ _ w1 (by omega) (by omega)
    · exact rd_v _ _ _ _ _ _ w2 (by omega) (by omega)
    · exact rd_v _ _ _ _ _ _ w3 (by omega) (by omega)
  have eX : X = xv (View.read (Elt Ideal) arg10.view X_arg10) := by
    funext h
    fin_cases h
    · exact rd_x _ _ _ _ _ rfl (by omega)
    · exact rd_x _ _ _ _ _ rfl (by omega)
    · exact rd_x _ _ _ _ _ rfl (by omega)
    · exact rd_x _ _ _ _ _ rfl (by omega)
  have key : stored Q K B V X v30 x = blockOut (t.val % 32) (View.read (Elt Ideal) arg2.view X_arg2) v30 (View.read (Elt Ideal) arg10.view X_arg10)
      (View.read (Elt Ideal) arg11.view X_arg11) (View.read (Elt Ideal) arg13.view X_arg13) (View.read (Elt Ideal) arg14.view X_arg14)
      ((Rect.unit (s := S1x512x512) (k0_off17 k) S1x128x512.size (k0_off17_inb k)).emb x) := by
    rw [eQ, eK, eB, eV, eX, emb_at _ _ k.val hk o x]
    refine (congrArg (stored _ _ _ _ _ _) (idx_split x)).trans ?_
    refine (stored_point _ _ _ _ _ _ ⟨(x 1).val, (x 1).isLt⟩ ⟨(x 2).val / 128, by have : (x 2).val < 512 := (x 2).isLt; omega⟩ ⟨(x 2).val % 128, by omega⟩).trans ?_
    exact (blockOut_at _ _ _ _ _ _ _ ⟨k.val, hk⟩ ⟨(x 1).val, (x 1).isLt⟩ ⟨(x 2).val / 128, by have : (x 2).val < 512 := (x 2).isLt; omega⟩ ⟨(x 2).val % 128, by omega⟩).symm
  refine Eq.trans ?_ key
  clear key eQ eK eB eV eX q0 q1 q2 q3 o k0 k1 k2 k3 b0 b1 b2 b3 w0 w1 w2 w3
  refine congrFun (f := k0_pay7 (F := Ideal) _ _ _ _ _ _ _ _ _ _) ?_ x
  unfold stored
  congr 1

set_option maxHeartbeats 4000000 in
/-- What the trips so far store are parts of the block. -/
theorem pieces (t : Fin grid0.N) (𝒱 : Variants) (c : Dev nD) (bd : Option 𝒱.V) (arg2 : Memref sig .tc .vmem S1x512x512 .bf16) (harg2 : arg2.IsWhole) (arg3 : Memref sig .tc .vmem S1x4x512x128 .bf16) (harg3 : arg3.IsWhole) (arg4 : Memref sig .tc .vmem S1x4x512x128 .bf16) (harg4 : arg4.IsWhole) (arg5 : Memref sig .tc .vmem S1x4x512x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S5x4x256x640 .f32) (harg11 : arg11.IsWhole) (arg12 : Memref sig .tc .vmem S1x512x512 .bf16) (harg12 : arg12.IsWhole) (arg13 : Memref sig .tc .vmem S8x512x128 .bf16) (harg13 : arg13.IsWhole) (arg14 : Memref sig .tc .vmem S1024x512 .bf16) (harg14 : arg14.IsWhole) (arg1 : BitVec 32) (v30 : Vec Ideal S1x256x512 .bf16) (X_arg2 : BufTy.Contents (Elt Ideal) arg2.view.ty) (X_arg10 : BufTy.Contents (Elt Ideal) arg10.view.ty) (X_arg11 : BufTy.Contents (Elt Ideal) arg11.view.ty) (X_arg13 : BufTy.Contents (Elt Ideal) arg13.view.ty) (X_arg14 : BufTy.Contents (Elt Ideal) arg14.view.ty) :
    ∀ n : ℕ, n ≤ k0_t1_loop.trips → ∀ p ∈ pb_k0_t1 (F := Ideal) 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v30 X_arg2 X_arg10 X_arg11 X_arg13 X_arg14 n, ∀ x : p.1.shape.Idx,
    p.2 x = blockOut (t.val % 32) (View.read (Elt Ideal) arg2.view X_arg2) v30 (View.read (Elt Ideal) arg10.view X_arg10)
      (View.read (Elt Ideal) arg11.view X_arg11) (View.read (Elt Ideal) arg13.view X_arg13) (View.read (Elt Ideal) arg14.view X_arg14) (p.1.emb x) := by
  intro n
  induction n with
  | zero =>
    intro _ p hp
    exact absurd hp List.not_mem_nil
  | succ n ih =>
    intro hn p hp x
    rw [pb_k0_t1_succ (F := Ideal) 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v30 X_arg2 X_arg10 X_arg11 X_arg13 X_arg14 ⟨n, hn⟩] at hp
    rcases List.mem_append.mp hp with hp | hp
    · exact piece t 𝒱 c bd arg2 harg2 arg3 harg3 arg4 harg4 arg5 harg5 arg6 harg6 arg7 harg7 arg8 harg8 arg9 harg9 arg10 harg10 arg11 harg11 arg12 harg12 arg13 harg13 arg14 harg14 arg1 v30 X_arg2 X_arg10 X_arg11 X_arg13 X_arg14 ⟨n, hn⟩ p hp x
    · exact ih (Nat.le_of_succ_le hn) p hp x

end Cert.NattenIdeal.Trip
-- ==== Proof.NattenRead.lean ====
/- Hand-written: what the attention leaves in its result, in terms of the arrays its windows read. -/
module

public import proofs.«01_k».proof.Proof.NattenStep

@[expose] public section

set_option maxRecDepth 16384

noncomputable section

open Idealize.ShloMosaic Idealize.ShloMosaic.TcCoe Idealize.SL.Sem
open Idealize.ShloMosaic.Pipeline (Dat)

namespace Cert.NattenIdeal.Trip

open Cert.NattenIdeal Cert.NattenIdeal.Gen

variable (m : (ℓ : Loc nD τ sig) → Buf (Elt Ideal) ℓ)

set_option maxHeartbeats 4000000 in
/-- The block of every window at every grid point. -/
theorem place : ∀ t : Fin cfg0.N, win0_0.index t = ![t.val / 32, t.val % 32, 0]
    ∧ win0_1.index t = ![t.val / 32, t.val % 32 - 1, 0, 0]
    ∧ win0_2.index t = ![t.val / 32, t.val % 32, 0, 0]
    ∧ win0_3.index t = ![t.val / 32, min (t.val % 32 + 1) 31, 0, 0]
    ∧ win0_4.index t = ![t.val / 32, t.val % 32 - 1, 4]
    ∧ win0_5.index t = ![t.val / 32, t.val % 32, 4]
    ∧ win0_6.index t = ![t.val / 32, min (t.val % 32 + 1) 31, 4]
    ∧ win0_7.index t = ![t.val / 32, 0, 3]
    ∧ win0_8.index t = ![t.val / 32, 0, 4]
    ∧ win0_9.index t = ![0, 0, 0, 0]
    ∧ win0_10.index t = ![t.val / 32, t.val % 32, 0] :=
  (by decide +kernel : ∀ t : Fin grid0.N, _)

/-- The batch of a grid point. -/
abbrev bat (t : Fin cfg0.N) : Fin 2 := ⟨t.val / 32, by have := t.isLt; have : cfg0.N = 64 := N_0; omega⟩

/-- The argument 0: the queries. -/
abbrev aQ (c : Dev nD) : FVec Ideal S2x16384x512 .bf16 := m ((c : Thread nD τ).loc main_arg0)

/-- The argument 1: the keys in chunks. -/
abbrev aK (c : Dev nD) : FVec Ideal S2x128x512x128 .bf16 := m ((c : Thread nD τ).loc main_arg1)

/-- The argument 2: the projection of the latents. -/
abbrev aP (c : Dev nD) : FVec Ideal S2x16384x8192 .bf16 := m ((c : Thread nD τ).loc main_arg2)

/-- The argument 3: the projection of the context. -/
abbrev aC (c : Dev nD) : FVec Ideal S2x256x8192 .bf16 := m ((c : Thread nD τ).loc main_arg3)

/-- The argument 4: the relative biases. -/
abbrev aR (c : Dev nD) : FVec Ideal S8x15x31 .f32 := m ((c : Thread nD τ).loc main_arg4)

/-- The block of queries. -/
theorem win0 (c : Dev nD) (t : Fin cfg0.N) (i : Fin 512) (n : Fin 512) :
    iblk m c 0 t (ix3 0 i n) = aQ m c (ix3 (bat t) ⟨t.val % 32 * 512 + i.val, by omega⟩ n) := by
  blk_point [iblk, V, place t]

/-- The block of keys before. -/
theorem win1 (c : Dev nD) (t : Fin cfg0.N) (k : Fin 4) (d : Fin 512) (l : Fin 128) :
    iblk m c 1 t (ix4 0 k d l) = aK m c (ix4 (bat t) ⟨(t.val % 32 - 1) * 4 + k.val, by omega⟩ d l) := by
  blk_point [iblk, V, place t]

/-- The block of keys. -/
theorem win2 (c : Dev nD) (t : Fin cfg0.N) (k : Fin 4) (d : Fin 512) (l : Fin 128) :
    iblk m c 2 t (ix4 0 k d l) = aK m c (ix4 (bat t) ⟨t.val % 32 * 4 + k.val, by omega⟩ d l) := by
  blk_point [iblk, V, place t]

/-- The block of keys after. -/
theorem win3 (c : Dev nD) (t : Fin cfg0.N) (k : Fin 4) (d : Fin 512) (l : Fin 128) :
    iblk m c 3 t (ix4 0 k d l) = aK m c (ix4 (bat t) ⟨min (t.val % 32 + 1) 31 * 4 + k.val, by omega⟩ d l) := by
  blk_point [iblk, V, place t]

/-- The block of values before. -/
theorem win4 (c : Dev nD) (t : Fin cfg0.N) (i : Fin 512) (n : Fin 512) :
    iblk m c 4 t (ix3 0 i n) = aP m c (ix3 (bat t) ⟨(t.val % 32 - 1) * 512 + i.val, by omega⟩ ⟨2048 + n.val, by omega⟩) := by
  blk_point [iblk, V, place t]

/-- The block of values. -/
theorem win5 (c : Dev nD) (t : Fin cfg0.N) (i : Fin 512) (n : Fin 512) :
    iblk m c 5 t (ix3 0 i n) = aP m c (ix3 (bat t) ⟨t.val % 32 * 512 + i.val, by omega⟩ ⟨2048 + n.val, by omega⟩) := by
  blk_point [iblk, V, place t]

/-- The block of values after. -/
theorem win6 (c : Dev nD) (t : Fin cfg0.N) (i : Fin 512) (n : Fin 512) :
    iblk m c 6 t (ix3 0 i n) = aP m c (ix3 (bat t) ⟨min (t.val % 32 + 1) 31 * 512 + i.val, by omega⟩ ⟨2048 + n.val, by omega⟩) := by
  blk_point [iblk, V, place t]

/-- The context's keys. -/
theorem win7 (c : Dev nD) (t : Fin cfg0.N) (i : Fin 256) (n : Fin 512) :
    iblk m c 7 t (ix3 0 i n) = aC m c (ix3 (bat t) i ⟨1536 + n.val, by omega⟩) := by
  blk_point [iblk, V, place t]

/-- The context's values. -/
theorem win8 (c : Dev nD) (t : Fin cfg0.N) (i : Fin 256) (n : Fin 512) :
    iblk m c 8 t (ix3 0 i n) = aC m c (ix3 (bat t) i ⟨2048 + n.val, by omega⟩) := by
  blk_point [iblk, V, place t]

end Cert.NattenIdeal.Trip
-- ==== Proof.NattenScratch.lean ====
/- Hand-written: what the attention keeps of its keys and values between the loads and the loop. -/
module

public import proofs.«01_k».proof.Proof.NattenStep

@[expose] public section

set_option maxRecDepth 16384

noncomputable section

open Idealize.ShloMosaic Idealize.ShloMosaic.TcCoe Idealize.SL.Sem
open Idealize.ShloMosaic.Pipeline (Dat)

namespace Cert.NattenIdeal.Trip

open Cert.NattenIdeal Cert.NattenIdeal.Gen

/-- A load of a part of a whole buffer. -/
theorem ld {κ : Kind} {sp : Space} {s : Shape} (M : Memref sig κ sp s .bf16) (h : M.IsWhole) (X : FVec Ideal s .bf16) (off size : Fin s.rank → ℕ)
    (inb : ∀ a, off a + size a ≤ s.size a) (y : (Rect.unit (s := s) off size inb).shape.Idx) (z : s.Idx) (e : ∀ a, (z a).val = off a + (y a).val) :
    View.readAt (Elt Ideal) M.view (Rect.unit (s := s) off size inb).toLoadRect (h.unread X) y = X z := by
  rw [View.readAt_apply, Memref.IsWhole.read_unread]
  refine congrArg X (funext fun a => Fin.ext ?_)
  rw [e a]
  simp [LoadRect.idx, Rect.toLoadRect, Rect.unit]

/-- What the three stores of the keys leave. -/
theorem keys_canon (c : Dev nD) (arg3 : Memref sig .tc .vmem S1x4x512x128 .bf16) (harg3 : arg3.IsWhole) (arg4 : Memref sig .tc .vmem S1x4x512x128 .bf16) (harg4 : arg4.IsWhole) (arg5 : Memref sig .tc .vmem S1x4x512x128 .bf16) (harg5 : arg5.IsWhole)
    (x1 x2 x3 : FVec Ideal S1x4x512x128 .bf16) (k : Fin 8) (d : Fin 512) (l : Fin 128) :
    View.canon (kernelRun0_A.sl.HS0_3 (F := Ideal) c arg3 harg3 arg4 harg4 arg5 harg5 x1 x2 x3) (ix3 k d l)
      = if h : k.val < 2 then x1 (ix4 0 ⟨k.val + 2, by omega⟩ d l) else if h : k.val < 6 then x2 (ix4 0 ⟨k.val - 2, by omega⟩ d l)
        else x3 (ix4 0 ⟨k.val - 6, by omega⟩ d l) := by
  have hk := k.isLt
  have hd := d.isLt
  have hl := l.isLt
  have cover : ∃ p ∈ kernelRun0_A.sl.HS0_3 (F := Ideal) c arg3 harg3 arg4 harg4 arg5 harg5 x1 x2 x3, ix3 k d l ∈ p.fst.set := by
    unfold kernelRun0_A.sl.HS0_3
    by_cases h6 : 6 ≤ k.val
    · refine ⟨_, List.mem_cons_self, ?_⟩
      refine (Rect.mem_set_unit (inb := inb_S8x512x128_S2x512x128_6_0_0)).mpr fun a => ?_
      fin_cases a <;> simp <;> omega
    · by_cases h2 : 2 ≤ k.val
      · refine ⟨_, List.mem_cons_of_mem _ List.mem_cons_self, ?_⟩
        refine (Rect.mem_set_unit (inb := inb_S8x512x128_S4x512x128_2_0_0)).mpr fun a => ?_
        fin_cases a <;> simp <;> omega
      · refine ⟨_, List.mem_cons_of_mem _ (List.mem_cons_of_mem _ List.mem_cons_self), ?_⟩
        refine (Rect.mem_set_unit (inb := inb_S8x512x128_S2x512x128_0_0_0)).mpr fun a => ?_
        fin_cases a <;> simp <;> omega
  revert cover
  unfold kernelRun0_A.sl.HS0_3
  intro cover
  canon_tiles x h using cover
  · have e0 : k.val = 6 + (x 0).val := h0
    have e1 : d.val = (x 1).val := h1
    have e2 : l.val = (x 2).val := h2
    rw [dif_neg (by omega), dif_neg (by omega)]
    simp only [pointwise, k0_pay44]
    refine ld arg5 harg5 x3 _ _ _ _ _ fun a => ?_
    fin_cases a <;> simp <;> omega
  · have e0 : k.val = 2 + (x 0).val := h0
    have e1 : d.val = (x 1).val := h1
    have e2 : l.val = (x 2).val := h2
    rw [dif_neg (by omega), dif_pos (by omega)]
    simp only [pointwise, k0_pay43]
    refine ld arg4 harg4 x2 _ _ _ _ _ fun a => ?_
    fin_cases a <;> simp <;> omega
  · have e0 : k.val = (x 0).val := h0
    have e1 : d.val = (x 1).val := h1
    have e2 : l.val = (x 2).val := h2
    rw [dif_pos (by omega)]
    simp only [pointwise, k0_pay42]
    refine ld arg3 harg3 x1 _ _ _ _ _ fun a => ?_
    fin_cases a <;> simp <;> omega

/-- What the three stores of the values leave. -/
theorem vals_canon (c : Dev nD) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole)
    (x1 x2 x3 : FVec Ideal S1x512x512 .bf16) (k : Fin 1024) (d : Fin 512) :
    View.canon (kernelRun0_A.sl.HS1_3 (F := Ideal) c arg3 harg3 arg4 harg4 arg5 harg5 x1 x2 x3) (ix2 k d)
      = if h : k.val < 256 then x1 (ix3 0 ⟨k.val + 256, by omega⟩ d) else if h : k.val < 768 then x2 (ix3 0 ⟨k.val - 256, by omega⟩ d)
        else x3 (ix3 0 ⟨k.val - 768, by omega⟩ d) := by
  have hk := k.isLt
  have hd := d.isLt
  have cover : ∃ p ∈ kernelRun0_A.sl.HS1_3 (F := Ideal) c arg3 harg3 arg4 harg4 arg5 harg5 x1 x2 x3, ix2 k d ∈ p.fst.set := by
    unfold kernelRun0_A.sl.HS1_3
    by_cases h6 : 768 ≤ k.val
    · refine ⟨_, List.mem_cons_self, ?_⟩
      refine (Rect.mem_set_unit (inb := inb_S1024x512_S256x512_768_0)).mpr fun a => ?_
      fin_cases a <;> simp <;> omega
    · by_cases h2 : 256 ≤ k.val
      · refine ⟨_, List.mem_cons_of_mem _ List.mem_cons_self, ?_⟩
        refine (Rect.mem_set_unit (inb := inb_S1024x512_S512x512_256_0)).mpr fun a => ?_
        fin_cases a <;> simp <;> omega
      · refine ⟨_, List.mem_cons_of_mem _ (List.mem_cons_of_mem _ List.mem_cons_self), ?_⟩
        refine (Rect.mem_set_unit (inb := inb_S1024x512_S256x512_0_0)).mpr fun a => ?_
        fin_cases a <;> simp <;> omega
  revert cover
  unfold kernelRun0_A.sl.HS1_3
  intro cover
  canon_tiles x h using cover
  · have e0 : k.val = 768 + (x 0).val := h0
    have e1 : d.val = (x 1).val := h1
    rw [dif_neg (by omega), dif_neg (by omega)]
    simp only [pointwise, k0_pay2]
    refine ld arg5 harg5 x3 _ _ _ _ _ fun a => ?_
    fin_cases a <;> simp <;> omega
  · have e0 : k.val = 256 + (x 0).val := h0
    have e1 : d.val = (x 1).val := h1
    rw [dif_neg (by omega), dif_pos (by omega)]
    simp only [pointwise, k0_pay1, kernelRun0_A.sl.r, k0_pay46]
    refine ld arg4 harg4 x2 _ _ _ _ _ fun a => ?_
    fin_cases a <;> simp <;> omega
  · have e0 : k.val = (x 0).val := h0
    have e1 : d.val = (x 1).val := h1
    rw [dif_pos (by omega)]
    simp only [pointwise, k0_pay45]
    refine ld arg3 harg3 x1 _ _ _ _ _ fun a => ?_
    fin_cases a <;> simp <;> omega

end Cert.NattenIdeal.Trip
-- ==== Proof.NattenOuts.lean ====
/- Hand-written: what the attention leaves in its result block. -/
module

public import proofs.«01_k».proof.Proof.NattenRead
public import proofs.«01_k».proof.Proof.NattenScratch

@[expose] public section

set_option maxRecDepth 16384

noncomputable section

open Idealize.ShloMosaic Idealize.ShloMosaic.TcCoe Idealize.SL.Sem
open Idealize.ShloMosaic.Pipeline (Dat)

namespace Cert.NattenIdeal.Trip

open Cert.NattenIdeal Cert.NattenIdeal.Gen

variable (m : (ℓ : Loc nD τ sig) → Buf (Elt Ideal) ℓ)

/-- The keys that a grid point holds. -/
def KT (c : Dev nD) (t : Fin cfg0.N) : FVec Ideal S8x512x128 .bf16 :=
  View.canon (kernelRun0_A.sl.HS0_3 (F := Ideal) c (ms0_1 t) (hs0_1 t) (ms0_2 t) (hs0_2 t) (ms0_3 t) (hs0_3 t) (iblk m c 1 t) (iblk m c 2 t) (iblk m c 3 t))

/-- The values that a grid point holds. -/
def VC (c : Dev nD) (t : Fin cfg0.N) : FVec Ideal S1024x512 .bf16 :=
  View.canon (kernelRun0_A.sl.HS1_3 (F := Ideal) c (ms0_4 t) (hs0_4 t) (ms0_5 t) (hs0_5 t) (ms0_6 t) (hs0_6 t) (iblk m c 4 t) (iblk m c 5 t) (iblk m c 6 t))

/-- A load of the whole of a buffer. -/
theorem ld_whole {κ : Kind} {sp : Space} (M : Memref sig κ sp S1x256x512 .bf16) (h : M.IsWhole) (X : FVec Ideal S1x256x512 .bf16) :
    View.readAt (Elt Ideal) M.view (Rect.unit (s := S1x256x512) ![0, 0, 0] ![1, 256, 512] inb_S1x256x512_S1x256x512_0_0_0).toLoadRect (h.unread X) = X := by
  funext y
  refine ld M h X _ _ _ _ _ fun a => ?_
  fin_cases a <;> simp

set_option maxHeartbeats 4000000 in
/-- What a grid point leaves in its block of the result. -/
theorem outs (c : Dev nD) (t : Fin cfg0.N) :
    outsAt0 m c t = blockOut (t.val % 32) (iblk m c 0 t) (iblk m c 7 t) (iblk m c 8 t) (iblk m c 9 t) (KT m c t) (VC m c t) := by
  funext y
  have cover := cover0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) y
  unfold outsAt0 out0_A_10
  rw [View.read_writes_junk_eq_canon]
  revert cover
  unfold kernelRun0_A
  dsimp only
  intro cover
  refine (congrFun (congrArg View.canon (List.append_nil _)).symm y).trans (View.canon_append_of_pieces (blockOut (t.val % 32) (iblk m c 0 t) (iblk m c 7 t) (iblk m c 8 t) (iblk m c 9 t) (KT m c t) (VC m c t)) [] _ ?_ y cover)
  intro p hp x
  have e := pieces t _ c _ _ _ _ _ _ _ _ _ _ _ _ _ _ _ _ _ _ _ _ _ _ _ _ _ _ _ _ _ _ _ _ _ _ _ (Nat.le_refl _) p hp x
  rw [ld_whole, Memref.IsWhole.read_unread, Memref.IsWhole.read_unread, Memref.IsWhole.read_unread] at e
  refine e.trans ?_
  unfold KT VC
  rw [← View.read_writes_junk_eq_canon, ← View.read_writes_junk_eq_canon]

end Cert.NattenIdeal.Trip
-- ==== Proof.NattenBias.lean ====
/- Hand-written: the bias table that the host makes for the attention. -/
module

public import proofs.«01_k».proof.Proof.NattenRead

@[expose] public section

set_option maxRecDepth 16384

noncomputable section

open Idealize.ShloMosaic Idealize.ShloMosaic.TcCoe Idealize.SL.Sem
open Idealize.ShloMosaic.Pipeline (Dat)

namespace Cert.NattenIdeal.Bias

open Cert.NattenIdeal Cert.NattenIdeal.Gen

/-- The first column of each column's window, as words. -/
def CST : IVec S64 32 :=
  minsi (broadcastInDim S64 ![] bcast_S_S64 (id (constantI S_ 32 48#32)))
    (maxsi (broadcastInDim S64 ![] bcast_S_S64 (id (constantI S_ 32 0#32)))
      (subi (iotaInDim S64 32 0) (broadcastInDim S64 ![] bcast_S_S64 (constantI S_ 32 8#32))))

/-- Which columns are in which column's window. -/
def OKC : IVec S64x64 1 :=
  andi
    (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 CST)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 CST) (broadcastInDim S64x1 ![] bcast_S_S64x1 (constantI S_ 32 16#32)))))

/-- How far apart two columns are, shifted and kept in range. -/
def RELC : IVec S64x64 32 :=
  minsi (broadcastInDim S64x64 ![] bcast_S_S64x64 (id (constantI S_ 32 30#32)))
    (maxsi (broadcastInDim S64x64 ![] bcast_S_S64x64 (id (constantI S_ 32 0#32)))
      (subi
        (addi
          (subi (broadcastInDim S64x64 ![0, 1] bcast_S1x64_S64x64_0_1 (broadcastInDim S1x64 ![1] bcast_S64_S1x64_1 (iotaInDim S64 32 0)))
            (broadcastInDim S64x64 ![0, 1] bcast_S64x1_S64x64_0_1 (broadcastInDim S64x1 ![0] bcast_S64_S64x1_0 (iotaInDim S64 32 0))))
          (broadcastInDim S64x64 ![] bcast_S_S64x64 (constantI S_ 32 16#32)))
        (broadcastInDim S64x64 ![] bcast_S_S64x64 (constantI S_ 32 1#32))))

/-- The rows of the bias table, in each layout. -/
def ROWS : IVec S5x2x10 32 := fun i => lit0 (S5x2x10.rowMajor i)

/-- The rows in the window, in each layout. -/
def OKR : IVec S5x2x10 1 := fun i => lit1 (S5x2x10.rowMajor i)

/-- The places of the biases in the flat table. -/
def IX : IVec S5x2x64x10x64 32 :=
  addi
    (broadcastInDim S5x2x64x10x64 ![0, 1, 2, 3, 4] bcast_S5x2x1x10x1_S5x2x64x10x64_0_1_2_3_4
      (muli (broadcastInDim S5x2x1x10x1 ![0, 1, 3] bcast_S5x2x10_S5x2x1x10x1_0_1_3 ROWS)
        (broadcastInDim S5x2x1x10x1 ![] bcast_S_S5x2x1x10x1 (constantI S_ 32 31#32))))
    (broadcastInDim S5x2x64x10x64 ![0, 1, 2, 3, 4] bcast_S1x1x64x1x64_S5x2x64x10x64_0_1_2_3_4
      (broadcastInDim S1x1x64x1x64 ![2, 4] bcast_S64x64_S1x1x64x1x64_2_4 RELC))

/-- Which places hold a bias. -/
def OK : IVec S5x1x2x64x10x64 1 :=
  andi
    (broadcastInDim S5x1x2x64x10x64 ![0, 1, 2, 3, 4, 5] bcast_S5x1x2x1x10x1_S5x1x2x64x10x64_0_1_2_3_4_5
      (broadcastInDim S5x1x2x1x10x1 ![0, 2, 4] bcast_S5x2x10_S5x1x2x1x10x1_0_2_4 OKR))
    (broadcastInDim S5x1x2x64x10x64 ![0, 1, 2, 3, 4, 5] bcast_S1x1x1x64x1x64_S5x1x2x64x10x64_0_1_2_3_4_5
      (broadcastInDim S1x1x1x64x1x64 ![3, 5] bcast_S64x64_S1x1x1x64x1x64_3_5 OKC))

/-- The biases taken from the table. -/
def TAKEN (A : FVec Ideal S8x15x31 .f32) : FVec Ideal S8x5x2x64x10x64 .f32 :=
  Host.gather gather_S8x465_S5x2x64x10x64x1_S8x5x2x64x10x64_0_1_n_n_1_5_81 (shapeCast S8x465 A shapeCasts_S8x15x31_S8x465)
    (broadcastInDim S5x2x64x10x64x1 ![0, 1, 2, 3, 4] bcast_S5x2x64x10x64_S5x2x64x10x64x1_0_1_2_3_4 IX)

/-- The biases, minus infinity where there is none. -/
def MASKED (A : FVec Ideal S8x15x31 .f32) : FVec Ideal S5x8x2x64x10x64 .f32 :=
  select (broadcastInDim S5x8x2x64x10x64 ![0, 1, 2, 3, 4, 5] bcast_S5x1x2x64x10x64_S5x8x2x64x10x64_0_1_2_3_4_5 OK)
    (transpose S5x8x2x64x10x64 [1, 0, 2, 3, 4, 5] (TAKEN A) transposes_S8x5x2x64x10x64_S5x8x2x64x10x64_1_0_2_3_4_5)
    (broadcastInDim S5x8x2x64x10x64 ![] bcast_S_S5x8x2x64x10x64 (id (constant (F := Ideal) S_ .f32 0xFF800000#32)))

/-- The bias table. -/
def BIAS (A : FVec Ideal S8x15x31 .f32) : FVec Ideal S5x4x256x640 .f32 :=
  shapeCast S5x4x256x640 (MASKED A) shapeCasts_S5x8x2x64x10x64_S5x4x256x640

/-- The first column of a column's window. -/
def c0 (q : ℕ) : ℕ := min (q - 8) 48

/-- The row of a query in the window of a layout. -/
def off : Fin 5 → Fin 2 → ℕ := ![![4, 5], ![0, 1], ![2, 3], ![4, 5], ![6, 7]]

/-- The first row of the window of a layout. -/
def lo : Fin 5 → Fin 2 → ℕ := ![![0, 1], ![0, 0], ![0, 0], ![0, 0], ![0, 0]]

/-- Which columns are in the window. -/
theorem OKC_point : ∀ q k : Fin 64, OKC (ix2 q k) = if c0 q.val ≤ k.val ∧ k.val < c0 q.val + 16 then 1#1 else 0#1 := by
  decide +kernel

/-- How far apart two columns are. -/
theorem RELC_point : ∀ q k : Fin 64, RELC (ix2 q k) = BitVec.ofNat 32 (min (k.val + 15 - q.val) 30) := by
  decide +kernel

/-- The rows of the table. -/
theorem ROWS_point : ∀ (v : Fin 5) (r : Fin 2) (j : Fin 10), ROWS (ix3 v r j) = BitVec.ofNat 32 (min (j.val + 7 - off v r) 14) := by
  decide +kernel

/-- The rows in the window. -/
theorem OKR_point : ∀ (v : Fin 5) (r : Fin 2) (j : Fin 10), OKR (ix3 v r j) = if lo v r ≤ j.val ∧ j.val < lo v r + 8 then 1#1 else 0#1 := by
  decide +kernel

/-- The place of a bias. -/
theorem IX_point (v : Fin 5) (r : Fin 2) (q : Fin 64) (j : Fin 10) (k : Fin 64) :
    IX (ix5 v r q j k) = BitVec.ofNat 32 (min (j.val + 7 - off v r) 14 * 31 + min (k.val + 15 - q.val) 30) := by
  have e : IX (ix5 v r q j k) = IntOp.addi (IntOp.muli (ROWS (ix3 v r j)) 31#32) (RELC (ix2 q k)) := by
    pointwise [IX]
  rw [e, ROWS_point, RELC_point]
  show BitVec.ofNat 32 _ * BitVec.ofNat 32 31 + BitVec.ofNat 32 _ = _
  rw [← BitVec.ofNat_mul, ← BitVec.ofNat_add]

/-- Whether a place holds a bias. -/
theorem OK_point (v : Fin 5) (r : Fin 2) (q : Fin 64) (j : Fin 10) (k : Fin 64) :
    OK (ix6 v 0 r q j k) = if (lo v r ≤ j.val ∧ j.val < lo v r + 8) ∧ (c0 q.val ≤ k.val ∧ k.val < c0 q.val + 16) then 1#1 else 0#1 := by
  have e : OK (ix6 v 0 r q j k) = IntOp.andi (OKR (ix3 v r j)) (OKC (ix2 q k)) := by
    pointwise [OK]
  rw [e, OKR_point, OKC_point]
  split_ifs <;> first | rfl | (exfalso; tauto)

/-- A bias taken from the table, at a known place. -/
theorem take_at (x : FVec Ideal S8x465 .f32) (idx : IVec S5x2x64x10x64x1 32) (h : Fin 8) (v : Fin 5) (r : Fin 2) (q : Fin 64) (j : Fin 10) (k : Fin 64)
    (w : Fin 465) (hw : idx (ix6 v r q j k 0) = BitVec.ofNat 32 w.val) :
    Host.gather gather_S8x465_S5x2x64x10x64x1_S8x5x2x64x10x64_0_1_n_n_1_5_81 x idx (ix6 h v r q j k) = x (ix2 h w) := by
  refine congrArg x ?_
  have hs : gather_S8x465_S5x2x64x10x64x1_S8x5x2x64x10x64_0_1_n_n_1_5_81.siIdx (ix6 h v r q j k) ⟨0, by decide⟩ = ix6 v r q j k 0 := by
    funext a; fin_cases a <;> rfl
  funext a
  fin_cases a
  · exact Fin.ext (show 0 + 0 + h.val = h.val by omega)
  · refine Fin.ext ?_
    show min (idx (gather_S8x465_S5x2x64x10x64x1_S8x5x2x64x10x64_0_1_n_n_1_5_81.siIdx (ix6 h v r q j k) ⟨0, by decide⟩)).toInt.toNat 464 + 0 + 0 = _
    rw [hs, hw, BitVec.toInt_eq_toNat_of_lt (by rw [BitVec.toNat_ofNat]; have := w.isLt; omega), BitVec.toNat_ofNat]
    show min (w.val % 2 ^ 32 : ℕ) 464 + 0 + 0 = w.val
    have := w.isLt
    omega

/-- A bias taken from the table. -/
theorem TAKEN_point (A : FVec Ideal S8x15x31 .f32) (h : Fin 8) (v : Fin 5) (r : Fin 2) (q : Fin 64) (j : Fin 10) (k : Fin 64) :
    TAKEN A (ix6 h v r q j k) = A (ix3 h ⟨min (j.val + 7 - off v r) 14, by omega⟩ ⟨min (k.val + 15 - q.val) 30, by omega⟩) := by
  unfold TAKEN
  have hw : broadcastInDim S5x2x64x10x64x1 ![0, 1, 2, 3, 4] bcast_S5x2x64x10x64_S5x2x64x10x64x1_0_1_2_3_4 IX (ix6 v r q j k 0)
      = BitVec.ofNat 32 (⟨min (j.val + 7 - off v r) 14 * 31 + min (k.val + 15 - q.val) 30, by omega⟩ : Fin 465).val := by
    rw [← IX_point]
    pointwise []
  rw [take_at _ _ h v r q j k _ hw]
  pointwise []
  have e1 : (min (j.val + 7 - off v r) 14 * 31 + min (k.val + 15 - q.val) 30) / 31 = min (j.val + 7 - off v r) 14 := by omega
  have e2 : (min (j.val + 7 - off v r) 14 * 31 + min (k.val + 15 - q.val) 30) % 31 = min (k.val + 15 - q.val) 30 := by omega
  simp only [e1, e2]

/-- A bias, minus infinity where there is none. -/
theorem MASKED_point (A : FVec Ideal S8x15x31 .f32) (v : Fin 5) (h : Fin 8) (r : Fin 2) (q : Fin 64) (j : Fin 10) (k : Fin 64) :
    (MASKED A (ix6 v h r q j k) : EReal) = if (lo v r ≤ j.val ∧ j.val < lo v r + 8) ∧ (c0 q.val ≤ k.val ∧ k.val < c0 q.val + 16)
      then A (ix3 h ⟨min (j.val + 7 - off v r) 14, by omega⟩ ⟨min (k.val + 15 - q.val) 30, by omega⟩) else Ideal.ofBits .f32 0xFF800000#32 := by
  have e : MASKED A (ix6 v h r q j k) = if OK (ix6 v 0 r q j k) = 1#1 then TAKEN A (ix6 h v r q j k) else Ideal.ofBits .f32 0xFF800000#32 := by
    pointwise [MASKED]
    rfl
  rw [e, OK_point, TAKEN_point]
  split_ifs <;> first | rfl | (exfalso; tauto) | (exfalso; simp_all)

/-- A bias of the table of windows. -/
theorem BIAS_point (A : FVec Ideal S8x15x31 .f32) (v : Fin 5) (p : Fin 4) (R : Fin 256) (n : Fin 640) :
    BIAS A (ix4 v p R n) = MASKED A (ix6 v ⟨p.val * 2 + R.val / 128, by omega⟩ ⟨R.val / 64 % 2, by omega⟩ ⟨R.val % 64, by omega⟩ ⟨n.val / 64, by omega⟩ ⟨n.val % 64, by omega⟩) := by
  pointwise [BIAS]

end Cert.NattenIdeal.Bias
-- ==== Proof.NattenHost.lean ====
/- Hand-written: the host leaves the bias table in the array the attention reads. -/
module

public import proofs.«01_k».proof.Proof.NattenBias

@[expose] public section

set_option maxRecDepth 16384

noncomputable section

open Idealize.ShloMosaic Idealize.ShloMosaic.TcCoe Idealize.SL.Sem
open Idealize.ShloMosaic.Pipeline (Dat)

namespace Cert.NattenIdeal.Bias

open Cert.NattenIdeal Cert.NattenIdeal.Gen

variable (m : (ℓ : Loc nD τ sig) → Buf (Elt Ideal) ℓ)

/-- The host leaves the bias table. -/
theorem host (c : Dev nD) : V (F := Ideal) m c main_v44 = BIAS (Trip.aR m c) := by
  unfold V
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl

end Cert.NattenIdeal.Bias
-- ==== Proof.NattenSoft.lean ====
/- Hand-written: the softmax of a masked row in base two is the softmax of the unmasked entries. -/
module

public import proofs.«01_k».proof.Proof.NattenTrip
public import proofs.«01_k».proof.Proof.NattenRef
public import proofs.«01_k».proof.Proof.RealLemmas

@[expose] public section

set_option maxRecDepth 16384

noncomputable section

open Idealize.ShloMosaic

namespace Cert.NattenSoft

open Cert.NattenIdeal.Trip (mx att L)
open Cert.NattenReferenceIdeal.Read (low wgt soft ln2)

/-- The printed start of a maximum is minus infinity. -/
theorem low_bot : Ideal.ofBits .f32 0xFF800000#32 = (⊥ : EReal) := by
  simp [Ideal.ofBits, Ideal.ieee]

/-- The maximum of a row from minus infinity is its supremum. -/
theorem fold_sup {n : ℕ} (f : Fin n → EReal) : Finset.fold max (⊥ : EReal) f Finset.univ = Finset.univ.sup f := rfl

/-- A supremum of reals, where one of them is the largest. -/
theorem sup_real {n : ℕ} (f : Fin n → EReal) (M : ℝ) (k : Fin n) (hk : f k = M) (h : ∀ j, f j ≤ M) :
    Finset.univ.sup f = (M : EReal) :=
  le_antisymm (Finset.sup_le fun j _ => h j) (hk ▸ Finset.le_sup (Finset.mem_univ k))

/-- The base-two exponential of a scaled difference. -/
theorem exp2_scaled (a M : ℝ) :
    Ideal.exp2 ((((Real.log 2)⁻¹ * a : ℝ) : EReal) - (((Real.log 2)⁻¹ * M : ℝ) : EReal)) = ((Real.exp (a - M) : ℝ) : EReal) := by
  rw [← EReal.coe_sub, Ideal.exp2_coe]
  refine congrArg _ ?_
  show (2 : ℝ) ^ ((Real.log 2)⁻¹ * a - (Real.log 2)⁻¹ * M) = _
  rw [Real.rpow_def_of_pos (by norm_num)]
  refine congrArg _ ?_
  have h : Real.log 2 ≠ 0 := (Real.log_pos (by norm_num)).ne'
  field_simp

/-- The reference's logarithm of two. -/
theorem ln2_eq : ln2 = ((Real.log 2 : ℝ) : EReal) := by
  show Ideal.log (Ideal.ofBits .f32 0x40000000#32) = _
  rw [Cert.RealLemmas.two_eq, Ideal.log_coe, if_neg (by norm_num)]

/-- A sum of reals among the extended reals. -/
theorem coe_sum {n : ℕ} (f : Fin n → ℝ) : ((∑ k, f k : ℝ) : EReal) = ∑ k, (f k : EReal) := by
  classical
  refine Finset.induction_on (Finset.univ : Finset (Fin n)) (by simp) fun k s hk ih => ?_
  rw [Finset.sum_insert hk, Finset.sum_insert hk, EReal.coe_add, ih]

section

variable (s : Fin 640 → EReal) (c : Fin 256 → EReal) (v : Fin 640 → EReal) (x : Fin 256 → EReal) (σ : Fin 128 → ℝ) (γ : Fin 256 → ℝ)
  (φ : Fin 128 → Fin 640)

/-- The reference's row, as reals. -/
def rowR (k : Fin 384) : ℝ := if h : k.val < 128 then σ ⟨k.val, h⟩ else γ ⟨k.val - 128, by omega⟩

/-- The reference's row is the row of reals. -/
theorem row_coe (k : Fin 384) : Cert.NattenReferenceIdeal.Read.row (fun n => (σ n : EReal)) (fun n => (γ n : EReal)) k
    = ((rowR σ γ k : ℝ) : EReal) := by
  unfold Cert.NattenReferenceIdeal.Read.row rowR
  split <;> rfl

/-- An entry of the window's part. -/
theorem rowR_win (n : Fin 128) (h : n.val < 384) : rowR σ γ ⟨n.val, h⟩ = σ n := by
  unfold rowR
  rw [dif_pos n.isLt]

/-- An entry of the context's part. -/
theorem rowR_ctx (n : Fin 256) (h : 128 + n.val < 384) : rowR σ γ ⟨128 + n.val, h⟩ = γ n := by
  unfold rowR
  rw [dif_neg (by simp)]
  exact congrArg γ (Fin.ext (by show 128 + n.val - 128 = n.val; omega))

/-- The two rows' maxima: the second is the first in base two. -/
theorem maxima (hin : ∀ n, s (φ n) = (((Real.log 2)⁻¹ * σ n : ℝ) : EReal)) (hout : ∀ k, (∀ n, φ n ≠ k) → s k = ⊥)
    (hc : ∀ n, c n = (((Real.log 2)⁻¹ * γ n : ℝ) : EReal)) :
    ∃ M : ℝ, mx s c = (((Real.log 2)⁻¹ * M : ℝ) : EReal)
      ∧ max low (Finset.univ.fold max low fun k => Cert.NattenReferenceIdeal.Read.row (fun n => (σ n : EReal)) (fun n => (γ n : EReal)) k) = (M : EReal) := by
  have hl : 0 ≤ (Real.log 2)⁻¹ := inv_nonneg.mpr (Real.log_nonneg (by norm_num))
  obtain ⟨k, hk⟩ := Finite.exists_max (rowR σ γ)
  refine ⟨rowR σ γ k, ?_, ?_⟩
  · unfold mx
    rw [low_bot, fold_sup, fold_sup]
    have hs : ∀ j, s j ≤ (((Real.log 2)⁻¹ * rowR σ γ k : ℝ) : EReal) := by
      intro j
      by_cases hj : ∃ n, φ n = j
      · obtain ⟨n, rfl⟩ := hj
        rw [hin]
        have := hk ⟨n.val, by omega⟩
        rw [rowR_win] at this
        exact EReal.coe_le_coe_iff.mpr (mul_le_mul_of_nonneg_left this hl)
      · rw [hout j (fun n hn => hj ⟨n, hn⟩)]
        exact bot_le
    have hcs : ∀ j, c j ≤ (((Real.log 2)⁻¹ * rowR σ γ k : ℝ) : EReal) := by
      intro j
      rw [hc]
      have := hk ⟨128 + j.val, by omega⟩
      rw [rowR_ctx] at this
      exact EReal.coe_le_coe_iff.mpr (mul_le_mul_of_nonneg_left this hl)
    refine le_antisymm (max_le (Finset.sup_le fun j _ => hs j) (Finset.sup_le fun j _ => hcs j)) ?_
    by_cases h : k.val < 128
    · refine le_trans ?_ (le_max_left _ _)
      refine le_trans (le_of_eq ?_) (Finset.le_sup (Finset.mem_univ (φ ⟨k.val, h⟩)))
      rw [hin, ← rowR_win σ γ ⟨k.val, h⟩ k.isLt]
    · refine le_trans ?_ (le_max_right _ _)
      refine le_trans (le_of_eq ?_) (Finset.le_sup (Finset.mem_univ (⟨k.val - 128, by omega⟩ : Fin 256)))
      rw [hc, ← rowR_ctx σ γ ⟨k.val - 128, by omega⟩ (by show 128 + (k.val - 128) < 384; omega)]
      have e : (⟨128 + (k.val - 128), by omega⟩ : Fin 384) = k := Fin.ext (by show 128 + (k.val - 128) = k.val; omega)
      rw [e]
  · show max (Ideal.ofBits .f32 0xFF800000#32) (Finset.fold max (Ideal.ofBits .f32 0xFF800000#32) _ Finset.univ) = _
    rw [low_bot, fold_sup, max_eq_right bot_le]
    refine sup_real _ _ k (row_coe σ γ k) fun j => ?_
    rw [row_coe]
    exact EReal.coe_le_coe_iff.mpr (hk j)

/-- The two rows' outputs. -/
theorem att_soft (hφ : Function.Injective φ) (hin : ∀ n, s (φ n) = (((Real.log 2)⁻¹ * σ n : ℝ) : EReal))
    (hout : ∀ k, (∀ n, φ n ≠ k) → s k = ⊥) (hc : ∀ n, c n = (((Real.log 2)⁻¹ * γ n : ℝ) : EReal)) :
    att s c v x = soft (fun n => (σ n : EReal)) (fun n => (γ n : EReal)) (fun n => v (φ n)) x := by
  obtain ⟨M, h1, h2⟩ := maxima s c σ γ φ hin hout hc
  have ec : ∀ n, Ideal.exp2 (c n - mx s c) = ((Real.exp (γ n - M) : ℝ) : EReal) := fun n => by rw [hc, h1, exp2_scaled]
  have es : ∀ n, Ideal.exp2 (s (φ n) - mx s c) = ((Real.exp (σ n - M) : ℝ) : EReal) := fun n => by rw [hin, h1, exp2_scaled]
  have eo : ∀ k, k ∉ φ '' (Finset.univ : Finset (Fin 128)) → Ideal.exp2 (s k - mx s c) = 0 := by
    intro k hk
    rw [hout k (fun n hn => hk ⟨n, by simp, hn⟩), h1, EReal.bot_sub, Ideal.exp2_bot]
  have ew : ∀ k, wgt (Cert.NattenReferenceIdeal.Read.row (fun n => (σ n : EReal)) (fun n => (γ n : EReal))) k
      = ((Real.exp (rowR σ γ k - M) : ℝ) : EReal) := by
    intro k
    unfold wgt
    rw [h2, row_coe, ← EReal.coe_sub, Ideal.exp_coe]
  have sums : ∀ w : Fin 640 → EReal, ∑ k, Ideal.exp2 (s k - mx s c) * w k = ∑ n, ((Real.exp (σ n - M) : ℝ) : EReal) * w (φ n) := by
    intro w
    refine (Finset.sum_of_injOn φ hφ.injOn (fun _ _ => Finset.mem_coe.mpr (Finset.mem_univ _)) (fun k _ hk => ?_) (fun n _ => ?_)).symm
    · rw [eo k hk, zero_mul]
    · rw [es]
  have sum1 : ∑ k, Ideal.exp2 (s k - mx s c) = ∑ n, ((Real.exp (σ n - M) : ℝ) : EReal) := by
    have := sums (fun _ => 1)
    simpa only [mul_one] using this
  have tot : ∑ k : Fin 384, ((Real.exp (rowR σ γ k - M) : ℝ) : EReal)
      = ∑ n : Fin 128, ((Real.exp (σ n - M) : ℝ) : EReal) + ∑ n : Fin 256, ((Real.exp (γ n - M) : ℝ) : EReal) := by
    refine (Fin.sum_univ_add (a := 128) (b := 256) fun k : Fin (128 + 256) => ((Real.exp (rowR σ γ k - M) : ℝ) : EReal)).trans ?_
    refine congrArg₂ (· + ·) (Finset.sum_congr rfl fun n _ => ?_) (Finset.sum_congr rfl fun n _ => ?_)
    · have := rowR_win σ γ n (by omega)
      exact congrArg (fun r : ℝ => ((Real.exp (r - M) : ℝ) : EReal)) this
    · have := rowR_ctx σ γ n (by omega)
      exact congrArg (fun r : ℝ => ((Real.exp (r - M) : ℝ) : EReal)) this
  obtain ⟨D, hD, hpos⟩ : ∃ D : ℝ, ∑ n : Fin 128, ((Real.exp (σ n - M) : ℝ) : EReal) + ∑ n : Fin 256, ((Real.exp (γ n - M) : ℝ) : EReal) = (D : EReal) ∧ 0 < D := by
    refine ⟨∑ n : Fin 128, Real.exp (σ n - M) + ∑ n : Fin 256, Real.exp (γ n - M), ?_, ?_⟩
    · rw [EReal.coe_add, coe_sum, coe_sum]
    · exact add_pos (Finset.sum_pos (fun _ _ => Real.exp_pos _) ⟨0, Finset.mem_univ _⟩) (Finset.sum_pos (fun _ _ => Real.exp_pos _) ⟨0, Finset.mem_univ _⟩)
  have hinv : 0 ≤ 1 / D := by positivity
  unfold att soft
  simp only [ew, ec]
  rw [sums, sum1, tot, hD]
  simp only [Ideal.div_coe hpos.ne', rowR_win, rowR_ctx]
  have a1 : ∀ n, ((Real.exp (σ n - M) : ℝ) : EReal) * ((1 / D : ℝ) : EReal) * v (φ n)
      = ((1 / D : ℝ) : EReal) * (((Real.exp (σ n - M) : ℝ) : EReal) * v (φ n)) := fun n => by
    rw [mul_comm ((Real.exp (σ n - M) : ℝ) : EReal), mul_assoc]
  have a2 : ∀ n, x n * (((Real.exp (γ n - M) : ℝ) : EReal) * ((1 / D : ℝ) : EReal))
      = ((1 / D : ℝ) : EReal) * (((Real.exp (γ n - M) : ℝ) : EReal) * x n) := fun n => by
    rw [mul_comm, mul_comm ((Real.exp (γ n - M) : ℝ) : EReal), mul_assoc]
  simp only [a1, a2]
  rw [Cert.RealLemmas.sum_scale _ hinv, Cert.RealLemmas.sum_scale _ hinv,
    ← EReal.left_distrib_of_nonneg_of_ne_top (by exact_mod_cast hinv) (EReal.coe_ne_top _), mul_comm]

end

end Cert.NattenSoft
-- ==== Proof.NattenCell.lean ====
/- Hand-written: what the attention stores for one token is the softmax over its window and the context. -/
module

public import proofs.«01_k».proof.Proof.NattenSoft
public import proofs.«01_k».proof.Proof.NattenBias

@[expose] public section

set_option maxRecDepth 16384

noncomputable section

open Idealize.ShloMosaic Idealize.ShloMosaic.TcCoe Idealize.SL.Sem
open Idealize.ShloMosaic.Pipeline (Dat)

namespace Cert.NattenCell

open Cert.NattenIdeal Cert.NattenIdeal.Trip Cert.NattenIdeal.Bias Cert.NattenSoft
open Cert.NattenReferenceIdeal.Read (soft wsc csc wtok relr relc r0 low ln2 toNat_word)

/-- The head of a pair that a lane belongs to. -/
abbrev half (d : Fin 128) : Fin 2 := ⟨d.val / 64, by omega⟩

/-- A product with the stacked queries is a product over the lanes of one head. -/
theorem dot_head (q : FVec Ideal S1x128x128 .bf16) (r d : Fin 128) (f : Fin 128 → EReal) :
    ∑ e : Fin 128, q2 q (row r d) e * f e
      = ∑ e : Fin 64, (q (ix3 0 r ⟨(half d).val * 64 + e.val, by omega⟩) : EReal) * f ⟨(half d).val * 64 + e.val, by omega⟩ := by
  have split : ∑ e : Fin 128, q2 q (row r d) e * f e
      = ∑ e : Fin 64, q2 q (row r d) ⟨e.val, by omega⟩ * f ⟨e.val, by omega⟩
        + ∑ e : Fin 64, q2 q (row r d) ⟨64 + e.val, by omega⟩ * f ⟨64 + e.val, by omega⟩ :=
    Fin.sum_univ_add (a := 64) (b := 64) fun e : Fin (64 + 64) => q2 q (row r d) e * f e
  rw [split]
  by_cases h : d.val < 64
  · have hr : row r d = ⟨r.val, by omega⟩ := by unfold row; rw [if_pos h]
    have h0 : (half d).val = 0 := by show d.val / 64 = 0; omega
    rw [hr]
    have e2 : ∑ e : Fin 64, q2 q ⟨r.val, by omega⟩ ⟨64 + e.val, by omega⟩ * f ⟨64 + e.val, by omega⟩ = 0 := by
      refine Finset.sum_eq_zero fun e _ => ?_
      unfold q2
      rw [dif_pos r.isLt, if_neg (by simp), zero_mul]
    rw [e2, add_zero]
    refine Finset.sum_congr rfl fun e _ => ?_
    have ee : (⟨(half d).val * 64 + e.val, by omega⟩ : Fin 128) = ⟨e.val, by omega⟩ := Fin.ext (by show d.val / 64 * 64 + e.val = e.val; omega)
    rw [ee]
    unfold q2
    rw [dif_pos r.isLt, if_pos e.isLt]
  · have hr : row r d = ⟨128 + r.val, by omega⟩ := by unfold row; rw [if_neg h]
    rw [hr]
    have e1 : ∑ e : Fin 64, q2 q ⟨128 + r.val, by omega⟩ ⟨e.val, by omega⟩ * f ⟨e.val, by omega⟩ = 0 := by
      refine Finset.sum_eq_zero fun e _ => ?_
      unfold q2
      rw [dif_neg (by simp), if_pos e.isLt, zero_mul]
    rw [e1, zero_add]
    refine Finset.sum_congr rfl fun e _ => ?_
    have ee : (⟨(half d).val * 64 + e.val, by omega⟩ : Fin 128) = ⟨64 + e.val, by omega⟩ :=
      Fin.ext (by show d.val / 64 * 64 + e.val = 64 + e.val; have := d.isLt; omega)
    rw [ee]
    unfold q2
    rw [dif_neg (by simp), if_neg (by simp)]
    refine congrArg (fun z => (q (ix3 0 z ⟨64 + e.val, by omega⟩) : EReal) * f ⟨64 + e.val, by omega⟩) (Fin.ext ?_)
    show 128 + r.val - 128 = r.val
    omega

/-- The first row of the window, counted from the keys held, and the query's row in it. -/
theorem rows : ∀ (i : Fin 32) (a : Fin 4) (g : Fin 2) (v : Fin 5), v.val = var i.val a.val →
    r0 (8 * i.val + 2 * a.val + g.val) + 4 = 8 * i.val + s0 i.val a.val + lo v g
      ∧ 2 * a.val + g.val + 4 = s0 i.val a.val + off v g ∧ lo v g ≤ 1 ∧ s0 i.val a.val % 2 = 0 := by
  decide +kernel

section

variable (i : Fin 32) (a : Fin 4) (r : Fin 128) (h : Fin 4) (d : Fin 128) (b : Fin 2)

/-- The layout of biases. -/
abbrev lay : Fin 5 := ⟨var i.val a.val, by have := var_le i.val a.val a.isLt; omega⟩

/-- Which of the trip's two rows of the image the token is in. -/
abbrev rr : Fin 2 := ⟨r.val / 64, by omega⟩

/-- The token. -/
abbrev tok : Fin 16384 := ⟨i.val * 512 + (128 * a.val + r.val), by omega⟩

/-- The head. -/
abbrev head : Fin 8 := ⟨(128 * h.val + d.val) / 64, by omega⟩

/-- Where a token of the window is among the keys that a trip reads. -/
def place (n : Fin 128) : Fin 640 :=
  ⟨64 * (lo (lay i a) (rr r) + n.val / 16) + (c0 (r.val % 64) + n.val % 16), by
    have := (rows i a (rr r) (lay i a) rfl).2.2.1
    unfold c0
    omega⟩

/-- The place of a token of the window, counted from the first token. -/
theorem place_tok (n : Fin 128) : i.val * 512 + (64 * s0 i.val a.val + (place i a r n).val) = (wtok (tok i a r) n).val + 256 := by
  have e := (rows i a (rr r) (lay i a) rfl).1
  have e1 : (tok i a r).val / 64 = 8 * i.val + 2 * a.val + (rr r).val := by
    show (i.val * 512 + (128 * a.val + r.val)) / 64 = 8 * i.val + 2 * a.val + r.val / 64
    omega
  have e2 : (tok i a r).val % 64 = r.val % 64 := by
    show (i.val * 512 + (128 * a.val + r.val)) % 64 = r.val % 64
    omega
  unfold place wtok
  show _ = (r0 ((tok i a r).val / 64) + n.val / 16) * 64 + (Cert.NattenReferenceIdeal.Read.c0 ((tok i a r).val % 64) + n.val % 16) + 256
  rw [e1, e2]
  show i.val * 512 + (64 * s0 i.val a.val + (64 * (lo (lay i a) (rr r) + n.val / 16) + (min (r.val % 64 - 8) 48 + n.val % 16)))
    = (r0 (8 * i.val + 2 * a.val + (rr r).val) + n.val / 16) * 64 + (min (r.val % 64 - 8) 48 + n.val % 16) + 256
  omega

/-- The row and the column of a place. -/
theorem place_row (n : Fin 128) : (place i a r n).val / 64 = lo (lay i a) (rr r) + n.val / 16 ∧ (place i a r n).val % 64 = c0 (r.val % 64) + n.val % 16 := by
  have hc : c0 (r.val % 64) ≤ 48 := by unfold c0; omega
  unfold place
  constructor
  · show (64 * (lo (lay i a) (rr r) + n.val / 16) + (c0 (r.val % 64) + n.val % 16)) / 64 = _
    omega
  · show (64 * (lo (lay i a) (rr r) + n.val / 16) + (c0 (r.val % 64) + n.val % 16)) % 64 = _
    omega

/-- Two tokens of the window are at two places. -/
theorem place_inj : Function.Injective (place i a r) := by
  intro x y e
  have h1 := place_row i a r x
  have h2 := place_row i a r y
  rw [e] at h1
  refine Fin.ext ?_
  omega

variable (A4 : FVec Ideal S8x15x31 .f32)

/-- The row of the stacked queries, in parts. -/
theorem row_parts : (row r d).val / 128 = d.val / 64 ∧ (row r d).val / 64 % 2 = r.val / 64 ∧ (row r d).val % 64 = r.val % 64 := by
  have := d.isLt
  have := r.isLt
  unfold row
  split
  · refine ⟨?_, ?_, ?_⟩ <;> dsimp only <;> omega
  · refine ⟨?_, ?_, ?_⟩ <;> dsimp only <;> omega

/-- A bias that a trip reads. -/
theorem bias_read (k : Fin 640) :
    (bv i.val (BIAS A4) a h (ix4 0 0 (row r d) k) : EReal)
      = MASKED A4 (ix6 (lay i a) (head h d) (rr r) ⟨r.val % 64, by omega⟩ ⟨k.val / 64, by omega⟩ ⟨k.val % 64, by omega⟩) := by
  have e := BIAS_point A4 (lay i a) h (row r d) k
  refine e.trans ?_
  obtain ⟨e1, e2, e3⟩ := row_parts r d
  have f1 : (⟨h.val * 2 + (row r d).val / 128, by omega⟩ : Fin 8) = head h d := Fin.ext (by
    show h.val * 2 + (row r d).val / 128 = (128 * h.val + d.val) / 64
    rw [e1]; omega)
  have f2 : (⟨(row r d).val / 64 % 2, by omega⟩ : Fin 2) = rr r := Fin.ext e2
  have f3 : (⟨(row r d).val % 64, by omega⟩ : Fin 64) = ⟨r.val % 64, by omega⟩ := Fin.ext e3
  rw [f1, f2, f3]

/-- A bias of the window. -/
theorem bias_in (n : Fin 128) :
    (bv i.val (BIAS A4) a h (ix4 0 0 (row r d) (place i a r n)) : EReal) = A4 (ix3 (head h d) (relr (tok i a r) n) (relc (tok i a r) n)) := by
  rw [bias_read, MASKED_point]
  obtain ⟨e1, e2⟩ := place_row i a r n
  obtain ⟨g1, g2, g3, _⟩ := rows i a (rr r) (lay i a) rfl
  have t1 : (tok i a r).val / 64 = 8 * i.val + 2 * a.val + (rr r).val := by
    show (i.val * 512 + (128 * a.val + r.val)) / 64 = 8 * i.val + 2 * a.val + r.val / 64
    omega
  have t2 : (tok i a r).val % 64 = r.val % 64 := by
    show (i.val * 512 + (128 * a.val + r.val)) % 64 = r.val % 64
    omega
  rw [if_pos (by
    refine ⟨⟨?_, ?_⟩, ?_, ?_⟩
    · show _ ≤ (place i a r n).val / 64
      omega
    · show (place i a r n).val / 64 < _
      omega
    · show _ ≤ (place i a r n).val % 64
      dsimp only
      omega
    · show (place i a r n).val % 64 < _
      dsimp only
      omega)]
  have p1 : (⟨min ((place i a r n).val / 64 + 7 - off (lay i a) (rr r)) 14, by omega⟩ : Fin 15) = relr (tok i a r) n := by
    refine Fin.ext ?_
    have hlt := (relr (tok i a r) n).isLt
    have hv : (relr (tok i a r) n).val = r0 ((tok i a r).val / 64) + n.val / 16 + 7 - (tok i a r).val / 64 := rfl
    rw [t1] at hv
    show min ((place i a r n).val / 64 + 7 - off (lay i a) (rr r)) 14 = _
    omega
  have p2 : (⟨min ((place i a r n).val % 64 + 15 - r.val % 64) 30, by omega⟩ : Fin 31) = relc (tok i a r) n := by
    refine Fin.ext ?_
    have hlt := (relc (tok i a r) n).isLt
    have hv : (relc (tok i a r) n).val = Cert.NattenReferenceIdeal.Read.c0 ((tok i a r).val % 64) + n.val % 16 + 15 - (tok i a r).val % 64 := rfl
    rw [t2] at hv
    have hc : c0 (r.val % 64) = Cert.NattenReferenceIdeal.Read.c0 (r.val % 64) := rfl
    show min ((place i a r n).val % 64 + 15 - r.val % 64) 30 = _
    omega
  rw [← p1, ← p2]

/-- Away from the window there is no bias. -/
theorem bias_out (k : Fin 640) (hk : ∀ n, place i a r n ≠ k) :
    (bv i.val (BIAS A4) a h (ix4 0 0 (row r d) k) : EReal) = ⊥ := by
  rw [bias_read, MASKED_point, if_neg, low_bot]
  rintro ⟨⟨h1, h2⟩, h3, h4⟩
  have h1 : lo (lay i a) (rr r) ≤ k.val / 64 := h1
  have h2 : k.val / 64 < lo (lay i a) (rr r) + 8 := h2
  have h3 : c0 (r.val % 64) ≤ k.val % 64 := h3
  have h4 : k.val % 64 < c0 (r.val % 64) + 16 := h4
  refine hk ⟨(k.val / 64 - lo (lay i a) (rr r)) * 16 + (k.val % 64 - c0 (r.val % 64)), by omega⟩ (Fin.ext ?_)
  unfold place
  show 64 * (lo (lay i a) (rr r) + ((k.val / 64 - lo (lay i a) (rr r)) * 16 + (k.val % 64 - c0 (r.val % 64))) / 16)
    + (c0 (r.val % 64) + ((k.val / 64 - lo (lay i a) (rr r)) * 16 + (k.val % 64 - c0 (r.val % 64))) % 16) = k.val
  omega

variable (A0 : FVec Ideal S2x16384x512 .bf16) (A1 : FVec Ideal S2x128x512x128 .bf16) (A2 : FVec Ideal S2x16384x8192 .bf16)
  (A3 : FVec Ideal S2x256x8192 .bf16)
  (X0 : FVec Ideal S1x512x512 .bf16) (X7 X8 : FVec Ideal S1x256x512 .bf16) (KT : FVec Ideal S8x512x128 .bf16) (VC : FVec Ideal S1024x512 .bf16)
  (f0 : S2x16384x512.Idx → ℝ) (f1 : S2x128x512x128.Idx → ℝ) (f3 : Fin 2 → Fin 256 → Fin 512 → ℝ) (f4 : S8x15x31.Idx → ℝ)

/-- The product of a query and a key, over a head's lanes. -/
def dotw (n : Fin 128) : ℝ :=
  ∑ e : Fin 64, f0 (ix3 b (tok i a r) ⟨(head h d).val * 64 + e.val, by omega⟩)
    * f1 (ix4 b ⟨(wtok (tok i a r) n).val / 128, by omega⟩ ⟨(head h d).val * 64 + e.val, by omega⟩ ⟨(wtok (tok i a r) n).val % 128, by omega⟩)

/-- The product of a query and a key of the context, over a head's lanes. -/
def dotc (n : Fin 256) : ℝ :=
  ∑ e : Fin 64, f0 (ix3 b (tok i a r) ⟨(head h d).val * 64 + e.val, by omega⟩) * f3 b n ⟨(head h d).val * 64 + e.val, by omega⟩

/-- A score of the window. -/
def sw (n : Fin 128) : ℝ := dotw i a r h d b f0 f1 n * Real.log 2 + f4 (ix3 (head h d) (relr (tok i a r) n) (relc (tok i a r) n))

/-- A score of the context. -/
def sc (n : Fin 256) : ℝ := dotc i a r h d b f0 f3 n * Real.log 2

/-- The reference's score of the window, as a real. -/
theorem wsc_real (h0 : ∀ y, (A0 y : EReal) = (f0 y : EReal)) (h1 : ∀ y, (A1 y : EReal) = (f1 y : EReal)) (h4 : ∀ y, (A4 y : EReal) = (f4 y : EReal)) :
    wsc A0 A1 A4 b (head h d) (tok i a r) = fun n => ((sw i a r h d b f0 f1 f4 n : ℝ) : EReal) := by
  funext n
  unfold wsc sw dotw
  rw [ln2_eq, EReal.coe_add, EReal.coe_mul, coe_sum, h4]
  simp only [h0, h1, EReal.coe_mul]

/-- The reference's score of the context, as a real. -/
theorem csc_real (h0 : ∀ y, (A0 y : EReal) = (f0 y : EReal))
    (h3 : ∀ b n (x : Fin 512), (A3 (ix3 b n ⟨1536 + x.val, by omega⟩) : EReal) = (f3 b n x : EReal)) :
    csc A0 A3 b (head h d) (tok i a r) = fun n => ((sc i a r h d b f0 f3 n : ℝ) : EReal) := by
  funext n
  unfold csc sc dotc
  rw [ln2_eq, EReal.coe_mul, coe_sum]
  refine congrArg (fun z => z * _) (Finset.sum_congr rfl fun e _ => ?_)
  rw [h0, EReal.coe_mul, ← h3]

/-- A query that a trip reads. -/
theorem query (hX0 : ∀ (j x : Fin 512), X0 (ix3 0 j x) = A0 (ix3 b ⟨i.val * 512 + j.val, by omega⟩ x)) (e : Fin 64) :
    qv X0 a h (ix3 0 r ⟨(half d).val * 64 + e.val, by omega⟩) = A0 (ix3 b (tok i a r) ⟨(head h d).val * 64 + e.val, by omega⟩) := by
  refine (hX0 ⟨128 * a.val + r.val, by omega⟩ ⟨128 * h.val + ((half d).val * 64 + e.val), by omega⟩).trans ?_
  refine congrArg (fun z => A0 (ix3 b (tok i a r) z)) (Fin.ext ?_)
  show 128 * h.val + (d.val / 64 * 64 + e.val) = (128 * h.val + d.val) / 64 * 64 + e.val
  omega

/-- A key that a trip reads. -/
theorem key (hKT : ∀ (ch : Fin 8) (x : Fin 512) (l : Fin 128) (w : Fin 128), w.val + 2 = 4 * i.val + ch.val → KT (ix3 ch x l) = A1 (ix4 b w x l))
    (n : Fin 128) (e : Fin 64) :
    kv i.val KT a h (ix3 ⟨(place i a r n).val / 128, by omega⟩ ⟨(half d).val * 64 + e.val, by omega⟩ ⟨(place i a r n).val % 128, by omega⟩)
      = A1 (ix4 b ⟨(wtok (tok i a r) n).val / 128, by omega⟩ ⟨(head h d).val * 64 + e.val, by omega⟩ ⟨(wtok (tok i a r) n).val % 128, by omega⟩) := by
  have ht := place_tok i a r n
  have hs := (rows i a (rr r) (lay i a) rfl).2.2.2
  have hp := (place i a r n).isLt
  have hs6 := s0_le i.val a.val a.isLt
  refine (hKT ⟨s0 i.val a.val / 2 + (place i a r n).val / 128, by omega⟩ ⟨128 * h.val + ((half d).val * 64 + e.val), by omega⟩
    ⟨(place i a r n).val % 128, by omega⟩ ⟨(wtok (tok i a r) n).val / 128, by omega⟩ (by
      show (wtok (tok i a r) n).val / 128 + 2 = 4 * i.val + (s0 i.val a.val / 2 + (place i a r n).val / 128)
      omega)).trans ?_
  have e1 : (⟨128 * h.val + ((half d).val * 64 + e.val), by omega⟩ : Fin 512) = ⟨(head h d).val * 64 + e.val, by omega⟩ := Fin.ext (by
    show 128 * h.val + (d.val / 64 * 64 + e.val) = (128 * h.val + d.val) / 64 * 64 + e.val
    omega)
  have e2 : (⟨(place i a r n).val % 128, by omega⟩ : Fin 128) = ⟨(wtok (tok i a r) n).val % 128, by omega⟩ := Fin.ext (by
    show (place i a r n).val % 128 = (wtok (tok i a r) n).val % 128
    omega)
  rw [e1, e2]

/-- A product with the base-two scale taken out. -/
theorem scale (x y : ℝ) : x + y * (Real.log 2)⁻¹ = (Real.log 2)⁻¹ * (x * Real.log 2 + y) := by
  have : Real.log 2 ≠ 0 := (Real.log_pos (by norm_num)).ne'
  field_simp

/-- What a trip stores is the softmax. -/
theorem cell_soft (hX0 : ∀ (j x : Fin 512), X0 (ix3 0 j x) = A0 (ix3 b ⟨i.val * 512 + j.val, by omega⟩ x))
    (hKT : ∀ (ch : Fin 8) (x : Fin 512) (l : Fin 128) (w : Fin 128), w.val + 2 = 4 * i.val + ch.val → KT (ix3 ch x l) = A1 (ix4 b w x l))
    (hVC : ∀ (j : Fin 1024) (x : Fin 512) (w : Fin 16384), w.val + 256 = i.val * 512 + j.val → VC (ix2 j x) = A2 (ix3 b w ⟨2048 + x.val, by omega⟩))
    (hX7 : ∀ (n : Fin 256) (x : Fin 512), X7 (ix3 0 n x) = A3 (ix3 b n ⟨1536 + x.val, by omega⟩))
    (hX8 : ∀ (n : Fin 256) (x : Fin 512), X8 (ix3 0 n x) = A3 (ix3 b n ⟨2048 + x.val, by omega⟩))
    (h0 : ∀ y, (A0 y : EReal) = (f0 y : EReal)) (h1 : ∀ y, (A1 y : EReal) = (f1 y : EReal))
    (h3 : ∀ b n (x : Fin 512), (A3 (ix3 b n ⟨1536 + x.val, by omega⟩) : EReal) = (f3 b n x : EReal)) (h4 : ∀ y, (A4 y : EReal) = (f4 y : EReal)) :
    cell i.val X0 X7 X8 (BIAS A4) KT VC a r h d
      = soft (wsc A0 A1 A4 b (head h d) (tok i a r)) (csc A0 A3 b (head h d) (tok i a r))
          (fun n => A2 (ix3 b (wtok (tok i a r) n) ⟨2048 + (128 * h.val + d.val), by omega⟩))
          (fun n => A3 (ix3 b n ⟨2048 + (128 * h.val + d.val), by omega⟩)) := by
  rw [wsc_real i a r h d b A4 A0 A1 f0 f1 f4 h0 h1 h4, csc_real i a r h d b A0 A3 f0 f3 h0 h3]
  unfold cell
  have hv : (fun n => (A2 (ix3 b (wtok (tok i a r) n) ⟨2048 + (128 * h.val + d.val), by omega⟩) : EReal))
      = fun n => (fun k => (vv i.val VC a h (ix2 k d) : EReal)) (place i a r n) := by
    funext n
    have hp := (place i a r n).isLt
    have hs6 := s0_le i.val a.val a.isLt
    exact (hVC ⟨64 * s0 i.val a.val + (place i a r n).val, by omega⟩ ⟨128 * h.val + d.val, by omega⟩ (wtok (tok i a r) n) (place_tok i a r n).symm).symm
  have hx : (fun n => (A3 (ix3 b n ⟨2048 + (128 * h.val + d.val), by omega⟩) : EReal)) = fun n => (xv X8 h (ix3 0 n d) : EReal) := by
    funext n
    exact (hX8 n ⟨128 * h.val + d.val, by omega⟩).symm
  rw [hv, hx]
  refine att_soft _ _ _ _ _ _ (place i a r) (place_inj i a r) (fun n => ?_) (fun k hk => ?_) fun n => ?_
  · unfold loc
    rw [bias_in, h4]
    have e := dot_head (qv X0 a h) r d fun e => (kv i.val KT a h (ix3 ⟨(place i a r n).val / 128, by omega⟩ e ⟨(place i a r n).val % 128, by omega⟩) : EReal)
    rw [e]
    have s : (∑ e : Fin 64, (qv X0 a h (ix3 0 r ⟨(half d).val * 64 + e.val, by omega⟩) : EReal)
        * kv i.val KT a h (ix3 ⟨(place i a r n).val / 128, by omega⟩ ⟨(half d).val * 64 + e.val, by omega⟩ ⟨(place i a r n).val % 128, by omega⟩))
        = ((dotw i a r h d b f0 f1 n : ℝ) : EReal) := by
      unfold dotw
      rw [coe_sum]
      refine Finset.sum_congr rfl fun e _ => ?_
      rw [query i a r h d b A0 X0 hX0, key i a r h d b A1 KT hKT, h0, h1, EReal.coe_mul]
    rw [s]
    show _ + _ * (((Real.log 2)⁻¹ : ℝ) : EReal) = _
    rw [← EReal.coe_mul, ← EReal.coe_add, scale]
    rfl
  · unfold loc
    rw [bias_out i a r h d A4 k hk, EReal.bot_mul_coe_of_pos (inv_pos.mpr (Real.log_pos (by norm_num))), EReal.add_bot]
  · unfold ctx
    have e := dot_head (qv X0 a h) r d fun e => (X7 (ix3 0 n ⟨128 * h.val + e.val, by omega⟩) : EReal)
    rw [e]
    have s : (∑ e : Fin 64, (qv X0 a h (ix3 0 r ⟨(half d).val * 64 + e.val, by omega⟩) : EReal)
        * X7 (ix3 0 n ⟨128 * h.val + ((half d).val * 64 + e.val), by omega⟩)) = ((dotc i a r h d b f0 f3 n : ℝ) : EReal) := by
      unfold dotc
      rw [coe_sum]
      refine Finset.sum_congr rfl fun e _ => ?_
      have e1 : (⟨128 * h.val + ((half d).val * 64 + e.val), by omega⟩ : Fin 512) = ⟨(head h d).val * 64 + e.val, by omega⟩ := Fin.ext (by
        show 128 * h.val + (d.val / 64 * 64 + e.val) = (128 * h.val + d.val) / 64 * 64 + e.val
        omega)
      rw [query i a r h d b A0 X0 hX0, e1, hX7, h0, h3, EReal.coe_mul]
    rw [s]
    have t := scale (dotc i a r h d b f0 f3 n) 0
    rw [zero_mul, add_zero, add_zero] at t
    rw [t]
    rfl

end

end Cert.NattenCell
-- ==== Proof.NattenOut.lean ====
/- Hand-written: the keys and values that a grid point of the attention holds, and the whole result. -/
module

public import proofs.«01_k».proof.Proof.NattenOuts
public import proofs.«01_k».proof.Proof.NattenHost
public import proofs.«01_k».proof.Proof.NattenCell

@[expose] public section

set_option maxRecDepth 16384

noncomputable section

open Idealize.ShloMosaic Idealize.ShloMosaic.TcCoe Idealize.SL.Sem
open Idealize.ShloMosaic.Pipeline (Dat)

namespace Cert.NattenIdeal.Trip

open Cert.NattenIdeal Cert.NattenIdeal.Gen

variable (m : (ℓ : Loc nD τ sig) → Buf (Elt Ideal) ℓ)

/-- A key that a grid point holds, at its place in the array. -/
theorem KT_point (c : Dev nD) (t : Fin cfg0.N) (ch : Fin 8) (d : Fin 512) (l : Fin 128) (w : Fin 128) (hw : w.val + 2 = 4 * (t.val % 32) + ch.val) :
    KT m c t (ix3 ch d l) = aK m c (ix4 (bat t) w d l) := by
  have hc := ch.isLt
  have hw' := w.isLt
  unfold KT
  rw [keys_canon]
  split
  · rw [win1]
    exact congrArg (fun z => aK m c (ix4 (bat t) z d l)) (Fin.ext (by show (t.val % 32 - 1) * 4 + (ch.val + 2) = w.val; omega))
  · split
    · rw [win2]
      exact congrArg (fun z => aK m c (ix4 (bat t) z d l)) (Fin.ext (by show t.val % 32 * 4 + (ch.val - 2) = w.val; omega))
    · rw [win3]
      exact congrArg (fun z => aK m c (ix4 (bat t) z d l)) (Fin.ext (by show min (t.val % 32 + 1) 31 * 4 + (ch.val - 6) = w.val; omega))

/-- A value that a grid point holds, at its place in the array. -/
theorem VC_point (c : Dev nD) (t : Fin cfg0.N) (j : Fin 1024) (n : Fin 512) (w : Fin 16384) (hw : w.val + 256 = t.val % 32 * 512 + j.val) :
    VC m c t (ix2 j n) = aP m c (ix3 (bat t) w ⟨2048 + n.val, by omega⟩) := by
  have hj := j.isLt
  have hw' := w.isLt
  unfold VC
  rw [vals_canon]
  split
  · rw [win4]
    exact congrArg (fun z => aP m c (ix3 (bat t) z ⟨2048 + n.val, by omega⟩)) (Fin.ext (by show (t.val % 32 - 1) * 512 + (j.val + 256) = w.val; omega))
  · split
    · rw [win5]
      exact congrArg (fun z => aP m c (ix3 (bat t) z ⟨2048 + n.val, by omega⟩)) (Fin.ext (by show t.val % 32 * 512 + (j.val - 256) = w.val; omega))
    · rw [win6]
      exact congrArg (fun z => aP m c (ix3 (bat t) z ⟨2048 + n.val, by omega⟩)) (Fin.ext (by show min (t.val % 32 + 1) 31 * 512 + (j.val - 768) = w.val; omega))

/-- The block of biases of an array is the array. -/
theorem blk9 (t : Fin cfg0.N) (W : FVec Ideal S5x4x256x640 .f32) (y : S5x4x256x640.Idx) :
    View.read (Elt Ideal) ((cfg0.win 9).blk t).view W y = W y := by
  refine congrArg W ?_
  blk_ext [place t]

/-- The block of biases is the whole table. -/
theorem win9 (c : Dev nD) (t : Fin cfg0.N) : iblk m c 9 t = Bias.BIAS (aR m c) := by
  refine Eq.trans ?_ (Bias.host m c)
  exact funext fun y => blk9 t (V m c main_v44) y

/-- The attention of every token, as one array. -/
def OUT (A0 : FVec Ideal S2x16384x512 .bf16) (A1 : FVec Ideal S2x128x512x128 .bf16) (A2 : FVec Ideal S2x16384x8192 .bf16)
    (A3 : FVec Ideal S2x256x8192 .bf16) (A4 : FVec Ideal S8x15x31 .f32) : FVec Ideal S2x16384x512 .bf16 := fun y =>
  Cert.NattenReferenceIdeal.Read.soft
    (Cert.NattenReferenceIdeal.Read.wsc A0 A1 A4 (y 0) ⟨(y 2).val / 64, by have : (y 2).val < 512 := (y 2).isLt; omega⟩ (y 1))
    (Cert.NattenReferenceIdeal.Read.csc A0 A3 (y 0) ⟨(y 2).val / 64, by have : (y 2).val < 512 := (y 2).isLt; omega⟩ (y 1))
    (fun n => A2 (ix3 (y 0) (Cert.NattenReferenceIdeal.Read.wtok (y 1) n) ⟨2048 + (y 2).val, by have : (y 2).val < 512 := (y 2).isLt; omega⟩))
    (fun n => A3 (ix3 (y 0) n ⟨2048 + (y 2).val, by have : (y 2).val < 512 := (y 2).isLt; omega⟩))

/-- What a grid point leaves at one place of its block is the attention of the token there. -/
theorem stored_at (c : Dev nD) (t : Fin cfg0.N) (j : Fin 512) (x : Fin 512)
    (f0 : S2x16384x512.Idx → ℝ) (f1 : S2x128x512x128.Idx → ℝ) (f3 : Fin 2 → Fin 256 → Fin 512 → ℝ) (f4 : S8x15x31.Idx → ℝ)
    (h0 : ∀ y, (aQ m c y : EReal) = (f0 y : EReal)) (h1 : ∀ y, (aK m c y : EReal) = (f1 y : EReal))
    (h3 : ∀ b n (x : Fin 512), (aC m c (ix3 b n ⟨1536 + x.val, by omega⟩) : EReal) = (f3 b n x : EReal)) (h4 : ∀ y, (aR m c y : EReal) = (f4 y : EReal)) :
    outsAt0 m c t (ix3 0 j x) = OUT (aQ m c) (aK m c) (aP m c) (aC m c) (aR m c) (ix3 (bat t) ⟨t.val % 32 * 512 + j.val, by omega⟩ x) := by
  obtain ⟨a, r, rfl⟩ : ∃ (a : Fin 4) (r : Fin 128), j = ⟨128 * a.val + r.val, by omega⟩ :=
    ⟨⟨j.val / 128, by omega⟩, ⟨j.val % 128, by omega⟩, Fin.ext (by show j.val = 128 * (j.val / 128) + j.val % 128; omega)⟩
  obtain ⟨h, d, rfl⟩ : ∃ (h : Fin 4) (d : Fin 128), x = ⟨128 * h.val + d.val, by omega⟩ :=
    ⟨⟨x.val / 128, by omega⟩, ⟨x.val % 128, by omega⟩, Fin.ext (by show x.val = 128 * (x.val / 128) + x.val % 128; omega)⟩
  rw [outs, blockOut_at, win9]
  exact Cert.NattenCell.cell_soft ⟨t.val % 32, by omega⟩ a r h d (bat t) (aR m c) (aQ m c) (aK m c) (aP m c) (aC m c)
    (iblk m c 0 t) (iblk m c 7 t) (iblk m c 8 t) (KT m c t) (VC m c t) f0 f1 f3 f4 (fun j x => win0 m c t j x)
    (fun ch x l w hw => KT_point m c t ch x l w hw) (fun j x w hw => VC_point m c t j x w hw) (fun n x => win7 m c t n x) (fun n x => win8 m c t n x)
    h0 h1 h3 h4

/-- After the whole grid the result array is the attention of every token. -/
theorem final (c : Dev nD)
    (f0 : S2x16384x512.Idx → ℝ) (f1 : S2x128x512x128.Idx → ℝ) (f3 : Fin 2 → Fin 256 → Fin 512 → ℝ) (f4 : S8x15x31.Idx → ℝ)
    (h0 : ∀ y, (aQ m c y : EReal) = (f0 y : EReal)) (h1 : ∀ y, (aK m c y : EReal) = (f1 y : EReal))
    (h3 : ∀ b n (x : Fin 512), (aC m c (ix3 b n ⟨1536 + x.val, by omega⟩) : EReal) = (f3 b n x : EReal)) (h4 : ∀ y, (aR m c y : EReal) = (f4 y : EReal)) :
    (dats m 0 c).arrAt 10 (cfgs 0).N = OUT (aQ m c) (aK m c) (aP m c) (aC m c) (aR m c) := by
  refine (dats m 0 c).arrAt_eq_of_covers 10 _ (by decide +kernel) fun t _ y => ?_
  blk_simp
  rw [after0_10]
  obtain ⟨i, n, rfl⟩ : ∃ (i : Fin 512) (n : Fin 512), y = ix3 0 i n :=
    ⟨y 1, y 2, by
      have h : (y 0).val < 1 := (y 0).isLt
      funext a
      fin_cases a
      · exact Fin.ext (by show (y 0).val = 0; omega)
      · rfl
      · rfl⟩
  rw [stored_at m c t i n f0 f1 f3 f4 h0 h1 h3 h4]
  congr 1
  blk_ext [place t]

end Cert.NattenIdeal.Trip
-- ==== Proof.NattenClaim.lean ====
/- Hand-written: the neighbourhood attention and its reference have equal results over the extended reals. -/
module

public import proofs.«01_k».proof.Defs
public import proofs.«01_k».proof.Proof.Gen.NattenReferenceIdeal.Run
public import proofs.«01_k».proof.Proof.Gen.Pre_finite_scores
public import proofs.«01_k».proof.Proof.NattenRef
public import proofs.«01_k».proof.Proof.NattenOut
public import Idealize.ShloMosaic.Lib.ReduceAll

@[expose] public section

set_option maxRecDepth 16384

noncomputable section

open Idealize.ShloMosaic Idealize.ShloMosaic.TcCoe Idealize.SL.Sem
open Cert.NattenIdeal.Trip (aQ aK aP aC aR OUT)
open Cert.NattenIdeal (S2x16384x512 S2x128x512x128 S2x16384x8192 S2x256x8192 S8x15x31)

namespace Cert.NattenProof

/-- Two conjoined bits that are set. -/
theorem and2 (p q : BitVec 1) (h : IntOp.andi p q = 1#1) : p = 1#1 ∧ q = 1#1 := by
  revert h
  revert p q
  decide

/-- Two conjoined comparisons that hold. -/
theorem and2' (p q : Prop) [Decidable p] [Decidable q]
    (h : IntOp.andi (BitVec.ofBool (decide p)) (BitVec.ofBool (decide q)) = 1#1) : p ∧ q := by
  revert h
  by_cases hp : p <;> by_cases hq : q <;> simp [hp, hq, IntOp.andi]

/-- A number between two others is real. -/
theorem real_of_between (x a b : EReal) (h : a < x ∧ x < b) : x = ((x.toReal : ℝ) : EReal) :=
  (EReal.coe_toReal (ne_top_of_lt h.2) (ne_bot_of_gt h.1)).symm

/-- The precondition, entry by entry. -/
theorem entries (m : (ℓ : Loc Cert.NattenIdeal.nD Cert.NattenIdeal.τ Cert.NattenIdeal.sig) → Buf (Elt Ideal) ℓ)
    (h : Cert.Pre_NattenIdeal_finite_scores m) (c : Dev Cert.NattenIdeal.nD) :
    (∀ y : S2x16384x512.Idx, (aQ m c y : EReal) = (((aQ m c y : EReal).toReal : ℝ) : EReal))
      ∧ (∀ y : S2x128x512x128.Idx, (aK m c y : EReal) = (((aK m c y : EReal).toReal : ℝ) : EReal))
      ∧ (∀ (b : Fin 2) (n : Fin 256) (x : Fin 512), (aC m c (ix3 b n ⟨1536 + x.val, by omega⟩) : EReal) = (((aC m c (ix3 b n ⟨1536 + x.val, by omega⟩) : EReal).toReal : ℝ) : EReal))
      ∧ (∀ y : S8x15x31.Idx, (aR m c y : EReal) = (((aR m c y : EReal).toReal : ℝ) : EReal)) := by
  have e := congrFun (h c) ix0
  simp only [Cert.Pre_finite_scores.fn, Cert.Pre_finite_scores.fn_part1] at e
  obtain ⟨e, e4⟩ := and2 _ _ e
  obtain ⟨e, e3⟩ := and2 _ _ e
  obtain ⟨e0, e1⟩ := and2 _ _ e
  refine ⟨fun y => ?_, fun y => ?_, fun b n x => ?_, fun y => ?_⟩
  · have r := Host.reduce_andi_all _ _ _ _ _ e0 y
    revert r
    pointwise
    intro r
    exact real_of_between _ _ _ (and2' _ _ r)
  · have r := Host.reduce_andi_all _ _ _ _ _ e1 y
    revert r
    pointwise
    intro r
    exact real_of_between _ _ _ (and2' _ _ r)
  · have r := Host.reduce_andi_all _ _ _ _ _ e3 (ix3 b n x)
    revert r
    pointwise
    intro r
    exact real_of_between _ _ _ (and2' _ _ r)
  · have r := Host.reduce_andi_all _ _ _ _ _ e4 y
    revert r
    pointwise
    intro r
    exact real_of_between _ _ _ (and2' _ _ r)

set_option maxHeartbeats 4000000 in
/-- The reference's result, from the kernel's arguments, is the kernel's. -/
theorem reference (m : (ℓ : Loc Cert.NattenReferenceIdeal.nD Cert.NattenReferenceIdeal.τ Cert.NattenReferenceIdeal.sig) → Buf (Elt Ideal) ℓ)
    (c : Dev Cert.NattenReferenceIdeal.nD) (A0 : FVec Ideal S2x16384x512 .bf16) (A1 : FVec Ideal S2x128x512x128 .bf16)
    (A2 : FVec Ideal S2x16384x8192 .bf16) (A3 : FVec Ideal S2x256x8192 .bf16) (A4 : FVec Ideal S8x15x31 .f32)
    (h : m ((c.tc : Thread Cert.NattenReferenceIdeal.nD Cert.NattenReferenceIdeal.τ).loc Cert.NattenReferenceIdeal.main_arg0) = A0
      ∧ m ((c.tc : Thread Cert.NattenReferenceIdeal.nD Cert.NattenReferenceIdeal.τ).loc Cert.NattenReferenceIdeal.main_arg1) = A1
      ∧ m ((c.tc : Thread Cert.NattenReferenceIdeal.nD Cert.NattenReferenceIdeal.τ).loc Cert.NattenReferenceIdeal.main_arg2) = A2
      ∧ m ((c.tc : Thread Cert.NattenReferenceIdeal.nD Cert.NattenReferenceIdeal.τ).loc Cert.NattenReferenceIdeal.main_arg3) = A3
      ∧ m ((c.tc : Thread Cert.NattenReferenceIdeal.nD Cert.NattenReferenceIdeal.τ).loc Cert.NattenReferenceIdeal.main_arg4) = A4) :
    Cert.NattenReferenceIdeal.Value.res_main_v93 (F := Ideal) m c = OUT A0 A1 A2 A3 A4 := by
  funext i
  have e : i = ix3 (i 0) (i 1) (i 2) := by
    funext k
    fin_cases k <;> rfl
  rw [e]
  exact Cert.NattenReferenceIdeal.Read.res_point m c A0 A1 A2 A3 A4 h.1 h.2.1 h.2.2.1 h.2.2.2.1 h.2.2.2.2 (i 0) (i 1) (i 2)

set_option maxHeartbeats 4000000 in
/-- Wherever the inputs that make the scores are finite, the kernel and the reference have equal results. -/
theorem value : Cert.algebraic_NattenIdeal_NattenReferenceIdeal_pre_finite_scores := by
  intro m g m' g' hpre hagree
  refine ⟨fun c => OUT (aQ m c) (aK m c) (aP m c) (aC m c) (aR m c), ?_, ?_⟩
  · refine θ_run_mono (θ_run_and (Cert.NattenIdeal.Gen.run_main (F := Ideal) m g) (Cert.NattenIdeal.Gen.unchanged (F := Ideal) m g)) ?_
    intro r hr c
    obtain ⟨p0, p1, p3, p4⟩ := entries m hpre c
    exact ⟨((hr.1 c).1 10).trans (Cert.NattenIdeal.Trip.final m c _ _
      (fun b n x => (aC m c (ix3 b n ⟨1536 + x.val, by omega⟩) : EReal).toReal) _ p0 p1 p3 p4), hr.2 c⟩
  · refine θ_run_mono (Cert.NattenReferenceIdeal.Value.run (F := Ideal) m' g') ?_
    intro r hr c
    exact ⟨(hr c).1.trans (reference m' c _ _ _ _ _ (hagree c)), (hr c).2⟩

end Cert.NattenProof
-- ==== Proof.RopeTurn.lean ====
/- Hand-written: the rotary embedding of one entry, and the tables of cosines and sines the host prepares for it. -/
module

public import proofs.«01_k».proof.Proof.Gen.RopeIdeal.Frame
public import Idealize.ShloMosaic.Lib.Pipeline.ValueKit
public import Idealize.ShloMosaic.Lib.Pipeline.ValueKit.Held
public import Idealize.ShloMosaic.Lib.Pipeline.ReadBack
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeIdeal.Turn

open Cert.RopeIdeal Cert.RopeIdeal.Gen

/-- The grid row of every token, as the host computes it. -/
def ROWS : FVec Ideal S16384 .f32 :=
  sitofp .f32 (select
    (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32)))))

/-- The number of grid columns, as the host guards it against zero. -/
def WIDTH : IVec S_ 32 :=
  select (cmpi .eq (id (constantI S_ 32 64#32)) (constantI S_ 32 0#32)) (constantI S_ 32 1#32) (id (constantI S_ 32 64#32))

/-- The grid column of every token, as the host computes it. -/
def COLS : FVec Ideal S16384 .f32 :=
  sitofp .f32 (select
    (andi
      (cmpi .ne
        (cmpi .slt (Host.remsi (iotaInDim S16384 32 0) (broadcastInDim S16384 ![] bcast_S_S16384 WIDTH))
          (broadcastInDim S16384 ![] bcast_S_S16384 (constantI S_ 32 0#32)))
        (broadcastInDim S16384 ![] bcast_S_S16384 (cmpi .slt WIDTH (constantI S_ 32 0#32))))
      (cmpi .ne (Host.remsi (iotaInDim S16384 32 0) (broadcastInDim S16384 ![] bcast_S_S16384 WIDTH))
        (broadcastInDim S16384 ![] bcast_S_S16384 (constantI S_ 32 0#32))))
    (addi (Host.remsi (iotaInDim S16384 32 0) (broadcastInDim S16384 ![] bcast_S_S16384 WIDTH))
      (broadcastInDim S16384 ![] bcast_S_S16384 WIDTH))
    (Host.remsi (iotaInDim S16384 32 0) (broadcastInDim S16384 ![] bcast_S_S16384 WIDTH)))

/-- The sixteen frequencies. -/
def FREQ : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Which frequency each lane turns by. -/
def LANE : IVec S128x1 32 :=
  broadcastInDim S128x1 ![0] bcast_S128_S128x1_0
    (select (constantI S128 1 0#1)
      (addi (fun i => lit2 (S128.rowMajor i)) (broadcastInDim S128 ![] bcast_S_S128 (constantI S_ 32 16#32)))
      fun i => lit2 (S128.rowMajor i))

/-- The angle of every token at every lane. -/
def ANGLES : FVec Ideal S16384x128 .f32 :=
  mulf
    (select (broadcastInDim S16384x128 ![0, 1] bcast_S1x128_S16384x128_0_1
        (broadcastInDim S1x128 ![1] bcast_S128_S1x128_1 fun i => lit0 (S128.rowMajor i)))
      (broadcastInDim S16384x128 ![0, 1] bcast_S16384x1_S16384x128_0_1 (broadcastInDim S16384x1 ![0] bcast_S16384_S16384x1_0 ROWS))
      (broadcastInDim S16384x128 ![0, 1] bcast_S16384x1_S16384x128_0_1 (broadcastInDim S16384x1 ![0] bcast_S16384_S16384x1_0 COLS)))
    (broadcastInDim S16384x128 ![0, 1] bcast_S1x128_S16384x128_0_1
      (broadcastInDim S1x128 ![1] bcast_S128_S1x128_1 (Host.gather gather_S16_S128x1_S128_n_0_n_n_0_1_1 FREQ LANE)))

/-- The sign of the sine at every lane. -/
def SIGN : FVec Ideal S16384x128 .f32 :=
  broadcastInDim S16384x128 ![0, 1] bcast_S1x128_S16384x128_0_1
    (broadcastInDim S1x128 ![1] bcast_S128_S1x128_1 fun i => FloatOps.ofBits .f32 (lit1 (S128.rowMajor i)))

variable (m : (ℓ : Loc nD τ sig) → Buf (Elt Ideal) ℓ)

/-- The host leaves the cosines of the angles. -/
theorem host_cos (c : Dev nD) : (V (F := Ideal) m c main_v23 : FVec Ideal S16384x128 .f32) = Host.cos ANGLES := by
  unfold V
  simp only [List.flatten_cons, List.flatten_nil, List.append_nil, hostOps0, hostOps0_1, hostOps0_2, hostOps0_3, hostOps0_4, hostOps0_5, hostOps0_6, List.cons_append, List.nil_append]
  after_results
  rfl

/-- The host leaves the sines of the angles, with their signs. -/
theorem host_sin (c : Dev nD) : (V (F := Ideal) m c main_v27 : FVec Ideal S16384x128 .f32) = mulf (Host.sin ANGLES) SIGN := by
  unfold V
  simp only [List.flatten_cons, List.flatten_nil, List.append_nil, hostOps0, hostOps0_1, hostOps0_2, hostOps0_3, hostOps0_4, hostOps0_5, hostOps0_6, List.cons_append, List.nil_append]
  after_results
  rfl

/-- The frequency of number `k`. -/
def freq (k : ℕ) : EReal :=
  Ideal.pow (Ideal.ofBits .f32 0x461C4000#32) (Ideal.div (-(FloatOps.sitofp .f32 (BitVec.ofNat 32 k) : Ideal .f32)) (Ideal.ofBits .f32 0x41800000#32))

/-- The angle of token `t` at column `x`: the grid row in the first half of a head, the grid column in the second, times the
    frequency of the column. -/
def angle (t : Fin 16384) (x : ℕ) : EReal :=
  (if x % 64 < 32 then ROWS (ix1 t) else COLS (ix1 t)) * freq (x % 16)

/-- The literal of the halves, the signs and the frequencies, lane by lane. -/
theorem lits : ∀ l : Fin 128, lit0 l = (if l.val % 64 < 32 then 1#1 else 0#1)
    ∧ lit1 l = (if l.val % 32 < 16 then 0xBF800000#32 else 0x3F800000#32)
    ∧ lit2 l = BitVec.ofNat 32 (l.val % 16) := by
  decide +kernel

/-- The place of a lane in a literal of 128 entries. -/
theorem lane_place (l : Fin 128) : S128.rowMajor (ix1 l) = l :=
  Fin.ext (Shape.rowMajor_val_one _)

/-- A frequency taken from the sixteen. -/
theorem take_freq (l : Fin 128) : Host.gather gather_S16_S128x1_S128_n_0_n_n_0_1_1 FREQ LANE (ix1 l) = freq (l.val % 16) := by
  have e : Host.gather gather_S16_S128x1_S128_n_0_n_n_0_1_1 FREQ LANE (ix1 l) = FREQ (ix1 ⟨l.val % 16, by omega⟩) := by
    refine congrArg FREQ ?_
    have hs : gather_S16_S128x1_S128_n_0_n_n_0_1_1.siIdx (ix1 l) ⟨0, by decide⟩ = ix2 l 0 := by
      funext a; fin_cases a <;> rfl
    have hl : LANE (ix2 l 0) = BitVec.ofNat 32 (l.val % 16) := by
      rw [← (lits l).2.2]
      exact congrArg lit2 (lane_place l)
    funext a
    fin_cases a
    refine Fin.ext ?_
    show min (LANE (gather_S16_S128x1_S128_n_0_n_n_0_1_1.siIdx (ix1 l) ⟨0, by decide⟩)).toInt.toNat 15 + 0 + 0 = _
    rw [hs, hl, BitVec.toInt_eq_toNat_of_lt (by rw [BitVec.toNat_ofNat]; omega), BitVec.toNat_ofNat]
    show min (l.val % 16 % 2 ^ 32 : ℕ) 15 + 0 + 0 = l.val % 16
    omega
  rw [e]
  pointwise [FREQ]
  rfl

/-- One angle of the host's table. -/
theorem angles_point (t : Fin 16384) (l : Fin 128) : ANGLES (ix2 t l) = angle t l.val := by
  have e : ANGLES (ix2 t l) = Scalar.select (lit0 (S128.rowMajor (ix1 l))) (ROWS (ix1 t)) (COLS (ix1 t))
      * Host.gather gather_S16_S128x1_S128_n_0_n_n_0_1_1 FREQ LANE (ix1 l) := by
    pointwise [ANGLES]
  rw [e, lane_place, take_freq, (lits l).1]
  unfold angle
  split_ifs <;> rfl

/-- The literal minus one. -/
theorem minus_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]
  norm_num

/-- One sign of the host's table. -/
theorem sign_point (t : Fin 16384) (l : Fin 128) : SIGN (ix2 t l) = if l.val % 32 < 16 then (-1 : EReal) else 1 := by
  have e : SIGN (ix2 t l) = Ideal.ofBits .f32 (lit1 (S128.rowMajor (ix1 l))) := by
    pointwise [SIGN]
  rw [e, lane_place, (lits l).2.1]
  split_ifs
  · exact minus_one
  · exact Ideal.ofBits_one_f32

/-- An angle depends on the column within two heads only. -/
theorem angle_mod (t : Fin 16384) (x : ℕ) : angle t (x % 128) = angle t x := by
  unfold angle
  have e1 : x % 128 % 64 = x % 64 := by omega
  have e2 : x % 128 % 16 = x % 16 := by omega
  rw [e1, e2]

/-- The kernel's mask marks the first sixteen of every thirty-two columns. -/
theorem mask_point : ∀ x : Fin 512, ∀ t : Fin 1024, k0_pay7 (ix2 t x) = if x.val % 32 < 16 then 1#1 else 0#1 := by
  intro x t
  have e : k0_pay7 (ix2 t x) = k0_pay7 (ix2 0 x) := by
    pointwise [k0_pay7]
  rw [e]
  pointwise [k0_pay7]
  clear e
  revert x
  decide +kernel

/-- One entry of the projection, at a column given as a number. -/
def at_ (A : FVec Ideal S2x16384x8192 .bf16) (b : Fin 2) (t : Fin 16384) (n : ℕ) : EReal :=
  if h : n < 8192 then A (ix3 b t ⟨n, h⟩) else 0

/-- An entry read at a column that exists. -/
theorem at_eq (A : FVec Ideal S2x16384x8192 .bf16) (b : Fin 2) (t : Fin 16384) (n : ℕ) (h : n < 8192) :
    A (ix3 b t ⟨n, h⟩) = at_ A b t n := by
  unfold at_
  rw [dif_pos h]

/-- Column `x` of token `t` turned: the columns of the projection from `o` on. -/
def turn (A : FVec Ideal S2x16384x8192 .bf16) (o : ℕ) (b : Fin 2) (t : Fin 16384) (x : ℕ) : EReal :=
  if x % 32 < 16 then at_ A b t (o + x) * Ideal.cos (angle t x) - at_ A b t (o + (x + 16)) * Ideal.sin (angle t x)
  else at_ A b t (o + x) * Ideal.cos (angle t x) + at_ A b t (o + (x - 16)) * Ideal.sin (angle t x)

end Cert.RopeIdeal.Turn
-- ==== Proof.RopeValue.lean ====
/- Hand-written: what the rotary embedding leaves in its two results, at the extended reals. -/
module

public import proofs.«01_k».proof.Proof.RopeTurn

@[expose] public section

set_option maxRecDepth 16384

noncomputable section

open Idealize.ShloMosaic Idealize.ShloMosaic.TcCoe Idealize.SL.Sem
open Idealize.ShloMosaic.Pipeline (Dat)

namespace Cert.RopeIdeal.Turn

open Cert.RopeIdeal Cert.RopeIdeal.Gen

/-- The scale of the queries: the head width to the power minus one half, over the logarithm of two. -/
abbrev scale : EReal := (((8 * (Real.log 2))⁻¹ : ℝ) : EReal)

/-- The queries: every column turned and scaled. -/
def OUTQ (A : FVec Ideal S2x16384x8192 .bf16) : FVec Ideal S2x16384x512 .bf16 := fun i =>
  turn A 1024 (i 0) (i 1) (i 2).val * scale

/-- The keys: every column turned, transposed in chunks of 128 tokens. -/
def OUTK (A : FVec Ideal S2x16384x8192 .bf16) : FVec Ideal S2x128x512x128 .bf16 := fun i =>
  turn A 1536 (i 0) ⟨(i 1).val * 128 + (i 3).val, by have h1 : (i 1).val < 128 := (i 1).isLt; have h3 : (i 3).val < 128 := (i 3).isLt; omega⟩ (i 2).val

/-- The block of every window at every grid point. -/
theorem place : ∀ t : Fin cfg0.N, win0_0.index t = ![t.val / 16, t.val % 16, 2]
    ∧ win0_1.index t = ![t.val / 16, t.val % 16, 3]
    ∧ win0_2.index t = ![t.val % 16, 0]
    ∧ win0_3.index t = ![t.val % 16, 0]
    ∧ win0_4.index t = ![t.val / 16, t.val % 16, 0]
    ∧ win0_5.index t = ![t.val / 16, t.val % 16, 0, 0] :=
  (by decide +kernel : ∀ t : Fin grid0.N, _)

/-- One turned entry of a block, before its scale. -/
theorem pay10 (cs sn : FVec Ideal S1024x128 .f32) (q : FVec Ideal S1x1024x512 .bf16) (t : Fin 1024) (x : Fin 512) (G : ℕ → EReal)
    (hG : ∀ (n : ℕ) (hn : n < 512), q (ix3 0 t ⟨n, hn⟩) = G n) :
    k0_pay10 (F := Ideal) (k0_pay5 cs) (k0_pay6 sn) k0_pay7 q (ix2 t x)
      = G x.val * cs (ix2 t ⟨x.val % 128, by omega⟩)
        + (if x.val % 32 < 16 then G (x.val + 16) else G (x.val - 16)) * sn (ix2 t ⟨x.val % 128, by omega⟩) := by
  have hx := x.isLt
  have e5 : k0_pay5 (F := Ideal) cs (ix2 t x) = cs (ix2 t ⟨x.val % 128, by omega⟩) := by
    pointwise [k0_pay5]
    split_ifs <;> exact congrArg (fun k => cs (ix2 t k)) (Fin.ext (by simp only []; omega))
  have e6 : k0_pay6 (F := Ideal) sn (ix2 t x) = sn (ix2 t ⟨x.val % 128, by omega⟩) := by
    pointwise [k0_pay6]
    split_ifs <;> exact congrArg (fun k => sn (ix2 t k)) (Fin.ext (by simp only []; omega))
  pointwise [k0_pay10]
  rw [e5, e6, mask_point, hG, hG, hG]
  by_cases h : x.val % 32 < 16
  · have s : (x.val + 512 - 496) % 512 = x.val + 16 := by omega
    simp only [if_pos h, s]
    rfl
  · have s : (x.val + 512 - 16) % 512 = x.val - 16 := by omega
    simp only [if_neg h, s]
    rfl

/-- The scaled block is the block times the scale. -/
theorem pay8 (cs sn : FVec Ideal S1024x128 .f32) (q : FVec Ideal S1x1024x512 .bf16) (i : S1024x512.Idx) :
    k0_pay8 (F := Ideal) cs sn q i = k0_pay10 (F := Ideal) (k0_pay5 cs) (k0_pay6 sn) k0_pay7 q i * scale := rfl

/-- The kernel's form of a turned column. -/
theorem turned (A : FVec Ideal S2x16384x8192 .bf16) (o : ℕ) (b : Fin 2) (t : Fin 16384) (x : ℕ) :
    at_ A b t (o + x) * Ideal.cos (angle t x)
      + (if x % 32 < 16 then at_ A b t (o + (x + 16)) else at_ A b t (o + (x - 16))) * (Ideal.sin (angle t x) * if x % 32 < 16 then (-1 : EReal) else 1)
      = turn A o b t x := by
  unfold turn
  by_cases h : x % 32 < 16
  · simp only [if_pos h]
    rw [mul_neg, mul_one, mul_neg, sub_eq_add_neg]
  · simp only [if_neg h]
    rw [mul_one]

variable (m : (ℓ : Loc nD τ sig) → Buf (Elt Ideal) ℓ)

/-- The batch of a grid point. -/
abbrev bat (t : Fin cfg0.N) : Fin 2 := ⟨t.val / 16, by have := t.isLt; have : cfg0.N = 32 := N_0; omega⟩

/-- The token of a row of a grid point's block. -/
abbrev tkn (t : Fin cfg0.N) (i : Fin 1024) : Fin 16384 := ⟨t.val % 16 * 1024 + i.val, by omega⟩

/-- The block of queries. -/
theorem blk0 (c : Dev nD) (t : Fin cfg0.N) (i : Fin 1024) (n : ℕ) (hn : n < 512) :
    (iblk m c 0 t : FVec Ideal S1x1024x512 .bf16) (ix3 0 i ⟨n, hn⟩)
      = at_ (m ((c.tc : Thread nD τ).loc main_arg0)) (bat t) (tkn t i) (1024 + n) := by
  rw [← at_eq _ _ _ _ (by omega)]
  blk_point [iblk, V, place t]

/-- The block of keys. -/
theorem blk1 (c : Dev nD) (t : Fin cfg0.N) (i : Fin 1024) (n : ℕ) (hn : n < 512) :
    (iblk m c 1 t : FVec Ideal S1x1024x512 .bf16) (ix3 0 i ⟨n, hn⟩)
      = at_ (m ((c.tc : Thread nD τ).loc main_arg0)) (bat t) (tkn t i) (1536 + n) := by
  rw [← at_eq _ _ _ _ (by omega)]
  blk_point [iblk, V, place t]

/-- The block of cosines. -/
theorem blk2 (c : Dev nD) (t : Fin cfg0.N) (i : Fin 1024) (l : Fin 128) :
    (iblk m c 2 t : FVec Ideal S1024x128 .f32) (ix2 i l) = Ideal.cos (angle (tkn t i) l.val) := by
  have e : Host.cos ANGLES (ix2 (tkn t i) l) = Ideal.cos (angle (tkn t i) l.val) := by
    rw [← angles_point]
    rfl
  rw [← e, ← host_cos m c]
  blk_point [iblk, place t]

/-- The block of signed sines. -/
theorem blk3 (c : Dev nD) (t : Fin cfg0.N) (i : Fin 1024) (l : Fin 128) :
    (iblk m c 3 t : FVec Ideal S1024x128 .f32) (ix2 i l)
      = Ideal.sin (angle (tkn t i) l.val) * if l.val % 32 < 16 then (-1 : EReal) else 1 := by
  have e : mulf (Host.sin ANGLES) SIGN (ix2 (tkn t i) l)
      = Ideal.sin (angle (tkn t i) l.val) * if l.val % 32 < 16 then (-1 : EReal) else 1 := by
    rw [← angles_point, ← sign_point (tkn t i) l]
    rfl
  rw [← e, ← host_sin m c]
  blk_point [iblk, place t]

/-- One turned entry of a grid point's block, from where its columns begin. -/
theorem block (c : Dev nD) (t : Fin cfg0.N) (q : FVec Ideal S1x1024x512 .bf16) (o : ℕ) (i : Fin 1024) (x : Fin 512)
    (hq : ∀ (n : ℕ) (hn : n < 512), q (ix3 0 i ⟨n, hn⟩) = at_ (m ((c.tc : Thread nD τ).loc main_arg0)) (bat t) (tkn t i) (o + n)) :
    k0_pay10 (F := Ideal) (k0_pay5 (iblk m c 2 t)) (k0_pay6 (iblk m c 3 t)) k0_pay7 q (ix2 i x)
      = turn (m ((c.tc : Thread nD τ).loc main_arg0)) o (bat t) (tkn t i) x.val := by
  rw [pay10 _ _ q i x _ hq, blk2, blk3, ← turned]
  have e : x.val % 128 % 32 = x.val % 32 := by omega
  simp only [angle_mod, e]

/-- What a grid point stores of the queries. -/
theorem stored_q (c : Dev nD) (t : Fin cfg0.N) (i : Fin 1024) (x : Fin 512) :
    out0_4 (F := Ideal) (iblk m c 0 t) (iblk m c 1 t) (iblk m c 2 t) (iblk m c 3 t) (ix3 0 i x)
      = OUTQ (m ((c.tc : Thread nD τ).loc main_arg0)) (ix3 (bat t) (tkn t i) x) := by
  have h := block m c t (iblk m c 0 t) 1024 i x (blk0 m c t i)
  have h8 := pay8 (iblk m c 2 t) (iblk m c 3 t) (iblk m c 0 t) (ix2 i x)
  rw [h] at h8
  unfold out0_4
  frame_out
  pointwise [k0_pay9]
  exact h8

/-- After the whole grid the first result is the queries. -/
theorem final_q (c : Dev nD) : (dats m 0 c).arrAt 4 (cfgs 0).N = OUTQ (m ((c.tc : Thread nD τ).loc main_arg0)) := by
  refine (dats m 0 c).arrAt_eq_of_covers 4 _ (by decide +kernel) fun t _ y => ?_
  blk_simp
  rw [after0_4]
  obtain ⟨i, n, rfl⟩ : ∃ (i : Fin 1024) (n : Fin 512), y = ix3 0 i n :=
    ⟨y 1, y 2, by
      have h : (y 0).val < 1 := (y 0).isLt
      funext a
      fin_cases a
      · exact Fin.ext (by show (y 0).val = 0; omega)
      · rfl
      · rfl⟩
  rw [stored_q]
  congr 1
  blk_ext [place t]

set_option maxHeartbeats 1600000 in
/-- A chunk of 128 tokens, transposed. -/
theorem chunk (x0 x1 : FVec Ideal S1x1024x512 .bf16) (x2 x3 : FVec Ideal S1024x128 .f32) (y : S1x8x512x128.Idx) :
    out0_5 (F := Ideal) x0 x1 x2 x3 y
      = k0_pay10 (F := Ideal) (k0_pay5 x2) (k0_pay6 x3) k0_pay7 x1
          (ix2 ⟨(y 1).val * 128 + (y 3).val, by have h1 : (y 1).val < 8 := (y 1).isLt; have h3 : (y 3).val < 128 := (y 3).isLt; omega⟩ (y 2)) := by
  have l1 := View.ld_unit_lit (Val := Elt Ideal) (e := .bf16) inb_S1x1024x512_S1x1024x512_0_0_0 x1 (by decide)
  have l2 := View.ld_unit_lit (Val := Elt Ideal) (e := .f32) inb_S1024x128_S1024x128_0_0 x2 (by decide)
  have l3 := View.ld_unit_lit (Val := Elt Ideal) (e := .f32) inb_S1024x128_S1024x128_0_0 x3 (by decide)
  unfold out0_5
  canon_tiles z h
  all_goals
    pointwise [k0_pay1, k0_pay2, k0_pay3, k0_pay4, k0_pay11, k0_pay12, k0_pay13, k0_pay14, k0_pay15, k0_pay16, k0_pay17, k0_pay18]
    rw [l1, l2, l3]
    refine congrArg _ (congrArg₂ ix2 (Fin.ext ?_) (Fin.ext h2.symm))
    first
      | omega
      | (dsimp only; omega)

/-- What a grid point stores of the keys. -/
theorem stored_k (c : Dev nD) (t : Fin cfg0.N) (y : S1x8x512x128.Idx) :
    out0_5 (F := Ideal) (iblk m c 0 t) (iblk m c 1 t) (iblk m c 2 t) (iblk m c 3 t) y
      = OUTK (m ((c.tc : Thread nD τ).loc main_arg0))
          (ix4 (bat t) ⟨t.val % 16 * 8 + (y 1).val, by have h1 : (y 1).val < 8 := (y 1).isLt; omega⟩ (y 2) (y 3)) := by
  refine (chunk (iblk m c 0 t) (iblk m c 1 t) (iblk m c 2 t) (iblk m c 3 t) y).trans ?_
  refine (block m c t (iblk m c 1 t) 1536 _ _ (blk1 m c t _)).trans ?_
  refine congrArg (fun n => turn _ 1536 (bat t) n (y 2).val) (Fin.ext ?_)
  show t.val % 16 * 1024 + ((y 1).val * 128 + (y 3).val) = (t.val % 16 * 8 + (y 1).val) * 128 + (y 3).val
  omega

/-- After the whole grid the second result is the keys. -/
theorem final_k (c : Dev nD) : (dats m 0 c).arrAt 5 (cfgs 0).N = OUTK (m ((c.tc : Thread nD τ).loc main_arg0)) := by
  refine (dats m 0 c).arrAt_eq_of_covers 5 _ (by decide +kernel) fun t _ y => ?_
  blk_simp
  rw [after0_5]
  refine (stored_k m c t y).trans ?_
  congr 1
  blk_ext [place t]

end Cert.RopeIdeal.Turn
-- ==== Proof.RopeRef.lean ====
/- Hand-written: the reference's rotary embedding, entry by entry. -/
module

public import proofs.«01_k».proof.Proof.RopeTurn
public import proofs.«01_k».proof.Proof.Gen.RopeReferenceIdeal.Run

@[expose] public section

set_option maxRecDepth 16384

noncomputable section

open Idealize.ShloMosaic Idealize.ShloMosaic.TcCoe Idealize.SL.Sem
open Idealize.ShloMosaic.Pipeline (Dat)

namespace Cert.RopeReferenceIdeal.Turn

open Cert.RopeReferenceIdeal Cert.RopeReferenceIdeal.Gen Cert.RopeReferenceIdeal.Facts
open Cert.RopeIdeal.Turn (ROWS COLS FREQ freq angle turn at_ at_eq)

/-- The reference's angles: every token's place times every frequency. -/
def ANG (pos : FVec Ideal S16384 .f32) : FVec Ideal S16384x16 .f32 :=
  mulf (broadcastInDim S16384x16 ![0, 1] bcast_S16384x1_S16384x16_0_1 (broadcastInDim S16384x1 ![0] bcast_S16384_S16384x1_0 pos))
    (broadcastInDim S16384x16 ![0, 1] bcast_S1x16_S16384x16_0_1 (broadcastInDim S1x16 ![1] bcast_S16_S1x16_1 FREQ))

/-- A table over tokens and frequencies, for every batch and head. -/
def spread (a : FVec Ideal S16384x16 .f32) : FVec Ideal S2x16384x8x16 .f32 :=
  broadcastInDim S2x16384x8x16 ![0, 1, 2, 3] bcast_S1x16384x1x16_S2x16384x8x16_0_1_2_3
    (broadcastInDim S1x16384x1x16 ![1, 3] bcast_S16384x16_S1x16384x1x16_1_3 a)

/-- Half of the heads' dimensions turned by the places. -/
def rot (xa : FVec Ideal S2x16384x8x32 .f32) (pos : FVec Ideal S16384 .f32) : FVec Ideal S2x16384x8x32 .f32 :=
  concatenate S2x16384x8x32 3
    [⟨S2x16384x8x16, subf
        (mulf (extractStridedSlice S2x16384x8x16 ![0, 0, 0, 0] xa slices_S2x16384x8x32_S2x16384x8x16_0_0_0_0) (spread (Host.cos (ANG pos))))
        (mulf (extractStridedSlice S2x16384x8x16 ![0, 0, 0, 16] xa slices_S2x16384x8x32_S2x16384x8x16_0_0_0_16) (spread (Host.sin (ANG pos))))⟩,
      ⟨S2x16384x8x16, addf
        (mulf (extractStridedSlice S2x16384x8x16 ![0, 0, 0, 16] xa slices_S2x16384x8x32_S2x16384x8x16_0_0_0_16) (spread (Host.cos (ANG pos))))
        (mulf (extractStridedSlice S2x16384x8x16 ![0, 0, 0, 0] xa slices_S2x16384x8x32_S2x16384x8x16_0_0_0_0) (spread (Host.sin (ANG pos))))⟩]
    concatenates_S2x16384x8x16_S2x16384x8x16_S2x16384x8x32_d3

/-- The heads turned: the first half by the grid rows, the second by the grid columns. -/
def heads (x : FVec Ideal S2x16384x8x64 .f32) : FVec Ideal S2x16384x8x64 .f32 :=
  concatenate S2x16384x8x64 3
    [⟨S2x16384x8x32, rot (extractStridedSlice S2x16384x8x32 ![0, 0, 0, 0] x slices_S2x16384x8x64_S2x16384x8x32_0_0_0_0) ROWS⟩,
      ⟨S2x16384x8x32, rot (extractStridedSlice S2x16384x8x32 ![0, 0, 0, 32] x slices_S2x16384x8x64_S2x16384x8x32_0_0_0_32) COLS⟩]
    concatenates_S2x16384x8x32_S2x16384x8x32_S2x16384x8x64_d3

/-- One frequency. -/
theorem freq_point (k : Fin 16) : FREQ (ix1 k) = freq k.val := by
  pointwise [FREQ]
  rfl

/-- One entry of a table spread. -/
theorem spread_point (a : FVec Ideal S16384x16 .f32) (b : Fin 2) (t : Fin 16384) (h : Fin 8) (k : Fin 16) :
    spread a (ix4 b t h k) = a (ix2 t k) := by
  pointwise [spread]

/-- One angle of the reference. -/
theorem ang_point (pos : FVec Ideal S16384 .f32) (t : Fin 16384) (k : Fin 16) : ANG pos (ix2 t k) = pos (ix1 t) * freq k.val := by
  rw [← freq_point]
  pointwise [ANG]

/-- One turned entry of half a head. -/
theorem rot_point (xa : FVec Ideal S2x16384x8x32 .f32) (pos : FVec Ideal S16384 .f32) (b : Fin 2) (t : Fin 16384) (h : Fin 8)
    (d : Fin 32) (G : ℕ → EReal) (hG : ∀ (n : ℕ) (hn : n < 32), xa (ix4 b t h ⟨n, hn⟩) = G n) :
    rot xa pos (ix4 b t h d)
      = if d.val < 16 then G d.val * Ideal.cos (pos (ix1 t) * freq d.val) - G (d.val + 16) * Ideal.sin (pos (ix1 t) * freq d.val)
        else G d.val * Ideal.cos (pos (ix1 t) * freq (d.val - 16)) + G (d.val - 16) * Ideal.sin (pos (ix1 t) * freq (d.val - 16)) := by
  unfold rot
  pointwise
  by_cases hd : d.val < 16
  · rw [dif_pos hd, if_pos hd]
    simp only [spread_point, hG]
    pointwise
    simp only [ang_point, Nat.add_comm 16, Nat.zero_add]
  · have e : 16 + (d.val - 16) = d.val := by omega
    rw [dif_neg hd, if_neg hd]
    simp only [spread_point, hG]
    pointwise
    simp only [ang_point, e, Nat.zero_add]

/-- One turned entry of a head. -/
theorem heads_point (x : FVec Ideal S2x16384x8x64 .f32) (A : FVec Ideal S2x16384x8192 .bf16) (o : ℕ) (b : Fin 2) (t : Fin 16384) (h : Fin 8)
    (d : Fin 64) (hx : ∀ (n : ℕ) (hn : n < 64), x (ix4 b t h ⟨n, hn⟩) = at_ A b t (o + (h.val * 64 + n))) :
    heads x (ix4 b t h d) = turn A o b t (h.val * 64 + d.val) := by
  have e0 : ∀ (n : ℕ) (hn : n < 32), extractStridedSlice S2x16384x8x32 ![0, 0, 0, 0] x slices_S2x16384x8x64_S2x16384x8x32_0_0_0_0
      (ix4 b t h ⟨n, hn⟩) = at_ A b t (o + (h.val * 64 + n)) := by
    intro n hn
    rw [← hx n (by omega)]
    pointwise
  have e1 : ∀ (n : ℕ) (hn : n < 32), extractStridedSlice S2x16384x8x32 ![0, 0, 0, 32] x slices_S2x16384x8x64_S2x16384x8x32_0_0_0_32
      (ix4 b t h ⟨n, hn⟩) = at_ A b t (o + (h.val * 64 + (32 + n))) := by
    intro n hn
    rw [← hx (32 + n) (by omega)]
    pointwise
  have key : heads x (ix4 b t h d) = if hd : d.val < 32
      then rot (extractStridedSlice S2x16384x8x32 ![0, 0, 0, 0] x slices_S2x16384x8x64_S2x16384x8x32_0_0_0_0) ROWS (ix4 b t h ⟨d.val, hd⟩)
      else rot (extractStridedSlice S2x16384x8x32 ![0, 0, 0, 32] x slices_S2x16384x8x64_S2x16384x8x32_0_0_0_32) COLS
        (ix4 b t h ⟨d.val - 32, by omega⟩) := by
    unfold heads
    generalize rot _ ROWS = R0
    generalize rot _ COLS = R1
    pointwise
  rw [key]
  have hlt := d.isLt
  have q16 : (h.val * 64 + d.val) % 16 = d.val % 16 := by omega
  have q32 : (h.val * 64 + d.val) % 32 = d.val % 32 := by omega
  have q64 : (h.val * 64 + d.val) % 64 = d.val := by omega
  unfold turn angle
  rw [q16, q32, q64]
  by_cases hd : d.val < 32
  · rw [dif_pos hd, rot_point _ ROWS b t h _ _ e0]
    simp only [if_pos hd]
    by_cases h1 : d.val < 16
    · have s1 : d.val % 32 < 16 := by omega
      have s2 : d.val % 16 = d.val := by omega
      have s3 : h.val * 64 + (d.val + 16) = h.val * 64 + d.val + 16 := by omega
      simp only [if_pos h1, if_pos s1, s2, s3]
    · have s1 : ¬ d.val % 32 < 16 := by omega
      have s2 : d.val % 16 = d.val - 16 := by omega
      have s3 : h.val * 64 + (d.val - 16) = h.val * 64 + d.val - 16 := by omega
      simp only [if_neg h1, if_neg s1, s2, s3]
  · rw [dif_neg hd, rot_point _ COLS b t h _ _ e1]
    simp only [if_neg hd]
    have s4 : 32 + (d.val - 32) = d.val := by omega
    by_cases h1 : d.val - 32 < 16
    · have s1 : d.val % 32 < 16 := by omega
      have s2 : d.val % 16 = d.val - 32 := by omega
      have s3 : h.val * 64 + (32 + (d.val - 32 + 16)) = h.val * 64 + d.val + 16 := by omega
      simp only [if_pos h1, if_pos s1, s2, s3, s4]
    · have s1 : ¬ d.val % 32 < 16 := by omega
      have s2 : d.val % 16 = d.val - 32 - 16 := by omega
      have s3 : h.val * 64 + (32 + (d.val - 32 - 16)) = h.val * 64 + d.val - 16 := by omega
      simp only [if_neg h1, if_neg s1, s2, s3, s4]

/-- The queries' columns of the projection, head by head. -/
def QS (A : FVec Ideal S2x16384x8192 .bf16) : FVec Ideal S2x16384x8x64 .f32 :=
  shapeCast _ (extf .f32 (extractStridedSlice S2x16384x512 ![0, 0, 1024] A slices_S2x16384x8192_S2x16384x512_0_0_1024) bitsLt_bf16_f32)
    shapeCasts_S2x16384x512_S2x16384x8x64

/-- The keys' columns of the projection, head by head. -/
def KS (A : FVec Ideal S2x16384x8192 .bf16) : FVec Ideal S2x16384x8x64 .f32 :=
  shapeCast _ (extf .f32 (extractStridedSlice S2x16384x512 ![0, 0, 1536] A slices_S2x16384x8192_S2x16384x512_0_0_1536) bitsLt_bf16_f32)
    shapeCasts_S2x16384x512_S2x16384x8x64

/-- The reference's queries as one term. -/
theorem q_term (m : (ℓ : Loc nD τ sig) → Buf (Elt Ideal) ℓ) (c : Dev nD) :
    (Value.res_main_v118 m c : FVec Ideal S2x16384x512 .bf16)
      = truncf .bf16 (Host.divf (mulf (shapeCast _ (heads (QS (m ((c.tc : Thread nD τ).loc main_arg0)))) shapeCasts_S2x16384x8x64_S2x16384x512)
          (broadcastInDim S2x16384x512 ![] bcast_S_S2x16384x512 (constant S_ .f32 0x3E000000#32)))
          (broadcastInDim S2x16384x512 ![] bcast_S_S2x16384x512 (Host.log (constant S_ .f32 0x40000000#32)))) bitsLt_bf16_f32 := rfl

/-- The reference's keys as one term. -/
theorem k_term (m : (ℓ : Loc nD τ sig) → Buf (Elt Ideal) ℓ) (c : Dev nD) :
    (Value.res_main_v121 m c : FVec Ideal S2x128x512x128 .bf16)
      = truncf .bf16 (transpose S2x128x512x128 [0, 1, 3, 2]
          (shapeCast _ (shapeCast _ (heads (KS (m ((c.tc : Thread nD τ).loc main_arg0)))) shapeCasts_S2x16384x8x64_S2x16384x512)
            shapeCasts_S2x16384x512_S2x128x128x512) transposes_S2x128x128x512_S2x128x512x128_0_1_3_2) bitsLt_bf16_f32 := rfl

/-- One turned entry of the queries' heads. -/
theorem qs_point (A : FVec Ideal S2x16384x8192 .bf16) (b : Fin 2) (t : Fin 16384) (h : Fin 8) (d : Fin 64) :
    heads (QS A) (ix4 b t h d) = turn A 1024 b t (h.val * 64 + d.val) := by
  refine heads_point _ A 1024 b t h d fun n hn => ?_
  rw [← at_eq A b t _ (by have := h.isLt; omega)]
  pointwise [QS]

/-- One turned entry of the keys' heads. -/
theorem ks_point (A : FVec Ideal S2x16384x8192 .bf16) (b : Fin 2) (t : Fin 16384) (h : Fin 8) (d : Fin 64) :
    heads (KS A) (ix4 b t h d) = turn A 1536 b t (h.val * 64 + d.val) := by
  refine heads_point _ A 1536 b t h d fun n hn => ?_
  rw [← at_eq A b t _ (by have := h.isLt; omega)]
  pointwise [KS]

/-- One entry of the queries, from the turned heads. -/
theorem q_read (H : FVec Ideal S2x16384x8x64 .f32) (b : Fin 2) (t : Fin 16384) (x : Fin 512) :
    truncf (F := Ideal) .bf16 (Host.divf (mulf (shapeCast _ H shapeCasts_S2x16384x8x64_S2x16384x512)
        (broadcastInDim S2x16384x512 ![] bcast_S_S2x16384x512 (constant S_ .f32 0x3E000000#32)))
        (broadcastInDim S2x16384x512 ![] bcast_S_S2x16384x512 (Host.log (constant S_ .f32 0x40000000#32)))) bitsLt_bf16_f32 (ix3 b t x)
      = Ideal.div (H (ix4 b t ⟨x.val / 64, by omega⟩ ⟨x.val % 64, by omega⟩) * Ideal.ofBits .f32 0x3E000000#32)
          (Ideal.log (Ideal.ofBits .f32 0x40000000#32)) := by
  pointwise

/-- One entry of the keys, from the turned heads. -/
theorem k_read (H : FVec Ideal S2x16384x8x64 .f32) (b : Fin 2) (n : Fin 128) (x : Fin 512) (j : Fin 128) :
    truncf (F := Ideal) .bf16 (transpose S2x128x512x128 [0, 1, 3, 2]
        (shapeCast _ (shapeCast _ H shapeCasts_S2x16384x8x64_S2x16384x512)
          shapeCasts_S2x16384x512_S2x128x128x512) transposes_S2x128x128x512_S2x128x512x128_0_1_3_2) bitsLt_bf16_f32 (ix4 b n x j)
      = H (ix4 b ⟨n.val * 128 + j.val, by omega⟩ ⟨x.val / 64, by omega⟩ ⟨x.val % 64, by omega⟩) := by
  pointwise

/-- One entry of the reference's queries. -/
theorem queries (m : (ℓ : Loc nD τ sig) → Buf (Elt Ideal) ℓ) (c : Dev nD) (b : Fin 2) (t : Fin 16384) (x : Fin 512) :
    (Value.res_main_v118 m c : FVec Ideal S2x16384x512 .bf16) (ix3 b t x)
      = Ideal.div (turn (m ((c.tc : Thread nD τ).loc main_arg0)) 1024 b t x.val * Ideal.ofBits .f32 0x3E000000#32)
          (Ideal.log (Ideal.ofBits .f32 0x40000000#32)) := by
  refine (congrFun (q_term m c) _).trans ((q_read _ b t x).trans ?_)
  refine congrArg (fun y => Ideal.div (y * _) _) ((qs_point _ b t _ _).trans ?_)
  exact congrArg (turn _ 1024 b t) (show x.val / 64 * 64 + x.val % 64 = x.val by omega)

/-- One entry of the reference's keys. -/
theorem keys (m : (ℓ : Loc nD τ sig) → Buf (Elt Ideal) ℓ) (c : Dev nD) (b : Fin 2) (n : Fin 128) (x : Fin 512) (j : Fin 128) :
    (Value.res_main_v121 m c : FVec Ideal S2x128x512x128 .bf16) (ix4 b n x j)
      = turn (m ((c.tc : Thread nD τ).loc main_arg0)) 1536 b ⟨n.val * 128 + j.val, by omega⟩ x.val := by
  refine (congrFun (k_term m c) _).trans ((k_read _ b n x j).trans ?_)
  refine (ks_point _ b _ _ _).trans ?_
  exact congrArg (turn _ 1536 b _) (show x.val / 64 * 64 + x.val % 64 = x.val by omega)

end Cert.RopeReferenceIdeal.Turn
-- ==== Proof.RopeClaim.lean ====
/- Hand-written: the rotary embedding and its reference have equal results over the extended reals. -/
module

public import proofs.«01_k».proof.Defs
public import proofs.«01_k».proof.Proof.RealLemmas
public import proofs.«01_k».proof.Proof.RopeValue
public import proofs.«01_k».proof.Proof.RopeRef

@[expose] public section

set_option maxRecDepth 16384

noncomputable section

open Idealize.ShloMosaic Idealize.ShloMosaic.TcCoe Idealize.SL.Sem

namespace Cert.RopeProof

open Cert.RopeIdeal (S2x16384x8192 S2x16384x512 S2x128x512x128)
open Cert.RopeIdeal.Turn (OUTQ OUTK scale turn)

/-- The literal one eighth. -/
theorem eighth : Ideal.ofBits .f32 0x3E000000#32 = ((1 / 8 : ℝ) : EReal) := by
  simp [Ideal.ofBits, Ideal.ieee, -EReal.coe_mul]; norm_num

/-- The reference's scale of a query is the kernel's. -/
theorem scaled (y : EReal) :
    Ideal.div (y * Ideal.ofBits .f32 0x3E000000#32) (Ideal.log (Ideal.ofBits .f32 0x40000000#32)) = y * scale := by
  have h : Real.log 2 ≠ 0 := (Real.log_pos (by norm_num)).ne'
  rw [eighth, Cert.RealLemmas.two_eq, Ideal.log_coe, if_neg (by norm_num)]
  unfold Ideal.div
  rw [if_neg (by exact_mod_cast h), ← EReal.coe_inv, mul_assoc, ← EReal.coe_mul]
  refine congrArg (fun z : ℝ => y * (z : EReal)) ?_
  field_simp

/-- The reference's queries, from the kernel's argument, are the kernel's. -/
theorem reference_q (m : (ℓ : Loc Cert.RopeReferenceIdeal.nD Cert.RopeReferenceIdeal.τ Cert.RopeReferenceIdeal.sig) → Buf (Elt Ideal) ℓ)
    (c : Dev Cert.RopeReferenceIdeal.nD) (A : FVec Ideal S2x16384x8192 .bf16)
    (h : m ((c.tc : Thread Cert.RopeReferenceIdeal.nD Cert.RopeReferenceIdeal.τ).loc Cert.RopeReferenceIdeal.main_arg0) = A) :
    Cert.RopeReferenceIdeal.Value.res_main_v118 (F := Ideal) m c = OUTQ A := by
  subst h
  funext i
  have e : i = ix3 (i 0) (i 1) (i 2) := by
    funext k
    fin_cases k <;> rfl
  rw [e]
  exact (Cert.RopeReferenceIdeal.Turn.queries m c (i 0) (i 1) (i 2)).trans (scaled _)

/-- The reference's keys, from the kernel's argument, are the kernel's. -/
theorem reference_k (m : (ℓ : Loc Cert.RopeReferenceIdeal.nD Cert.RopeReferenceIdeal.τ Cert.RopeReferenceIdeal.sig) → Buf (Elt Ideal) ℓ)
    (c : Dev Cert.RopeReferenceIdeal.nD) (A : FVec Ideal S2x16384x8192 .bf16)
    (h : m ((c.tc : Thread Cert.RopeReferenceIdeal.nD Cert.RopeReferenceIdeal.τ).loc Cert.RopeReferenceIdeal.main_arg0) = A) :
    Cert.RopeReferenceIdeal.Value.res_main_v121 (F := Ideal) m c = OUTK A := by
  subst h
  funext i
  have e : i = ix4 (i 0) (i 1) (i 2) (i 3) := by
    funext k
    fin_cases k <;> rfl
  rw [e]
  exact Cert.RopeReferenceIdeal.Turn.keys m c (i 0) (i 1) (i 2) (i 3)

set_option maxHeartbeats 4000000 in
/-- The kernel and the reference have equal queries and equal keys. -/
theorem value : Cert.algebraic_RopeIdeal_RopeReferenceIdeal := by
  intro m g m' g' hpre hagree
  refine ⟨fun c => OUTQ (m ((c.tc : Thread Cert.RopeIdeal.nD Cert.RopeIdeal.τ).loc Cert.RopeIdeal.main_arg0)),
    fun c => OUTK (m ((c.tc : Thread Cert.RopeIdeal.nD Cert.RopeIdeal.τ).loc Cert.RopeIdeal.main_arg0)), ?_, ?_⟩
  · refine θ_run_mono (θ_run_and (Cert.RopeIdeal.Gen.run_main (F := Ideal) m g) (Cert.RopeIdeal.Gen.unchanged (F := Ideal) m g)) ?_
    intro r hr c
    exact ⟨((hr.1 c).1 4).trans (Cert.RopeIdeal.Turn.final_q m c), ((hr.1 c).1 5).trans (Cert.RopeIdeal.Turn.final_k m c), hr.2 c⟩
  · refine θ_run_mono (Cert.RopeReferenceIdeal.Value.run (F := Ideal) m' g') ?_
    intro r hr c
    exact ⟨(hr c).1.trans (reference_q m' c _ (hagree c)), (hr c).2.1.trans (reference_k m' c _ (hagree c)), (hr c).2.2⟩

end Cert.RopeProof
-- ==== Proof.lean ====
module

public import proofs.«01_k».proof.Defs
public import proofs.«01_k».proof.Proof.Gen.Inproj.Frame
public import proofs.«01_k».proof.Proof.Gen.InprojIdeal.Frame
public import proofs.«01_k».proof.Proof.Gen.InprojReferenceIdeal.Run
public import proofs.«01_k».proof.Proof.Gen.Merge.Frame
public import proofs.«01_k».proof.Proof.Gen.MergeIdeal.Frame
public import proofs.«01_k».proof.Proof.Gen.MergeReferenceIdeal.Run
public import proofs.«01_k».proof.Proof.Gen.Natten.Frame
public import proofs.«01_k».proof.Proof.Gen.NattenIdeal.Frame
public import proofs.«01_k».proof.Proof.Gen.NattenReferenceIdeal.Run
public import proofs.«01_k».proof.Proof.Gen.Rope.Frame
public import proofs.«01_k».proof.Proof.Gen.RopeIdeal.Frame
public import proofs.«01_k».proof.Proof.Gen.RopeReferenceIdeal.Run
public import proofs.«01_k».proof.Proof.Gen.Pre_finite_scores
public import proofs.«01_k».proof.Proof.Gen.Pre_gated_paths_above_minus_infinity
public import proofs.«01_k».proof.Proof.InprojClaim
public import proofs.«01_k».proof.Proof.MergeClaim
public import proofs.«01_k».proof.Proof.NattenClaim
public import proofs.«01_k».proof.Proof.RopeClaim
public import Idealize.ShloMosaic.Adequacy
public import Idealize.ShloMosaic.Init

@[expose] public section

noncomputable section

namespace Cert.Proof

open Idealize.ShloMosaic Idealize.SL.Sem

/-- The claims of this certificate, one after the other. -/
theorem claim : Cert.Claim := ⟨Cert.Inproj.Gen.facts, Cert.InprojIdeal.Gen.facts, Cert.InprojReferenceIdeal.Gen.facts,
  Cert.Merge.Gen.facts, Cert.MergeIdeal.Gen.facts, Cert.MergeReferenceIdeal.Gen.facts,
  Cert.Natten.Gen.facts, Cert.NattenIdeal.Gen.facts, Cert.NattenReferenceIdeal.Gen.facts,
  Cert.Rope.Gen.facts, Cert.RopeIdeal.Gen.facts, Cert.RopeReferenceIdeal.Gen.facts,
  Cert.Pre_gated_paths_above_minus_infinity.Gen.facts, Cert.Pre_finite_scores.Gen.facts,
  fun m ρ _ => Cert.Inproj.Gen.frame m ρ,
  fun m ρ _ => Cert.InprojIdeal.Gen.frame m ρ,
  fun m ρ _ => (θ_run Cert.InprojReferenceIdeal.defs _ _).mono (fun r h => ⟨fun c => (h c).2,
      sem_eq_zero_of_no_sems (by decide) r.2⟩) (Cert.InprojReferenceIdeal.Value.run (F := Ideal) m ρ),
  fun m ρ _ => Cert.Merge.Gen.frame m ρ,
  fun m ρ _ => Cert.MergeIdeal.Gen.frame m ρ,
  fun m ρ _ => Cert.MergeIdeal.Gen.frame m ρ,
  fun m ρ _ => (θ_run Cert.MergeReferenceIdeal.defs _ _).mono (fun r h => ⟨fun c => (h c).2,
      sem_eq_zero_of_no_sems (by decide) r.2⟩) (Cert.MergeReferenceIdeal.Value.run (F := Ideal) m ρ),
  fun m ρ _ => (θ_run Cert.MergeReferenceIdeal.defs _ _).mono (fun r h => ⟨fun c => (h c).2,
      sem_eq_zero_of_no_sems (by decide) r.2⟩) (Cert.MergeReferenceIdeal.Value.run (F := Ideal) m ρ),
  fun m ρ _ => Cert.Natten.Gen.frame m ρ,
  fun m ρ _ => Cert.NattenIdeal.Gen.frame m ρ,
  fun m ρ _ => Cert.NattenIdeal.Gen.frame m ρ,
  fun m ρ _ => (θ_run Cert.NattenReferenceIdeal.defs _ _).mono (fun r h => ⟨fun c => (h c).2,
      sem_eq_zero_of_no_sems (by decide) r.2⟩) (Cert.NattenReferenceIdeal.Value.run (F := Ideal) m ρ),
  fun m ρ _ => (θ_run Cert.NattenReferenceIdeal.defs _ _).mono (fun r h => ⟨fun c => (h c).2,
      sem_eq_zero_of_no_sems (by decide) r.2⟩) (Cert.NattenReferenceIdeal.Value.run (F := Ideal) m ρ),
  fun m ρ _ => Cert.Rope.Gen.frame m ρ,
  fun m ρ _ => Cert.RopeIdeal.Gen.frame m ρ,
  fun m ρ _ => (θ_run Cert.RopeReferenceIdeal.defs _ _).mono (fun r h => ⟨fun c => (h c).2.2,
      sem_eq_zero_of_no_sems (by decide) r.2⟩) (Cert.RopeReferenceIdeal.Value.run (F := Ideal) m ρ),
  trivial,
  Cert.InprojProof.value,
  trivial,
  Cert.MergeProof.value,
  IdealRules.named_const.statement Cert.NattenIdeal.κ "log2e" .f32 0x3FB8AA3B#32 _ rfl,
  Cert.NattenProof.value,
  IdealRules.named_const.statement Cert.RopeIdeal.κ "scale_log2e" .f32 0x3E38AA3B#32 _ rfl,
  Cert.RopeProof.value⟩

end Cert.Proof
